-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)) (v6 : (c : Dev Cert.Kernel4Ideal.nD) → Buf (Elt Ideal) ((c.tc : Thread Cert.Kernel4Ideal.nD Cert.Kernel4Ideal.τ).loc Cert.Kernel4Ideal.main_v16_6)) (v7 : (c : Dev Cert.Kernel4Ideal.nD) → Buf (Elt Ideal) ((c.tc : Thread Cert.Kernel4Ideal.nD Cert.Kernel4Ideal.τ).loc Cert.Kernel4Ideal.main_v16_7)) (v8 : (c : Dev Cert.Kernel4Ideal.nD) → Buf (Elt Ideal) ((c.tc : Thread Cert.Kernel4Ideal.nD Cert.Kernel4Ideal.τ).loc Cert.Kernel4Ideal.main_v16_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_v16_6) = v6 c
          ∧ r.2.mem ((c.tc : Thread Cert.Kernel4Ideal.nD Cert.Kernel4Ideal.τ).loc Cert.Kernel4Ideal.main_v16_7) = v7 c
          ∧ r.2.mem ((c.tc : Thread Cert.Kernel4Ideal.nD Cert.Kernel4Ideal.τ).loc Cert.Kernel4Ideal.main_v16_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v43) = v4 c
          ∧ r.2.mem ((c.tc : Thread Cert.Reference4Ideal.nD Cert.Reference4Ideal.τ).loc Cert.Reference4Ideal.main_v41) = v5 c
          ∧ r.2.mem ((c.tc : Thread Cert.Reference4Ideal.nD Cert.Reference4Ideal.τ).loc Cert.Reference4Ideal.main_v44) = v6 c
          ∧ r.2.mem ((c.tc : Thread Cert.Reference4Ideal.nD Cert.Reference4Ideal.τ).loc Cert.Reference4Ideal.main_v24) = v7 c
          ∧ r.2.mem ((c.tc : Thread Cert.Reference4Ideal.nD Cert.Reference4Ideal.τ).loc Cert.Reference4Ideal.main_v27) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_v18) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v16_0)) (v1 : (c : Dev Cert.Kernel10Ideal.nD) → Buf (Elt Ideal) ((c.tc : Thread Cert.Kernel10Ideal.nD Cert.Kernel10Ideal.τ).loc Cert.Kernel10Ideal.main_v16_1)) (v2 : (c : Dev Cert.Kernel10Ideal.nD) → Buf (Elt Ideal) ((c.tc : Thread Cert.Kernel10Ideal.nD Cert.Kernel10Ideal.τ).loc Cert.Kernel10Ideal.main_v16_2)) (v3 : (c : Dev Cert.Kernel10Ideal.nD) → Buf (Elt Ideal) ((c.tc : Thread Cert.Kernel10Ideal.nD Cert.Kernel10Ideal.τ).loc Cert.Kernel10Ideal.main_v16_3)) (v4 : (c : Dev Cert.Kernel10Ideal.nD) → Buf (Elt Ideal) ((c.tc : Thread Cert.Kernel10Ideal.nD Cert.Kernel10Ideal.τ).loc Cert.Kernel10Ideal.main_v16_4)) (v5 : (c : Dev Cert.Kernel10Ideal.nD) → Buf (Elt Ideal) ((c.tc : Thread Cert.Kernel10Ideal.nD Cert.Kernel10Ideal.τ).loc Cert.Kernel10Ideal.main_v16_5)) (v6 : (c : Dev Cert.Kernel10Ideal.nD) → Buf (Elt Ideal) ((c.tc : Thread Cert.Kernel10Ideal.nD Cert.Kernel10Ideal.τ).loc Cert.Kernel10Ideal.main_v16_6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16_0) = v0 c
          ∧ r.2.mem ((c.tc : Thread Cert.Kernel10Ideal.nD Cert.Kernel10Ideal.τ).loc Cert.Kernel10Ideal.main_v16_1) = v1 c
          ∧ r.2.mem ((c.tc : Thread Cert.Kernel10Ideal.nD Cert.Kernel10Ideal.τ).loc Cert.Kernel10Ideal.main_v16_2) = v2 c
          ∧ r.2.mem ((c.tc : Thread Cert.Kernel10Ideal.nD Cert.Kernel10Ideal.τ).loc Cert.Kernel10Ideal.main_v16_3) = v3 c
          ∧ r.2.mem ((c.tc : Thread Cert.Kernel10Ideal.nD Cert.Kernel10Ideal.τ).loc Cert.Kernel10Ideal.main_v16_4) = v4 c
          ∧ r.2.mem ((c.tc : Thread Cert.Kernel10Ideal.nD Cert.Kernel10Ideal.τ).loc Cert.Kernel10Ideal.main_v16_5) = v5 c
          ∧ r.2.mem ((c.tc : Thread Cert.Kernel10Ideal.nD Cert.Kernel10Ideal.τ).loc Cert.Kernel10Ideal.main_v16_6) = v6 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_v22) = v3 c
          ∧ r.2.mem ((c.tc : Thread Cert.Reference10Ideal.nD Cert.Reference10Ideal.τ).loc Cert.Reference10Ideal.main_v23) = v4 c
          ∧ r.2.mem ((c.tc : Thread Cert.Reference10Ideal.nD Cert.Reference10Ideal.τ).loc Cert.Reference10Ideal.main_v24) = v5 c
          ∧ r.2.mem ((c.tc : Thread Cert.Reference10Ideal.nD Cert.Reference10Ideal.τ).loc Cert.Reference10Ideal.main_v27) = v6 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4x4096x1024 : Shape := ⟨3, ![4, 4096, 1024]⟩
abbrev S64 : Shape := ⟨1, ![64]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x1024 .f32) (main_arg1 : FVec F S4x4096x1024 .f32) (main_arg2 : FVec F S4x4096x1024 .f32) (main_arg3 : FVec F S4x4096x1024 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S4x4096x1024 : Shape := ⟨3, ![4, 4096, 1024]⟩
abbrev S64 : Shape := ⟨1, ![64]⟩
abbrev S128 : Shape := ⟨1, ![128]⟩
abbrev S_ : Shape := ⟨0, ![]⟩
abbrev S1x64 : Shape := ⟨2, ![1, 64]⟩
abbrev S1x128 : Shape := ⟨2, ![1, 128]⟩
abbrev S1x512x128 : Shape := ⟨3, ![1, 512, 128]⟩
abbrev S1x4096x128 : Shape := ⟨3, ![1, 4096, 128]⟩
abbrev S1024x128 : Shape := ⟨2, ![1024, 128]⟩
abbrev S1024x512 : Shape := ⟨2, ![1024, 512]⟩
abbrev S1024x256 : Shape := ⟨2, ![1024, 256]⟩
abbrev S512x128 : Shape := ⟨2, ![512, 128]⟩
abbrev S512x256 : Shape := ⟨2, ![512, 256]⟩
abbrev S512x512 : Shape := ⟨2, ![512, 512]⟩
abbrev S64x512 : Shape := ⟨2, ![64, 512]⟩
abbrev S64x128 : Shape := ⟨2, ![64, 128]⟩
abbrev S64x1 : Shape := ⟨2, ![64, 1]⟩
abbrev S64x256 : Shape := ⟨2, ![64, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 24
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x4096x1024, .bf16⟩
  | .hbm, ⟨16, _⟩ => ⟨S4x4096x1024, .bf16⟩
  | .hbm, ⟨17, _⟩ => ⟨S4x4096x1024, .bf16⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x128, .f32⟩
  | .hbm, ⟨23, _⟩ => ⟨S4x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .f32⟩
  | .local _ .vmem, ⟨7, _⟩ => ⟨S1x512x128, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x512x128, .bf16⟩
  | .local _ .vmem, ⟨14, _⟩ => ⟨S1x512x128, .bf16⟩
  | .local _ .vmem, ⟨15, _⟩ => ⟨S1024x128, .bf16⟩
  | .local _ .vmem, ⟨16, _⟩ => ⟨S1024x512, .f32⟩
  | .local _ .vmem, ⟨17, _⟩ => ⟨S1024x512, .bf16⟩
  | .local _ .vmem, ⟨18, _⟩ => ⟨S1024x128, .f32⟩
  | .local _ .vmem, ⟨19, _⟩ => ⟨S1024x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let c1_i32_18 : BitVec 32 := 1#32
  ⟨c0_i32_17, v41, c1_i32_18⟩
def k0_mult1 (i : grid0.Coords) (k0_t1 : Fin (k0_t1_loop i).trips) : BitVec 32 :=
  let c0_i32_17 : BitVec 32 := 0#32
  let c1_i32_18 : BitVec 32 := 1#32
  let arg18 : BitVec 32 := Scf.iv c0_i32_17 c1_i32_18 k0_t1
  let c1_i32_258 : BitVec 32 := 1#32
  let v614 : BitVec 32 := Scalar.subi arg18 c1_i32_258
  let c0_i32_259 : BitVec 32 := 0#32
  let v615 : BitVec 32 := Scalar.maxsi v614 c0_i32_259
  let c512_i32_260 : BitVec 32 := 512#32
  let v616 : BitVec 32 := Scalar.muli v615 c512_i32_260
  v616
def k0_off1 (i : grid0.Coords) (k0_t1 : Fin (k0_t1_loop i).trips) : Fin 3 → Nat :=
  let c0_261 : Index := 0#32
  let c0_i32_17 : BitVec 32 := 0#32
  let c1_i32_18 : BitVec 32 := 1#32
  let arg18 : BitVec 32 := Scf.iv c0_i32_17 c1_i32_18 k0_t1
  let c1_i32_258 : BitVec 32 := 1#32
  let v614 : BitVec 32 := Scalar.subi arg18 c1_i32_258
  let c0_i32_259 : BitVec 32 := 0#32
  let v615 : BitVec 32 := Scalar.maxsi v614 c0_i32_259
  let c512_i32_260 : BitVec 32 := 512#32
  let v616 : BitVec 32 := Scalar.muli v615 c512_i32_260
  let v617 : BitVec 32 := v616
  let v618 : Index := Scalar.indexCast v617
  let c0_262 : Index := 0#32
  ![0, v618.toNat, 0]
def k0_mult2 (i : grid0.Coords) (k0_t1 : Fin (k0_t1_loop i).trips) : BitVec 32 :=
  let c0_i32_17 : BitVec 32 := 0#32
  let c1_i32_18 : BitVec 32 := 1#32
  let arg18 : BitVec 32 := Scf.iv c0_i32_17 c1_i32_18 k0_t1
  let c512_i32_266 : BitVec 32 := 512#32
  let v624 : BitVec 32 := Scalar.muli arg18 c512_i32_266
  v624
def k0_off2 (i : grid0.Coords) (k0_t1 : Fin (k0_t1_loop i).trips) : Fin 3 → Nat :=
  let c0_267 : Index := 0#32
  let c0_i32_17 : BitVec 32 := 0#32
  let c1_i32_18 : BitVec 32 := 1#32
  let arg18 : BitVec 32 := Scf.iv c0_i32_17 c1_i32_18 k0_t1
  let c512_i32_266 : BitVec 32 := 512#32
  let v624 : BitVec 32 := Scalar.muli arg18 c512_i32_266
  let v625 : BitVec 32 := v624
  let v626 : Index := Scalar.indexCast v625
  let c0_268 : Index := 0#32
  ![0, v626.toNat, 0]
@[reducible] def k0_t2_loop (i : grid0.Coords) : Scf.Loop 32 :=
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let v38 : BitVec 32 := Scalar.addi c0_i32_17 v37
  let c1_i32_19 : BitVec 32 := 1#32
  ⟨v41, v38, c1_i32_19⟩
def k0_mult3 (i : grid0.Coords) (k0_t2 : Fin (k0_t2_loop i).trips) : BitVec 32 :=
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let c1_i32_19 : BitVec 32 := 1#32
  let arg18 : BitVec 32 := Scf.iv v41 c1_i32_19 k0_t2
  let c1_i32_258 : BitVec 32 := 1#32
  let v614 : BitVec 32 := Scalar.subi arg18 c1_i32_258
  let c0_i32_259 : BitVec 32 := 0#32
  let v615 : BitVec 32 := Scalar.maxsi v614 c0_i32_259
  let c512_i32_260 : BitVec 32 := 512#32
  let v616 : BitVec 32 := Scalar.muli v615 c512_i32_260
  v616
def k0_off3 (i : grid0.Coords) (k0_t2 : Fin (k0_t2_loop i).trips) : Fin 3 → Nat :=
  let c0_261 : Index := 0#32
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let c1_i32_19 : BitVec 32 := 1#32
  let arg18 : BitVec 32 := Scf.iv v41 c1_i32_19 k0_t2
  let c1_i32_258 : BitVec 32 := 1#32
  let v614 : BitVec 32 := Scalar.subi arg18 c1_i32_258
  let c0_i32_259 : BitVec 32 := 0#32
  let v615 : BitVec 32 := Scalar.maxsi v614 c0_i32_259
  let c512_i32_260 : BitVec 32 := 512#32
  let v616 : BitVec 32 := Scalar.muli v615 c512_i32_260
  let v617 : BitVec 32 := v616
  let v618 : Index := Scalar.indexCast v617
  let c0_262 : Index := 0#32
  ![0, v618.toNat, 0]
def k0_mult4 (i : grid0.Coords) (k0_t2 : Fin (k0_t2_loop i).trips) : BitVec 32 :=
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let c1_i32_19 : BitVec 32 := 1#32
  let arg18 : BitVec 32 := Scf.iv v41 c1_i32_19 k0_t2
  let c512_i32_266 : BitVec 32 := 512#32
  let v624 : BitVec 32 := Scalar.muli arg18 c512_i32_266
  v624
def k0_off4 (i : grid0.Coords) (k0_t2 : Fin (k0_t2_loop i).trips) : Fin 3 → Nat :=
  let c0_267 : Index := 0#32
  let c0_i32_17 : BitVec 32 := 0#32
  let arg2 : BitVec 32 := BitVec.ofNat 32 (i 2).val
  let v37 : BitVec 32 := Scalar.subi arg2 c0_i32_17
  let c1_i32 : BitVec 32 := 1#32
  let v39 : BitVec 32 := Scalar.divsi v37 c1_i32
  let v40 : BitVec 32 := Scalar.muli v39 c1_i32
  let v41 : BitVec 32 := Scalar.addi c0_i32_17 v40
  let c1_i32_19 : BitVec 32 := 1#32
  let arg18 : BitVec 32 := Scf.iv v41 c1_i32_19 k0_t2
  let c512_i32_266 : BitVec 32 := 512#32
  let v624 : BitVec 32 := Scalar.muli arg18 c512_i32_266
  let v625 : BitVec 32 := v624
  let v626 : Index := Scalar.indexCast v625
  let c0_268 : Index := 0#32
  ![0, v626.toNat, 0]
def k0_mult5 (i : grid0.Coords) : BitVec 32 :=
  let arg2 : BitVec 32 := BitVec.ofNat 32 (i 2).val
  let c512_i32 : BitVec 32 := 512#32
  let v42 : BitVec 32 := Scalar.muli arg2 c512_i32
  v42
def k0_off5 (i : grid0.Coords) : Fin 3 → Nat :=
  let c0_20 : Index := 0#32
  let arg2 : BitVec 32 := BitVec.ofNat 32 (i 2).val
  let c512_i32 : BitVec 32 := 512#32
  let v42 : BitVec 32 := Scalar.muli arg2 c512_i32
  let v43 : BitVec 32 := v42
  let v44 : Index := Scalar.indexCast v43
  let c0_21 : Index := 0#32
  ![0, v44.toNat, 0]
def k0_mult6 (i : grid0.Coords) : BitVec 32 :=
  let arg2 : BitVec 32 := BitVec.ofNat 32 (i 2).val
  let c1_i32_30 : BitVec 32 := 1#32
  let v55 : BitVec 32 := Scalar.subi arg2 c1_i32_30
  let c0_i32_31 : BitVec 32 := 0#32
  let v56 : BitVec 32 := Scalar.maxsi v55 c0_i32_31
  let c512_i32_32 : BitVec 32 := 512#32
  let v57 : BitVec 32 := Scalar.muli v56 c512_i32_32
  v57
def k0_off6 (i : grid0.Coords) : Fin 3 → Nat :=
  let c0_33 : Index := 0#32
  let arg2 : BitVec 32 := BitVec.ofNat 32 (i 2).val
  let c1_i32_30 : BitVec 32 := 1#32
  let v55 : BitVec 32 := Scalar.subi arg2 c1_i32_30
  let c0_i32_31 : BitVec 32 := 0#32
  let v56 : BitVec 32 := Scalar.maxsi v55 c0_i32_31
  let c512_i32_32 : BitVec 32 := 512#32
  let v57 : BitVec 32 := Scalar.muli v56 c512_i32_32
  let v58 : BitVec 32 := v57
  let v59 : Index := Scalar.indexCast v58
  let c0_34 : Index := 0#32
  ![0, v59.toNat, 0]
def k0_mult7 (i : grid0.Coords) : BitVec 32 :=
  let arg2 : BitVec 32 := BitVec.ofNat 32 (i 2).val
  let c512_i32_226 : BitVec 32 := 512#32
  let v546 : BitVec 32 := Scalar.muli arg2 c512_i32_226
  v546
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x4096x1024 : Shape := ⟨3, ![4, 4096, 1024]⟩
abbrev S64 : Shape := ⟨1, ![64]⟩
abbrev S128 : Shape := ⟨1, ![128]⟩
abbrev S4x4096x8x2x64 : Shape := ⟨5, ![4, 4096, 8, 2, 64]⟩
abbrev S4x4096x8x128 : Shape := ⟨4, ![4, 4096, 8, 128]⟩
abbrev S_ : Shape := ⟨0, ![]⟩
abbrev S4096 : Shape := ⟨1, ![4096]⟩
abbrev S4x4096x8x1x64 : Shape := ⟨5, ![4, 4096, 8, 1, 64]⟩
abbrev S4x4096x8x64 : Shape := ⟨4, ![4, 4096, 8, 64]⟩
abbrev S4x8x4096x4096 : Shape := ⟨4, ![4, 8, 4096, 4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S4x4096x8x2x64, .f32⟩
  | .hbm, ⟨10, _⟩ => ⟨S4x4096x8x2x64, .f32⟩
  | .hbm, ⟨11, _⟩ => ⟨S4x4096x8x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .i32⟩
  | .hbm, ⟨24, _⟩ => ⟨S4x4096x8x1x64, .f32⟩
  | .hbm, ⟨25, _⟩ => ⟨S4x4096x8x64, .f32⟩
  | .hbm, ⟨26, _⟩ => ⟨S4x4096x8x1x64, .f32⟩
  | .hbm, ⟨27, _⟩ => ⟨S4x4096x8x64, .f32⟩
  | .hbm, ⟨28, _⟩ => ⟨S4x8x4096x4096, .f32⟩
  | .hbm, ⟨29, _⟩ => ⟨S_, .f32⟩
  | .hbm, ⟨30, _⟩ => ⟨S4x8x4096x4096, .f32⟩
  | .hbm, ⟨31, _⟩ => ⟨S4x8x4096x4096, .f32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S4x8x4096x4096, .i1⟩
  | .hbm, ⟨40, _⟩ => ⟨S4x8x4096x4096, .f32⟩
  | .hbm, ⟨41, _⟩ => ⟨S4x8x4096x4096, .f32⟩
  | .hbm, ⟨42, _⟩ => ⟨S_, .f32⟩
  | .hbm, ⟨43, _⟩ => ⟨S4x8x4096, .f32⟩
  | .hbm, ⟨44, _⟩ => ⟨S_, .f32⟩
  | .hbm, ⟨45, _⟩ => ⟨S4x8x4096, .f32⟩
  | .hbm, ⟨46, _⟩ => ⟨S4x8x4096, .f32⟩
  | .hbm, ⟨47, _⟩ => ⟨S4x8x4096x1, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S_, .f32⟩
  | .hbm, ⟨52, _⟩ => ⟨S4x8x4096, .f32⟩
  | .hbm, ⟨53, _⟩ => ⟨S4x8x4096x1, .f32⟩
  | .hbm, ⟨54, _⟩ => ⟨S4x8x4096x4096, .f32⟩
  | .hbm, ⟨55, _⟩ => ⟨S4x8x4096x4096, .f32⟩
  | .hbm, ⟨56, _⟩ => ⟨S4x4096x8x1x64, .f32⟩
  | .hbm, ⟨57, _⟩ => ⟨S4x4096x8x64, .f32⟩
  | .hbm, ⟨58, _⟩ => ⟨S4x4096x8x1x64, .f32⟩
  | .hbm, ⟨59, _⟩ => ⟨S4x4096x8x64, .f32⟩
  | .hbm, ⟨60, _⟩ => ⟨S4x8x4096x4096, .f32⟩
  | .hbm, ⟨61, _⟩ => ⟨S_, .f32⟩
  | .hbm, ⟨62, _⟩ => ⟨S4x8x4096x4096, .f32⟩
  | .hbm, ⟨63, _⟩ => ⟨S4x8x4096x4096, .f32⟩
  | .hbm, ⟨64, _⟩ => ⟨S1x4096, .i32⟩
  | .hbm, ⟨65, _⟩ => ⟨S4096x1, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S_, .f32⟩
  | .hbm, ⟨70, _⟩ => ⟨S_, .f32⟩
  | .hbm, ⟨71, _⟩ => ⟨S4x8x4096x4096, .i1⟩
  | .hbm, ⟨72, _⟩ => ⟨S4x8x4096x4096, .f32⟩
  | .hbm, ⟨73, _⟩ => ⟨S4x8x4096x4096, .f32⟩
  | .hbm, ⟨74, _⟩ => ⟨S_, .f32⟩
  | .hbm, ⟨75, _⟩ => ⟨S4x8x4096, .f32⟩
  | .hbm, ⟨76, _⟩ => ⟨S_, .f32⟩
  | .hbm, ⟨77, _⟩ => ⟨S4x8x4096, .f32⟩
  | .hbm, ⟨78, _⟩ => ⟨S4x8x4096, .f32⟩
  | .hbm, ⟨79, _⟩ => ⟨S4x8x4096x1, .f32⟩
  | .hbm, ⟨80, _⟩ => ⟨S4x8x4096x4096, .f32⟩
  | .hbm, ⟨81, _⟩ => ⟨S4x8x4096x4096, .f32⟩
  | .hbm, ⟨82, _⟩ => ⟨S4x8x4096x4096, .f32⟩
  | .hbm, ⟨83, _⟩ => ⟨S_, .f32⟩
  | .hbm, ⟨84, _⟩ => ⟨S4x8x4096, .f32⟩
  | .hbm, ⟨85, _⟩ => ⟨S4x8x4096x1, .f32⟩
  | .hbm, ⟨86, _⟩ => ⟨S4x8x4096x4096, .f32⟩
  | .hbm, ⟨87, _⟩ => ⟨S4x8x4096x4096, .f32⟩
  | .hbm, ⟨88, _⟩ => ⟨S4x8x4096x4096, .f32⟩
  | .hbm, ⟨89, _⟩ => ⟨S4x8x4096x4096, .f32⟩
  | .hbm, ⟨90, _⟩ => ⟨S4x8x4096x4096, .f32⟩
  | .hbm, ⟨91, _⟩ => ⟨S4x8x128x4096, .f32⟩
  | .hbm, ⟨92, _⟩ => ⟨S4x4096x8x128, .f32⟩
  | .hbm, ⟨93, _⟩ => ⟨S4x4096x8x128, .f32⟩
  | .hbm, ⟨94, _⟩ => ⟨S_, .f32⟩
  | .hbm, ⟨95, _⟩ => ⟨S4x4096x8, .f32⟩
  | .hbm, ⟨96, _⟩ => ⟨S4x4096x8x1, .f32⟩
  | .hbm, ⟨97, _⟩ => ⟨S_, .f32⟩
  | .hbm, ⟨98, _⟩ => ⟨S4x4096x8x1, .f32⟩
  | .hbm, ⟨99, _⟩ => ⟨S4x4096x8x1, .f32⟩
  | .hbm, ⟨100, _⟩ => ⟨S_, .f32⟩
  | .hbm, ⟨101, _⟩ => ⟨S4x4096x8x1, .f32⟩
  | .hbm, ⟨102, _⟩ => ⟨S4x4096x8x1, .f32⟩
  | .hbm, ⟨103, _⟩ => ⟨S4x4096x8x1, .f32⟩
  | .hbm, ⟨104, _⟩ => ⟨S4x4096x8x128, .f32⟩
  | .hbm, ⟨105, _⟩ => ⟨S4x4096x8x128, .f32⟩
  | .hbm, ⟨106, _⟩ => ⟨S1x1x1x128, .f32⟩
  | .hbm, ⟨107, _⟩ => ⟨S4x4096x8x128, .f32⟩
  | .hbm, ⟨108, _⟩ => ⟨S4x4096x8x128, .f32⟩
  | .hbm, ⟨109, _⟩ => ⟨S_, .f32⟩
  | .hbm, ⟨110, _⟩ => ⟨S4x4096x8x128, .f32⟩
  | .hbm, ⟨111, _⟩ => ⟨S4x4096x8x128, .f32⟩
  | .hbm, ⟨112, _⟩ => ⟨S4x4096x1024, .f32⟩
  | .hbm, ⟨113, _⟩ => ⟨S4x4096x1024, .f32⟩
  | .hbm, ⟨114, _⟩ => ⟨S4x4096x1024, .f32⟩
  | .hbm, ⟨115, _⟩ => ⟨S_, .f32⟩
  | .hbm, ⟨116, _⟩ => ⟨S4x4096x1024, .f32⟩
  | .hbm, ⟨117, _⟩ => ⟨S4x4096x1024, .f32⟩
  | .hbm, ⟨118, _⟩ => ⟨S_, .f32⟩
  | .hbm, ⟨119, _⟩ => ⟨S4x4096x1024, .f32⟩
  | .hbm, ⟨120, _⟩ => ⟨S4x4096x1024, .f32⟩
  | .hbm, ⟨121, _⟩ => ⟨S4x4096x1024, .f32⟩
  | .hbm, ⟨122, _⟩ => ⟨S4x4096x1024, .f32⟩
  | .hbm, ⟨123, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_call2_v5 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x4096 : Shape := ⟨2, ![1024, 4096]⟩
abbrev S2x16384x8x128 : Shape := ⟨4, ![2, 16384, 8, 128]⟩
abbrev S16384x1024 : Shape := ⟨2, ![16384, 1024]⟩
abbrev S1x1024 : Shape := ⟨2, ![1, 1024]⟩
abbrev S256x1024 : Shape := ⟨2, ![256, 1024]⟩
abbrev S1x256x8x128 : Shape := ⟨4, ![1, 256, 8, 128]⟩
abbrev S256 : Shape := ⟨1, ![256]⟩
abbrev S256x1 : Shape := ⟨2, ![256, 1]⟩
abbrev S1024x1024 : Shape := ⟨2, ![1024, 1024]⟩
abbrev S256x8x128 : Shape := ⟨3, ![256, 8, 128]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S2x16384x8x128, .f32⟩
  | .hbm, ⟨4, _⟩ => ⟨S2x16384x8x128, .f32⟩
  | .hbm, ⟨5, _⟩ => ⟨S16384x1024, .f32⟩
  | .hbm, ⟨6, _⟩ => ⟨S1024x4096, .bf16⟩
  | .hbm, ⟨7, _⟩ => ⟨S1x1024, .f32⟩
  | .hbm, ⟨8, _⟩ => ⟨S16384x1024, .bf16⟩
  | .hbm, ⟨9, _⟩ => ⟨S2x16384x8x128, .f32⟩
  | .hbm, ⟨10, _⟩ => ⟨S16384x1024, .bf16⟩
  | .hbm, ⟨11, _⟩ => ⟨S2x16384x8x128, .f32⟩
  | .hbm, ⟨12, _⟩ => ⟨S16384x1024, .bf16⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x1024, .bf16⟩
  | .local _ .vmem, ⟨5, _⟩ => ⟨S256x1024, .bf16⟩
  | .local _ .vmem, ⟨6, _⟩ => ⟨S1x256x8x128, .f32⟩
  | .local _ .vmem, ⟨7, _⟩ => ⟨S1x256x8x128, .f32⟩
  | .local _ .vmem, ⟨8, _⟩ => ⟨S256x1024, .bf16⟩
  | .local _ .vmem, ⟨9, _⟩ => ⟨S256x1024, .bf16⟩
  | .local _ .vmem, ⟨10, _⟩ => ⟨S1x256x8x128, .f32⟩
  | .local _ .vmem, ⟨11, _⟩ => ⟨S1x256x8x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S1024 : Shape := ⟨1, ![1024]⟩
abbrev S1024x4096 : Shape := ⟨2, ![1024, 4096]⟩
abbrev S2x16384x8x128 : Shape := ⟨4, ![2, 16384, 8, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x4096 : Shape := ⟨2, ![16384, 4096]⟩
abbrev S16384x1024 : Shape := ⟨2, ![16384, 1024]⟩
abbrev S1x16384x8x128 : Shape := ⟨4, ![1, 16384, 8, 128]⟩
abbrev S16384x8x128 : Shape := ⟨3, ![16384, 8, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S2x16384x8x128, .f32⟩
  | .hbm, ⟨4, _⟩ => ⟨S2x16384x8x128, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S16384x4096, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x16384x8x128, .f32⟩
  | .hbm, ⟨28, _⟩ => ⟨S16384x8x128, .f32⟩
  | .hbm, ⟨29, _⟩ => ⟨S16384x8x128, .f32⟩
  | .hbm, ⟨30, _⟩ => ⟨S1x16384x8x128, .f32⟩
  | .hbm, ⟨31, _⟩ => ⟨S1x16384x8x128, .f32⟩
  | .hbm, ⟨32, _⟩ => ⟨S2x16384x8x128, .f32⟩
  | .hbm, ⟨33, _⟩ => ⟨S1x16384x8x128, .f32⟩
  | .hbm, ⟨34, _⟩ => ⟨S16384x8x128, .f32⟩
  | .hbm, ⟨35, _⟩ => ⟨S16384x8x128, .f32⟩
  | .hbm, ⟨36, _⟩ => ⟨S1x16384x8x128, .f32⟩
  | .hbm, ⟨37, _⟩ => ⟨S1x16384x8x128, .f32⟩
  | .hbm, ⟨38, _⟩ => ⟨S2x16384x8x128, .f32⟩
  | .hbm, ⟨39, _⟩ => ⟨S16384x1024, .bf16⟩
  | .hbm, ⟨40, _⟩ => ⟨S16384x1024, .bf16⟩
  | .hbm, ⟨41, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x4624 : Shape := ⟨2, ![1024, 4624]⟩
abbrev S4624 : Shape := ⟨1, ![4624]⟩
abbrev S2x4x512x4096 : Shape := ⟨4, ![2, 4, 512, 4096]⟩
abbrev S1024x2560 : Shape := ⟨2, ![1024, 2560]⟩
abbrev S1024x2048 : Shape := ⟨2, ![1024, 2048]⟩
abbrev S1024x8 : Shape := ⟨2, ![1024, 8]⟩
abbrev S_ : Shape := ⟨0, ![]⟩
abbrev S1024x112 : Shape := ⟨2, ![1024, 112]⟩
abbrev S1024x4736 : Shape := ⟨2, ![1024, 4736]⟩
abbrev S2560 : Shape := ⟨1, ![2560]⟩
abbrev S2048 : Shape := ⟨1, ![2048]⟩
abbrev S8 : Shape := ⟨1, ![8]⟩
abbrev S112 : Shape := ⟨1, ![112]⟩
abbrev S4736 : Shape := ⟨1, ![4736]⟩
abbrev S16384x1024 : Shape := ⟨2, ![16384, 1024]⟩
abbrev S1x1024 : Shape := ⟨2, ![1, 1024]⟩
abbrev S1x4736 : Shape := ⟨2, ![1, 4736]⟩
abbrev S16384x1536 : Shape := ⟨2, ![16384, 1536]⟩
abbrev S16384x512 : Shape := ⟨2, ![16384, 512]⟩
abbrev S16384x128 : Shape := ⟨2, ![16384, 128]⟩
abbrev S256x1024 : Shape := ⟨2, ![256, 1024]⟩
abbrev S256x1536 : Shape := ⟨2, ![256, 1536]⟩
abbrev S256x512 : Shape := ⟨2, ![256, 512]⟩
abbrev S1x1x512x256 : Shape := ⟨4, ![1, 1, 512, 256]⟩
abbrev S256x128 : Shape := ⟨2, ![256, 128]⟩
abbrev S256 : Shape := ⟨1, ![256]⟩
abbrev S256x1 : Shape := ⟨2, ![256, 1]⟩
abbrev S1024x1536 : Shape := ⟨2, ![1024, 1536]⟩
abbrev S1x1536 : Shape := ⟨2, ![1, 1536]⟩
abbrev S1024x1024 : Shape := ⟨2, ![1024, 1024]⟩
abbrev S1024x512 : Shape := ⟨2, ![1024, 512]⟩
abbrev S1x512 : Shape := ⟨2, ![1, 512]⟩
abbrev S512x256 : Shape := ⟨2, ![512, 256]⟩
abbrev S1024x128 : Shape := ⟨2, ![1024, 128]⟩
abbrev S1x128 : Shape := ⟨2, ![1, 128]⟩

abbrev nBuf : Space → Nat
  | .hbm => 33
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4624, .f32⟩
  | .hbm, ⟨3, _⟩ => ⟨S4624, .f32⟩
  | .hbm, ⟨4, _⟩ => ⟨S2x4x512x4096, .f32⟩
  | .hbm, ⟨5, _⟩ => ⟨S2x4x512x4096, .f32⟩
  | .hbm, ⟨6, _⟩ => ⟨S1024x2560, .f32⟩
  | .hbm, ⟨7, _⟩ => ⟨S1024x2048, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x112, .f32⟩
  | .hbm, ⟨12, _⟩ => ⟨S1024x4736, .f32⟩
  | .hbm, ⟨13, _⟩ => ⟨S2560, .f32⟩
  | .hbm, ⟨14, _⟩ => ⟨S2048, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S112, .f32⟩
  | .hbm, ⟨19, _⟩ => ⟨S4736, .f32⟩
  | .hbm, ⟨20, _⟩ => ⟨S1024x4736, .bf16⟩
  | .hbm, ⟨21, _⟩ => ⟨S16384x1024, .f32⟩
  | .hbm, ⟨22, _⟩ => ⟨S1x1024, .f32⟩
  | .hbm, ⟨23, _⟩ => ⟨S1x4736, .f32⟩
  | .hbm, ⟨24, _⟩ => ⟨S16384x1536, .f32⟩
  | .hbm, ⟨25, _⟩ => ⟨S16384x1024, .f32⟩
  | .hbm, ⟨26, _⟩ => ⟨S16384x512, .bf16⟩
  | .hbm, ⟨27, _⟩ => ⟨S2x4x512x4096, .f32⟩
  | .hbm, ⟨28, _⟩ => ⟨S16384x512, .bf16⟩
  | .hbm, ⟨29, _⟩ => ⟨S2x4x512x4096, .f32⟩
  | .hbm, ⟨30, _⟩ => ⟨S16384x512, .bf16⟩
  | .hbm, ⟨31, _⟩ => ⟨S16384x512, .f32⟩
  | .hbm, ⟨32, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S1x4736, .f32⟩
  | .local _ .vmem, ⟨5, _⟩ => ⟨S256x1536, .f32⟩
  | .local _ .vmem, ⟨6, _⟩ => ⟨S256x1536, .f32⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S1x1x512x256, .f32⟩
  | .local _ .vmem, ⟨12, _⟩ => ⟨S1x1x512x256, .f32⟩
  | .local _ .vmem, ⟨13, _⟩ => ⟨S256x512, .bf16⟩
  | .local _ .vmem, ⟨14, _⟩ => ⟨S256x512, .bf16⟩
  | .local _ .vmem, ⟨15, _⟩ => ⟨S1x1x512x256, .f32⟩
  | .local _ .vmem, ⟨16, _⟩ => ⟨S1x1x512x256, .f32⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x128, .f32⟩
  | .local _ .vmem, ⟨22, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev main_v16_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4x4096x1024 : Shape := ⟨3, ![4, 4096, 1024]⟩
abbrev S1024 : Shape := ⟨1, ![1024]⟩
abbrev S1024x4624 : Shape := ⟨2, ![1024, 4624]⟩
abbrev S4624 : Shape := ⟨1, ![4624]⟩
abbrev S2x4x512x4096 : Shape := ⟨4, ![2, 4, 512, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4624 : Shape := ⟨3, ![4, 4096, 4624]⟩
abbrev S1x1x4624 : Shape := ⟨3, ![1, 1, 4624]⟩
abbrev S16384x4624 : Shape := ⟨2, ![16384, 4624]⟩
abbrev S16384x1536 : Shape := ⟨2, ![16384, 1536]⟩
abbrev S16384x1024 : Shape := ⟨2, ![16384, 1024]⟩
abbrev S16384x8 : Shape := ⟨2, ![16384, 8]⟩
abbrev S16384x512 : Shape := ⟨2, ![16384, 512]⟩
abbrev S16384x112 : Shape := ⟨2, ![16384, 112]⟩
abbrev S16384x128 : Shape := ⟨2, ![16384, 128]⟩
abbrev S1x4x512x4096 : Shape := ⟨4, ![1, 4, 512, 4096]⟩
abbrev S4x512x4096 : Shape := ⟨3, ![4, 512, 4096]⟩
abbrev S4x4096x512 : Shape := ⟨3, ![4, 4096, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4624, .f32⟩
  | .hbm, ⟨3, _⟩ => ⟨S4624, .f32⟩
  | .hbm, ⟨4, _⟩ => ⟨S2x4x512x4096, .f32⟩
  | .hbm, ⟨5, _⟩ => ⟨S2x4x512x4096, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x4624, .f32⟩
  | .hbm, ⟨23, _⟩ => ⟨S1x1x4624, .f32⟩
  | .hbm, ⟨24, _⟩ => ⟨S4x4096x4624, .f32⟩
  | .hbm, ⟨25, _⟩ => ⟨S4x4096x4624, .f32⟩
  | .hbm, ⟨26, _⟩ => ⟨S16384x4624, .f32⟩
  | .hbm, ⟨27, _⟩ => ⟨S16384x1536, .f32⟩
  | .hbm, ⟨28, _⟩ => ⟨S16384x1024, .f32⟩
  | .hbm, ⟨29, _⟩ => ⟨S16384x8, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x8, .f32⟩
  | .hbm, ⟨35, _⟩ => ⟨S_, .f32⟩
  | .hbm, ⟨36, _⟩ => ⟨S16384x112, .f32⟩
  | .hbm, ⟨37, _⟩ => ⟨S16384x128, .f32⟩
  | .hbm, ⟨38, _⟩ => ⟨S1x4x512x4096, .f32⟩
  | .hbm, ⟨39, _⟩ => ⟨S4x512x4096, .f32⟩
  | .hbm, ⟨40, _⟩ => ⟨S4x4096x512, .f32⟩
  | .hbm, ⟨41, _⟩ => ⟨S4x512x4096, .f32⟩
  | .hbm, ⟨42, _⟩ => ⟨S1x4x512x4096, .f32⟩
  | .hbm, ⟨43, _⟩ => ⟨S1x4x512x4096, .f32⟩
  | .hbm, ⟨44, _⟩ => ⟨S2x4x512x4096, .f32⟩
  | .hbm, ⟨45, _⟩ => ⟨S1x4x512x4096, .f32⟩
  | .hbm, ⟨46, _⟩ => ⟨S4x512x4096, .f32⟩
  | .hbm, ⟨47, _⟩ => ⟨S4x4096x512, .f32⟩
  | .hbm, ⟨48, _⟩ => ⟨S4x512x4096, .f32⟩
  | .hbm, ⟨49, _⟩ => ⟨S1x4x512x4096, .f32⟩
  | .hbm, ⟨50, _⟩ => ⟨S1x4x512x4096, .f32⟩
  | .hbm, ⟨51, _⟩ => ⟨S2x4x512x4096, .f32⟩
  | .hbm, ⟨52, _⟩ => ⟨S16384x512, .bf16⟩
  | .hbm, ⟨53, _⟩ => ⟨S16384x512, .bf16⟩
  | .hbm, ⟨54, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x512 : Shape := ⟨3, ![4, 4096, 512]⟩
abbrev S1024x1024 : Shape := ⟨2, ![1024, 1024]⟩
abbrev S16384x1024 : Shape := ⟨2, ![16384, 1024]⟩
abbrev S16384x512 : Shape := ⟨2, ![16384, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S1024x1024, .bf16⟩
  | .hbm, ⟨5, _⟩ => ⟨S16384x1024, .f32⟩
  | .hbm, ⟨6, _⟩ => ⟨S16384x512, .bf16⟩
  | .hbm, ⟨7, _⟩ => ⟨S16384x512, .bf16⟩
  | .hbm, ⟨8, _⟩ => ⟨S512x1024, .bf16⟩
  | .hbm, ⟨9, _⟩ => ⟨S512x1024, .bf16⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S4x4096x512, .f32⟩
  | .hbm, ⟨5, _⟩ => ⟨S4x4096x512, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024x1024 : Shape := ⟨2, ![1024, 1024]⟩
abbrev S16384x1024 : Shape := ⟨2, ![16384, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S16384x1024, .f32⟩
  | .hbm, ⟨4, _⟩ => ⟨S16384x1024, .bf16⟩
  | .hbm, ⟨5, _⟩ => ⟨S1024x1024, .bf16⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x4096x1024 : Shape := ⟨3, ![4, 4096, 1024]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4x4096x128 : Shape := ⟨3, ![4, 4096, 128]⟩
abbrev S4x32x8x128 : Shape := ⟨4, ![4, 32, 8, 128]⟩
abbrev S1x4096x128 : Shape := ⟨3, ![1, 4096, 128]⟩
abbrev S1x32x8x128 : Shape := ⟨4, ![1, 32, 8, 128]⟩
abbrev S128x128 : Shape := ⟨2, ![128, 128]⟩
abbrev S1x1 : Shape := ⟨2, ![1, 1]⟩
abbrev S1x128x128 : Shape := ⟨3, ![1, 128, 128]⟩
abbrev S128x1 : Shape := ⟨2, ![128, 1]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x32x8x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x32x8x128, .f32⟩
  | .local _ .vmem, ⟨5, _⟩ => ⟨S1x32x8x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v11 : BitVec 32 := Scalar.addi c0_i32 c32_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v13 : BitVec 32 := Scalar.muli arg4 c128_i32
  v13
def k0_off1 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let c128_i32 : BitVec 32 := 128#32
  let v13 : BitVec 32 := Scalar.muli arg4 c128_i32
  let v14 : BitVec 32 := v13
  let v15 : Index := Scalar.indexCast v14
  let c0_8 : Index := 0#32
  ![0, v15.toNat, 0]
def k0_off2 (k0_t1 : Fin k0_t1_loop.trips) : Fin 4 → Nat :=
  let c0_17 : Index := 0#32
  let c0_i32 : BitVec 32 := 0#32
  let c1_i32 : BitVec 32 := 1#32
  let arg4 : BitVec 32 := Scf.iv c0_i32 c1_i32 k0_t1
  let v43 : Index := Scalar.indexCast arg4
  let c0_18 : Index := 0#32
  let c0_19 : Index := 0#32
  ![0, v43.toNat, 0, 0]
def k0_off3 (k0_t1 : Fin k0_t1_loop.trips) : Fin 4 → Nat :=
  let c0_23 : Index := 0#32
  let c0_i32 : BitVec 32 := 0#32
  let c1_i32 : BitVec 32 := 1#32
  let arg4 : BitVec 32 := Scf.iv c0_i32 c1_i32 k0_t1
  let v59 : Index := Scalar.indexCast arg4
  let c1 : Index := 1#32
  let c0_24 : Index := 0#32
  ![0, v59.toNat, 1, 0]
def k0_off4 (k0_t1 : Fin k0_t1_loop.trips) : Fin 4 → Nat :=
  let c0_28 : Index := 0#32
  let c0_i32 : BitVec 32 := 0#32
  let c1_i32 : BitVec 32 := 1#32
  let arg4 : BitVec 32 := Scf.iv c0_i32 c1_i32 k0_t1
  let v75 : Index := Scalar.indexCast arg4
  let c2 : Index := 2#32
  let c0_29 : Index := 0#32
  ![0, v75.toNat, 2, 0]
def k0_off5 (k0_t1 : Fin k0_t1_loop.trips) : Fin 4 → Nat :=
  let c0_33 : Index := 0#32
  let c0_i32 : BitVec 32 := 0#32
  let c1_i32 : BitVec 32 := 1#32
  let arg4 : BitVec 32 := Scf.iv c0_i32 c1_i32 k0_t1
  let v91 : Index := Scalar.indexCast arg4
  let c3 : Index := 3#32
  let c0_34 : Index := 0#32
  ![0, v91.toNat, 3, 0]
def k0_off6 (k0_t1 : Fin k0_t1_loop.trips) : Fin 4 → Nat :=
  let c0_38 : Index := 0#32
  let c0_i32 : BitVec 32 := 0#32
  let c1_i32 : BitVec 32 := 1#32
  let arg4 : BitVec 32 := Scf.iv c0_i32 c1_i32 k0_t1
  let v107 : Index := Scalar.indexCast arg4
  let c4 : Index := 4#32
  let c0_39 : Index := 0#32
  ![0, v107.toNat, 4, 0]
def k0_off7 (k0_t1 : Fin k0_t1_loop.trips) : Fin 4 → Nat :=
  let c0_43 : Index := 0#32
  let c0_i32 : BitVec 32 := 0#32
  let c1_i32 : BitVec 32 := 1#32
  let arg4 : BitVec 32 := Scf.iv c0_i32 c1_i32 k0_t1
  let v123 : Index := Scalar.indexCast arg4
  let c5 : Index := 5#32
  let c0_44 : Index := 0#32
  ![0, v123.toNat, 5, 0]
def k0_off8 (k0_t1 : Fin k0_t1_loop.trips) : Fin 4 → Nat :=
  let c0_48 : Index := 0#32
  let c0_i32 : BitVec 32 := 0#32
  let c1_i32 : BitVec 32 := 1#32
  let arg4 : BitVec 32 := Scf.iv c0_i32 c1_i32 k0_t1
  let v139 : Index := Scalar.indexCast arg4
  let c6 : Index := 6#32
  let c0_49 : Index := 0#32
  ![0, v139.toNat, 6, 0]
def k0_off9 (k0_t1 : Fin k0_t1_loop.trips) : Fin 4 → Nat :=
  let c0_53 : Index := 0#32
  let c0_i32 : BitVec 32 := 0#32
  let c1_i32 : BitVec 32 := 1#32
  let arg4 : BitVec 32 := Scf.iv c0_i32 c1_i32 k0_t1
  let v155 : Index := Scalar.indexCast arg4
  let c7 : Index := 7#32
  let c0_54 : Index := 0#32
  ![0, v155.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x4096x128 : Shape := ⟨3, ![4, 4096, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S_, .f32⟩
  | .hbm, ⟨3, _⟩ => ⟨S4x4096x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x128, .i1⟩
  | .hbm, ⟨8, _⟩ => ⟨S4x4096x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩

abbrev nD : Nat := 1
abbrev τ : Topo := Topo.v7x

variable {F : FTy → Type} [FloatOps F]
-- ==== Kernel8.lean ====
abbrev S32x4x1024 : Shape := ⟨3, ![32, 4, 1024]⟩
abbrev S1024x1024 : Shape := ⟨2, ![1024, 1024]⟩
abbrev S1024 : Shape := ⟨1, ![1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S1024x1024, .f32⟩
  | .hbm, ⟨3, _⟩ => ⟨S1024, .f32⟩
  | .hbm, ⟨4, _⟩ => ⟨S128x1024, .f32⟩
  | .hbm, ⟨5, _⟩ => ⟨S128x1024, .f32⟩
  | .hbm, ⟨6, _⟩ => ⟨S1024x1024, .bf16⟩
  | .hbm, ⟨7, _⟩ => ⟨S1x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference8Ideal.lean ====
abbrev S32x4x1024 : Shape := ⟨3, ![32, 4, 1024]⟩
abbrev S1024x1024 : Shape := ⟨2, ![1024, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S1024x1024, .f32⟩
  | .hbm, ⟨3, _⟩ => ⟨S1024, .f32⟩
  | .hbm, ⟨4, _⟩ => ⟨S32x4x1024, .f32⟩
  | .hbm, ⟨5, _⟩ => ⟨S32x4x1024, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel9.lean ====
abbrev S32x4x1024 : Shape := ⟨3, ![32, 4, 1024]⟩
abbrev S1024 : Shape := ⟨1, ![1024]⟩
abbrev S1024x4096 : Shape := ⟨2, ![1024, 4096]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S128x1024, .f32⟩
  | .hbm, ⟨4, _⟩ => ⟨S1024x4096, .bf16⟩
  | .hbm, ⟨5, _⟩ => ⟨S1x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S32x4x1024 : Shape := ⟨3, ![32, 4, 1024]⟩
abbrev S1024 : Shape := ⟨1, ![1024]⟩
abbrev S1024x4096 : Shape := ⟨2, ![1024, 4096]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4096 : Shape := ⟨3, ![32, 4, 4096]⟩
abbrev S128x4096 : Shape := ⟨2, ![128, 4096]⟩
abbrev S128x1024 : Shape := ⟨2, ![128, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x4096, .f32⟩
  | .hbm, ⟨20, _⟩ => ⟨S128x4096, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel10.lean ====
abbrev S32x4x1024 : Shape := ⟨3, ![32, 4, 1024]⟩
abbrev S1024 : Shape := ⟨1, ![1024]⟩
abbrev S1024x4624 : Shape := ⟨2, ![1024, 4624]⟩
abbrev S4624 : Shape := ⟨1, ![4624]⟩
abbrev S1024x2560 : Shape := ⟨2, ![1024, 2560]⟩
abbrev S1024x2048 : Shape := ⟨2, ![1024, 2048]⟩
abbrev S1024x8 : Shape := ⟨2, ![1024, 8]⟩
abbrev S_ : Shape := ⟨0, ![]⟩
abbrev S1024x112 : Shape := ⟨2, ![1024, 112]⟩
abbrev S1024x4736 : Shape := ⟨2, ![1024, 4736]⟩
abbrev S2560 : Shape := ⟨1, ![2560]⟩
abbrev S2048 : Shape := ⟨1, ![2048]⟩
abbrev S8 : Shape := ⟨1, ![8]⟩
abbrev S112 : Shape := ⟨1, ![112]⟩
abbrev S4736 : Shape := ⟨1, ![4736]⟩
abbrev S128x1024 : Shape := ⟨2, ![128, 1024]⟩
abbrev S1x1024 : Shape := ⟨2, ![1, 1024]⟩
abbrev S1x4736 : Shape := ⟨2, ![1, 4736]⟩
abbrev S128x1536 : Shape := ⟨2, ![128, 1536]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1024x1536 : Shape := ⟨2, ![1024, 1536]⟩
abbrev S1x1536 : Shape := ⟨2, ![1, 1536]⟩
abbrev S1024x1024 : Shape := ⟨2, ![1024, 1024]⟩
abbrev S1024x512 : Shape := ⟨2, ![1024, 512]⟩
abbrev S1x512 : Shape := ⟨2, ![1, 512]⟩
abbrev S1024x128 : Shape := ⟨2, ![1024, 128]⟩
abbrev S1x128 : Shape := ⟨2, ![1, 128]⟩

abbrev nBuf : Space → Nat
  | .hbm => 29
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4624, .f32⟩
  | .hbm, ⟨3, _⟩ => ⟨S4624, .f32⟩
  | .hbm, ⟨4, _⟩ => ⟨S1024x2560, .f32⟩
  | .hbm, ⟨5, _⟩ => ⟨S1024x2048, .f32⟩
  | .hbm, ⟨6, _⟩ => ⟨S1024x8, .f32⟩
  | .hbm, ⟨7, _⟩ => ⟨S1024x8, .f32⟩
  | .hbm, ⟨8, _⟩ => ⟨S_, .f32⟩
  | .hbm, ⟨9, _⟩ => ⟨S1024x112, .f32⟩
  | .hbm, ⟨10, _⟩ => ⟨S1024x4736, .f32⟩
  | .hbm, ⟨11, _⟩ => ⟨S2560, .f32⟩
  | .hbm, ⟨12, _⟩ => ⟨S2048, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S112, .f32⟩
  | .hbm, ⟨17, _⟩ => ⟨S4736, .f32⟩
  | .hbm, ⟨18, _⟩ => ⟨S1024x4736, .bf16⟩
  | .hbm, ⟨19, _⟩ => ⟨S128x1024, .f32⟩
  | .hbm, ⟨20, _⟩ => ⟨S1x1024, .f32⟩
  | .hbm, ⟨21, _⟩ => ⟨S1x4736, .f32⟩
  | .hbm, ⟨22, _⟩ => ⟨S128x1536, .f32⟩
  | .hbm, ⟨23, _⟩ => ⟨S128x1024, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x4736, .bf16⟩
  | .local _ .vmem, ⟨3, _⟩ => ⟨S1x4736, .f32⟩
  | .local _ .vmem, ⟨4, _⟩ => ⟨S128x1536, .f32⟩
  | .local _ .vmem, ⟨5, _⟩ => ⟨S128x1024, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev main_v16_5 : Ref sig .tc := ⟨.hbm, 27, rfl⟩
abbrev main_v16_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference10Ideal.lean ====
abbrev S32x4x1024 : Shape := ⟨3, ![32, 4, 1024]⟩
abbrev S1024 : Shape := ⟨1, ![1024]⟩
abbrev S1024x4624 : Shape := ⟨2, ![1024, 4624]⟩
abbrev S4624 : Shape := ⟨1, ![4624]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4624 : Shape := ⟨3, ![32, 4, 4624]⟩
abbrev S1x1x4624 : Shape := ⟨3, ![1, 1, 4624]⟩
abbrev S128x4624 : Shape := ⟨2, ![128, 4624]⟩
abbrev S128x1536 : Shape := ⟨2, ![128, 1536]⟩
abbrev S128x1024 : Shape := ⟨2, ![128, 1024]⟩
abbrev S128x8 : Shape := ⟨2, ![128, 8]⟩
abbrev S128x512 : Shape := ⟨2, ![128, 512]⟩
abbrev S128x112 : Shape := ⟨2, ![128, 112]⟩
abbrev S128x128 : Shape := ⟨2, ![128, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4624, .f32⟩
  | .hbm, ⟨3, _⟩ => ⟨S4624, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x4624, .f32⟩
  | .hbm, ⟨21, _⟩ => ⟨S1x1x4624, .f32⟩
  | .hbm, ⟨22, _⟩ => ⟨S32x4x4624, .f32⟩
  | .hbm, ⟨23, _⟩ => ⟨S32x4x4624, .f32⟩
  | .hbm, ⟨24, _⟩ => ⟨S128x4624, .f32⟩
  | .hbm, ⟨25, _⟩ => ⟨S128x1536, .f32⟩
  | .hbm, ⟨26, _⟩ => ⟨S128x1024, .f32⟩
  | .hbm, ⟨27, _⟩ => ⟨S128x8, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x8, .f32⟩
  | .hbm, ⟨33, _⟩ => ⟨S_, .f32⟩
  | .hbm, ⟨34, _⟩ => ⟨S128x112, .f32⟩
  | .hbm, ⟨35, _⟩ => ⟨S128x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Body.lean ====
/-
  Hand-written. The frame of the differential attention: its body run once, at any value instance, from operands held at given
  contents and scratch buffers at any; the proof data of the launch with the output block either left unnamed or named by the
  certificate; and the launch.
-/
module

public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body, run once -/

set_option maxHeartbeats 4000000 in
/-- The body's triple: from its nine operands at contents `X·`, its output at anything and its five scratch buffers at `f·`, it
    runs to its return, the operands as they were, the output holding the pieces `L` the run finds over what it held. -/
@[irreducible] def bodyRun (c : Dev nD) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty) :
    Σ' L : List (View.Piece (Elt F) S1x512x128 .bf16), ∀ (f12 : BufTy.Contents (Elt F) arg12.view.ty),
      iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) : sProp 𝕄)
      ⊢ wp frame (wpE (defs₀ (F := F)) Variants.none (c : Thread nD τ) none) Set.univ (cc0_attn_diff (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) f12 L)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)))) := by
  refine ⟨?_, fun f12 => ?run⟩
  case run =>
    simp only [cc0_attn_diff_eq_skeleton]; unfold cc0_attn_diff_skel
    iintro ⟨H3, H4, H5, H6, H7, H8, H9, H10, H11, H12, H13, H14, H15, H16, H17⟩
    sl_exec
    sl_step
    sl_close

/-- The same between owned blocks, for any continuation: the operands' blocks are handed back, the output block with a property
    `R` that the run's pieces have at any contents of the operands that read as their blocks, and of the scratch buffers. -/
theorem kernelRun (c : Dev nD) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (d3 : (S1x512x128.Idx → Elt F .bf16))
    (d4 : (S1x4096x128.Idx → Elt F .bf16))
    (d5 : (S1x4096x128.Idx → Elt F .bf16))
    (d6 : (S1x512x128.Idx → Elt F .f32))
    (d7 : (S1x64.Idx → Elt F .f32))
    (d8 : (S1x64.Idx → Elt F .f32))
    (d9 : (S1x64.Idx → Elt F .f32))
    (d10 : (S1x64.Idx → Elt F .f32))
    (d11 : (S1x128.Idx → Elt F .f32))
    (R : (S1x512x128.Idx → Elt F .bf16) → Prop)
    (hR : ∀ (X3 : BufTy.Contents (Elt F) arg3.view.ty) (_ : arg3.view.read (Elt F) X3 = d3)
        (X4 : BufTy.Contents (Elt F) arg4.view.ty) (_ : arg4.view.read (Elt F) X4 = d4)
        (X5 : BufTy.Contents (Elt F) arg5.view.ty) (_ : arg5.view.read (Elt F) X5 = d5)
        (X6 : BufTy.Contents (Elt F) arg6.view.ty) (_ : arg6.view.read (Elt F) X6 = d6)
        (X7 : BufTy.Contents (Elt F) arg7.view.ty) (_ : arg7.view.read (Elt F) X7 = d7)
        (X8 : BufTy.Contents (Elt F) arg8.view.ty) (_ : arg8.view.read (Elt F) X8 = d8)
        (X9 : BufTy.Contents (Elt F) arg9.view.ty) (_ : arg9.view.read (Elt F) X9 = d9)
        (X10 : BufTy.Contents (Elt F) arg10.view.ty) (_ : arg10.view.read (Elt F) X10 = d10)
        (X11 : BufTy.Contents (Elt F) arg11.view.ty) (_ : arg11.view.read (Elt F) X11 = d11)
        (f13 : BufTy.Contents (Elt F) arg13.view.ty)
        (f14 : BufTy.Contents (Elt F) arg14.view.ty)
        (f15 : BufTy.Contents (Elt F) arg15.view.ty)
        (f16 : BufTy.Contents (Elt F) arg16.view.ty)
        (f17 : BufTy.Contents (Elt F) arg17.view.ty)
        (f12 : BufTy.Contents (Elt F) arg12.view.ty),
        R (arg12.view.read (Elt F) (arg12.view.writes (Elt F) f12 (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 X7 X8 X9 X10 X11 f13 f14 f15 f16 f17).1)))
    (K : PUnit → sProp 𝕄) :
    iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, ⌜R d⌝ ∗ owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) Set.univ (cc0_attn_diff (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  iapply (wp_wand_r Idealize.ShloMosaic.frame (wpE (defs₀ (F := F)) Variants.none (c : Thread nD τ) none) Set.univ)
  isplitl [H3 H4 H5 H6 H7 H8 H9 H10 H11 H12 H13 H14 H15 H16 H17]
  · iapply ((bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 X7 X8 X9 X10 X11 f13 f14 f15 f16 f17).2 f12)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %_ ⟨H3, H4, H5, H6, H7, H8, H9, H10, H11, H12, ⟨%g13, H13⟩, ⟨%g14, H14⟩, ⟨%g15, H15⟩, ⟨%g16, H16⟩, ⟨%g17, H17⟩⟩
    iapply Hk
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap
      · iexists _; isplitr; swap; · iexact H12
        ipureintro; rfl
      ipureintro; exact hR X3 h3 X4 h4 X5 h5 X6 h6 X7 h7 X8 h8 X9 h9 X10 h10 X11 h11 f13 f14 f15 f16 f17 f12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

/-! ## The proof data and the body obligation -/

variable (m : (ℓ : Loc nD τ sig) → Buf (Elt F) ℓ) (ρ : Dev nD → PrngReg)

/-- What the certificate names for the output's block at each point. -/
abbrev Out : Type := Dev nD → Fin cfg0.N → (S1x512x128.Idx → Elt F .bf16)

/-- The proof data on core `c`: each array as the region finds it; an operand's block left in place; the output's block the one
    named; the scratch buffers at some contents between points; full shares; nothing owed. -/
def dats (O : Out (F := F)) (_ : Fin 1) (c : Dev nD) : Dat τ (Elt F) Unit ℕ (UR sig nD τ) ℕ cfg0 c where
  A w := V m c (Pipeline.arrRef spec0 w)
  after | 0 => iblk m c 0 | 1 => iblk m c 1 | 2 => iblk m c 2 | 3 => iblk m c 3 | 4 => iblk m c 4 | 5 => iblk m c 5
        | 6 => iblk m c 6 | 7 => iblk m c 7 | 8 => iblk m c 8 | 9 => O c | ⟨_ + 10, h⟩ => absurd h (Nat.not_lt.2 (Nat.le_add_left _ _))
  Φ _ := Pipeline.ΦA spec0 c
  q _ := fullShare
  owed _ := 0

theorem A_eq (O : Out (F := F)) (c : Dev nD) (w : Fin cfg0.W) : (dats m O 0 c).A w = V m c (Pipeline.arrRef spec0 w) := by dsimp only [dats]

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`. -/
def bodyPre (O : Out (F := F)) (c : Dev nD) (t : Fin cfg0.N) : sProp 𝕄 :=
  iprop((dats m O 0 c).Φ t.castSucc ∗ (dats m O 0 c).owesAt () t.castSucc
    ∗ (∃ d, owns (c : Thread nD τ) (win0_0.stage (cfg0.slots t 0)) fullShare ((dats m O 0 c).before 0 t d)) ∗ (∃ d, owns (c : Thread nD τ) (win0_1.stage (cfg0.slots t 1)) fullShare ((dats m O 0 c).before 1 t d)) ∗ (∃ d, owns (c : Thread nD τ) (win0_2.stage (cfg0.slots t 2)) fullShare ((dats m O 0 c).before 2 t d)) ∗ (∃ d, owns (c : Thread nD τ) (win0_3.stage (cfg0.slots t 3)) fullShare ((dats m O 0 c).before 3 t d)) ∗ (∃ d, owns (c : Thread nD τ) (win0_4.stage (cfg0.slots t 4)) fullShare ((dats m O 0 c).before 4 t d)) ∗ (∃ d, owns (c : Thread nD τ) (win0_5.stage (cfg0.slots t 5)) fullShare ((dats m O 0 c).before 5 t d)) ∗ (∃ d, owns (c : Thread nD τ) (win0_6.stage (cfg0.slots t 6)) fullShare ((dats m O 0 c).before 6 t d)) ∗ (∃ d, owns (c : Thread nD τ) (win0_7.stage (cfg0.slots t 7)) fullShare ((dats m O 0 c).before 7 t d)) ∗ (∃ d, owns (c : Thread nD τ) (win0_8.stage (cfg0.slots t 8)) fullShare ((dats m O 0 c).before 8 t d))
    ∗ (∃ d, owns (c : Thread nD τ) (win0_9.stage (cfg0.slots t 9)) fullShare d))
/-- What it returns: the output's block with the property `R`. -/
def bodyPost (O : Out (F := F)) (R : (S1x512x128.Idx → Elt F .bf16) → Prop) (c : Dev nD) (t : Fin cfg0.N) : sProp 𝕄 :=
  iprop((dats m O 0 c).Φ t.succ ∗ (dats m O 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t)
    ∗ (∃ d, ⌜R d⌝ ∗ owns (c : Thread nD τ) (win0_9.stage (cfg0.slots t 9)) fullShare d))

/-- The property `R` holds of the output's block at point `t`, whatever the scratch buffers held. -/
def PointHas (R : (S1x512x128.Idx → Elt F .bf16) → Prop) (c : Dev nD) (t : Fin cfg0.N) : Prop :=
  ∀ (X3 : BufTy.Contents (Elt F) (win0_0.stage (cfg0.slots t 0)).view.ty) (_ : (win0_0.stage (cfg0.slots t 0)).view.read (Elt F) X3 = iblk m c 0 t) (X4 : BufTy.Contents (Elt F) (win0_1.stage (cfg0.slots t 1)).view.ty) (_ : (win0_1.stage (cfg0.slots t 1)).view.read (Elt F) X4 = iblk m c 1 t) (X5 : BufTy.Contents (Elt F) (win0_2.stage (cfg0.slots t 2)).view.ty) (_ : (win0_2.stage (cfg0.slots t 2)).view.read (Elt F) X5 = iblk m c 2 t) (X6 : BufTy.Contents (Elt F) (win0_3.stage (cfg0.slots t 3)).view.ty) (_ : (win0_3.stage (cfg0.slots t 3)).view.read (Elt F) X6 = iblk m c 3 t) (X7 : BufTy.Contents (Elt F) (win0_4.stage (cfg0.slots t 4)).view.ty) (_ : (win0_4.stage (cfg0.slots t 4)).view.read (Elt F) X7 = iblk m c 4 t) (X8 : BufTy.Contents (Elt F) (win0_5.stage (cfg0.slots t 5)).view.ty) (_ : (win0_5.stage (cfg0.slots t 5)).view.read (Elt F) X8 = iblk m c 5 t) (X9 : BufTy.Contents (Elt F) (win0_6.stage (cfg0.slots t 6)).view.ty) (_ : (win0_6.stage (cfg0.slots t 6)).view.read (Elt F) X9 = iblk m c 6 t) (X10 : BufTy.Contents (Elt F) (win0_7.stage (cfg0.slots t 7)).view.ty) (_ : (win0_7.stage (cfg0.slots t 7)).view.read (Elt F) X10 = iblk m c 7 t) (X11 : BufTy.Contents (Elt F) (win0_8.stage (cfg0.slots t 8)).view.ty) (_ : (win0_8.stage (cfg0.slots t 8)).view.read (Elt F) X11 = iblk m c 8 t)
    (f13 : BufTy.Contents (Elt F) (Memref.whole cc0_scratch0).view.ty) (f14 : BufTy.Contents (Elt F) (Memref.whole cc0_scratch1).view.ty) (f15 : BufTy.Contents (Elt F) (Memref.whole cc0_scratch2).view.ty) (f16 : BufTy.Contents (Elt F) (Memref.whole cc0_scratch3).view.ty) (f17 : BufTy.Contents (Elt F) (Memref.whole cc0_scratch4).view.ty) (f12 : BufTy.Contents (Elt F) (win0_9.stage (cfg0.slots t 9)).view.ty),
    R ((win0_9.stage (cfg0.slots t 9)).view.read (Elt F) ((win0_9.stage (cfg0.slots t 9)).view.writes (Elt F) f12
      (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) X3 X4 X5 X6 X7 X8 X9 X10 X11 f13 f14 f15 f16 f17).1))

set_option maxHeartbeats 1000000 in
theorem sound_body (O : Out (F := F)) (R : (S1x512x128.Idx → Elt F .bf16) → Prop) (c : Dev nD) (t : Fin cfg0.N) (hR : PointHas m R c t) :
    bodyPre m O c t ⊢ wp frame (wpE (defs₀ (F := F)) Variants.none c none) Set.univ (bodyAt0 t) (fun _ => bodyPost m O R c t) := by
  unfold bodyPre bodyPost bodyAt0
  rw [show (dats m O 0 c).Φ t.succ = (dats m O 0 c).Φ t.castSucc from rfl,
    show (dats m O 0 c).owesAt () t.succ = (dats m O 0 c).owesAt () t.castSucc from rfl,
    show (dats m O 0 c).Φ t.castSucc = Pipeline.ΦA spec0 c from rfl, PhiA0_eq]
  simp only [before0_0_of m (dats m O 0 c) (A_eq m O c 0) (fun _ => rfl), before0_1_of m (dats m O 0 c) (A_eq m O c 1) (fun _ => rfl), before0_2_of m (dats m O 0 c) (A_eq m O c 2) (fun _ => rfl), before0_3_of m (dats m O 0 c) (A_eq m O c 3) (fun _ => rfl), before0_4_of m (dats m O 0 c) (A_eq m O c 4) (fun _ => rfl), before0_5_of m (dats m O 0 c) (A_eq m O c 5) (fun _ => rfl), before0_6_of m (dats m O 0 c) (A_eq m O c 6) (fun _ => rfl), before0_7_of m (dats m O 0 c) (A_eq m O c 7) (fun _ => rfl), before0_8_of m (dats m O 0 c) (A_eq m O c 8) (fun _ => rfl)]
  iintro ⟨⟨⟨S0, S1, S2, S3, S4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) R hR _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  iintro ⟨H0, H1, H2, H3, H4, H5, H6, H7, H8, H9, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The output window, forgotten where nothing is said of it. -/
def forgets0 : Fin 10 → Bool := fun w => w == 9

/-- What the body returns with the output forgotten, and with its block named. -/
def postForget (O : Out (F := F)) (c : Dev nD) (t : Fin cfg0.N) : sProp 𝕄 :=
  iprop((dats m O 0 c).Φ t.succ ∗ (dats m O 0 c).owesAt () t.succ
    ∗ owns (c : Thread nD τ) (win0_0.stage (cfg0.slots t 0)) fullShare ((dats m O 0 c).after 0 t) ∗ owns (c : Thread nD τ) (win0_1.stage (cfg0.slots t 1)) fullShare ((dats m O 0 c).after 1 t) ∗ owns (c : Thread nD τ) (win0_2.stage (cfg0.slots t 2)) fullShare ((dats m O 0 c).after 2 t) ∗ owns (c : Thread nD τ) (win0_3.stage (cfg0.slots t 3)) fullShare ((dats m O 0 c).after 3 t) ∗ owns (c : Thread nD τ) (win0_4.stage (cfg0.slots t 4)) fullShare ((dats m O 0 c).after 4 t) ∗ owns (c : Thread nD τ) (win0_5.stage (cfg0.slots t 5)) fullShare ((dats m O 0 c).after 5 t) ∗ owns (c : Thread nD τ) (win0_6.stage (cfg0.slots t 6)) fullShare ((dats m O 0 c).after 6 t) ∗ owns (c : Thread nD τ) (win0_7.stage (cfg0.slots t 7)) fullShare ((dats m O 0 c).after 7 t) ∗ owns (c : Thread nD τ) (win0_8.stage (cfg0.slots t 8)) fullShare ((dats m O 0 c).after 8 t)
    ∗ (∃ d, owns (c : Thread nD τ) (win0_9.stage (cfg0.slots t 9)) fullShare d))
def postNamed (O : Out (F := F)) (c : Dev nD) (t : Fin cfg0.N) : sProp 𝕄 :=
  iprop((dats m O 0 c).Φ t.succ ∗ (dats m O 0 c).owesAt () t.succ
    ∗ owns (c : Thread nD τ) (win0_0.stage (cfg0.slots t 0)) fullShare ((dats m O 0 c).after 0 t) ∗ owns (c : Thread nD τ) (win0_1.stage (cfg0.slots t 1)) fullShare ((dats m O 0 c).after 1 t) ∗ owns (c : Thread nD τ) (win0_2.stage (cfg0.slots t 2)) fullShare ((dats m O 0 c).after 2 t) ∗ owns (c : Thread nD τ) (win0_3.stage (cfg0.slots t 3)) fullShare ((dats m O 0 c).after 3 t) ∗ owns (c : Thread nD τ) (win0_4.stage (cfg0.slots t 4)) fullShare ((dats m O 0 c).after 4 t) ∗ owns (c : Thread nD τ) (win0_5.stage (cfg0.slots t 5)) fullShare ((dats m O 0 c).after 5 t) ∗ owns (c : Thread nD τ) (win0_6.stage (cfg0.slots t 6)) fullShare ((dats m O 0 c).after 6 t) ∗ owns (c : Thread nD τ) (win0_7.stage (cfg0.slots t 7)) fullShare ((dats m O 0 c).after 7 t) ∗ owns (c : Thread nD τ) (win0_8.stage (cfg0.slots t 8)) fullShare ((dats m O 0 c).after 8 t) ∗ owns (c : Thread nD τ) (win0_9.stage (cfg0.slots t 9)) fullShare ((dats m O 0 c).after 9 t))
def preNamed (O : Out (F := F)) (c : Dev nD) (t : Fin cfg0.N) : sProp 𝕄 :=
  iprop((dats m O 0 c).Φ t.castSucc ∗ (dats m O 0 c).owesAt () t.castSucc
    ∗ (∃ d, owns (c : Thread nD τ) (win0_0.stage (cfg0.slots t 0)) fullShare ((dats m O 0 c).before 0 t d)) ∗ (∃ d, owns (c : Thread nD τ) (win0_1.stage (cfg0.slots t 1)) fullShare ((dats m O 0 c).before 1 t d)) ∗ (∃ d, owns (c : Thread nD τ) (win0_2.stage (cfg0.slots t 2)) fullShare ((dats m O 0 c).before 2 t d)) ∗ (∃ d, owns (c : Thread nD τ) (win0_3.stage (cfg0.slots t 3)) fullShare ((dats m O 0 c).before 3 t d)) ∗ (∃ d, owns (c : Thread nD τ) (win0_4.stage (cfg0.slots t 4)) fullShare ((dats m O 0 c).before 4 t d)) ∗ (∃ d, owns (c : Thread nD τ) (win0_5.stage (cfg0.slots t 5)) fullShare ((dats m O 0 c).before 5 t d)) ∗ (∃ d, owns (c : Thread nD τ) (win0_6.stage (cfg0.slots t 6)) fullShare ((dats m O 0 c).before 6 t d)) ∗ (∃ d, owns (c : Thread nD τ) (win0_7.stage (cfg0.slots t 7)) fullShare ((dats m O 0 c).before 7 t d)) ∗ (∃ d, owns (c : Thread nD τ) (win0_8.stage (cfg0.slots t 8)) fullShare ((dats m O 0 c).before 8 t d)) ∗ (∃ d, owns (c : Thread nD τ) (win0_9.stage (cfg0.slots t 9)) fullShare ((dats m O 0 c).before 9 t d)))

theorem post_forget (O : Out (F := F)) (R : (S1x512x128.Idx → Elt F .bf16) → Prop) (c : Dev nD) (t : Fin cfg0.N) :
    bodyPost m O R c t ⊢ postForget m O c t := by
  unfold bodyPost postForget
  iintro ⟨HΦ, HO, H0, H1, H2, H3, H4, H5, H6, H7, H8, ⟨%d, -, H9⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d; iexact H9

theorem post_named (O : Out (F := F)) (c : Dev nD) (t : Fin cfg0.N) :
    bodyPost m O (fun d => d = O c t) c t ⊢ postNamed m O c t := by
  unfold bodyPost postNamed
  iintro ⟨HΦ, HO, H0, H1, H2, H3, H4, H5, H6, H7, H8, ⟨%d, %hd, H9⟩⟩
  subst hd
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem pre_named (O : Out (F := F)) (c : Dev nD) (t : Fin cfg0.N) : preNamed m O c t ⊢ bodyPre m O c t := by
  unfold preNamed bodyPre
  iintro ⟨HΦ, HO, H0, H1, H2, H3, H4, H5, H6, H7, H8, ⟨%d, H9⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

theorem obligation_forget (O : Out (F := F)) (c : Dev nD) :
    BodyObligation (dats (F := F) m O 0 c) (defs₀ (F := F)) Variants.none () Set.univ forgets0 := fun t => by
  rw [bigSep_W0, bigSep_W0, defs₀_row]
  exact triple_restated ((sound_body m O (fun _ => True) c t (by unfold PointHas; intros; trivial)).trans ((wp frame (wpE (defs₀ (F := F)) Variants.none c none) Set.univ (bodyAt0 t)).mono (fun _ => post_forget m O _ c t))) rfl .rfl fun _ => .rfl

/-- The body obligation with the output's block named: at every point the run leaves the block named there. -/
theorem obligation_named (O : Out (F := F)) (c : Dev nD) (hO : ∀ t, PointHas m (fun d => d = O c t) c t) :
    BodyObligation (dats (F := F) m O 0 c) (defs₀ (F := F)) Variants.none () Set.univ := fun t => by
  rw [bigSep_W0, bigSep_W0, defs₀_row]
  exact triple_restated ((pre_named m O c t).trans ((sound_body m O (fun d => d = O c t) c t (hO t)).trans ((wp frame (wpE (defs₀ (F := F)) Variants.none c none) Set.univ (bodyAt0 t)).mono (fun _ => post_named m O c t)))) rfl .rfl fun _ => .rfl

/-! ## The launch -/

variable [∀ e, Nonempty (Elt F e)]

set_option backward.isDefEq.respectTransparency.types false in
/-- Every fair execution ends, each buffer that no window stages as the region found it, each operand's array too, every
    semaphore counter at zero; nothing said of the output. -/
theorem run_forget (O : Out (F := F)) :
    θ_run defs (onTc (τ := τ) (main (F := F))) (s₀ m ρ)
      (fun r => Pipeline.RDat.FramePost (cfgs 0) (fun c => (dats m O 0 c).toRForget forgets0) (V m) r ∧ r.2.sem = fun _ => 0) :=
  Pipeline.θ_run_frame_forget (Q' := _) (hQ' := fun _ h => h) cfgs (dats m O) (0 : Fin 1) launch0 defs₀ Variants.none forgets0 m ρ main
    (hbody := fun c => (obligation_forget m O c).loose) (hshare := fun c => (dats m O 0 c).share_full fun _ => rfl)
    (howed := fun _ _ => rfl) (V := V m) (hmain := hmain m Variants.none) (hA := A_eq m O) (hΦ := fun _ _ => rfl)

set_option backward.isDefEq.respectTransparency.types false in
/-- The same with the output's array the blocks named. -/
theorem run_named (O : Out (F := F)) (hO : ∀ c t, PointHas m (fun d => d = O c t) c t) :
    θ_run defs (onTc (τ := τ) (main (F := F))) (s₀ m ρ)
      (fun r => Pipeline.FramePost cfgs (dats m O) 0 (V m) r ∧ r.2.sem = fun _ => 0) :=
  Pipeline.θ_run_frame (Q' := _) (hQ' := fun _ h => h) cfgs (dats m O) (0 : Fin 1) launch0 defs₀ Variants.none m ρ main
    (hbody := fun c => (obligation_named m O c (hO c)).loose) (hshare := fun c => (dats m O 0 c).share_full fun _ => rfl)
    (howed := fun _ _ => rfl) (V := V m) (hmain := hmain m Variants.none) (hA := A_eq m O) (hΦ := fun _ _ => rfl)

/-- The arguments after the run are the arguments before it, and every semaphore counter is zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m (fun _ _ _ => Classical.arbitrary _) c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩)
    (run_forget m ρ (fun _ _ _ => Classical.arbitrary _))

end Cert.KernelIdeal.Hand

end
-- ==== Proof.Blocks.lean ====
/-
  Hand-written. One block of 64 rows of the online softmax read at an index over the extended reals: the new row maximum, the
  weights, the rescaled accumulator, with and without the causal mask.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The greatest entry of a row, `⊥` for none. -/
def rowMax {n : ℕ} (s : Fin n → EReal) : EReal := Finset.univ.fold max ⊥ s

/-- The lane a column of a wider row stands over. -/
def lane {n : ℕ} (k : Fin n) : Fin 128 := ⟨k.val % 128, Nat.mod_lt _ (by norm_num)⟩

theorem ofBits_bot : Ideal.ofBits .f32 0xFF800000#32 = (⊥ : EReal) := by
  simp [Ideal.ofBits, Ideal.ieee]

theorem pay4_apply (s : Vec Ideal S64x512 .f32) (m : Vec Ideal S64x128 .f32) (r : Fin 64) (l : Fin 128) :
    k0_pay4 s m (ix2 r l) = max (m (ix2 r l)) (rowMax fun k => s (ix2 r k)) := by
  pointwise [k0_pay4]
  rw [ofBits_bot, rowMax]

theorem pay5_apply (s : Vec Ideal S64x512 .f32) (m : Vec Ideal S64x128 .f32) (r : Fin 64) (k : Fin 512) :
    k0_pay5 s m (ix2 r k) = Ideal.exp2 (s (ix2 r k) - k0_pay4 s m (ix2 r (lane k))) := by
  pointwise [k0_pay5]
  have hk := k.isLt
  have e : ∀ (a : ℕ) (ha : a < 128), a = k.val % 128 → (⟨a, ha⟩ : Fin 128) = lane k := fun a ha h => Fin.ext h
  show Ideal.exp2 _ = _
  congr 1
  split_ifs
  all_goals rw [e _ _ (by omega)]

/-- The rescaled accumulator of the block of rows from `o`. -/
def blkA (o : ℕ) (h : S1024x256.Slices ![o, 0] S64x256) (D : Vec Ideal S1024x256 .f32) (m m' : Vec Ideal S64x128 .f32)
    (a : Vec Ideal S64x256 .f32) : FVec Ideal S64x256 .f32 :=
  mulf (concatenate S64x256 1 [⟨S64x128, exp2 (subf m m')⟩, ⟨S64x128, exp2 (subf m m')⟩] concatenates_S64x128_S64x128_S64x256_d1)
    (addf a (extractStridedSlice S64x256 ![o, 0] D h))

theorem blkA_apply (o : ℕ) (h : S1024x256.Slices ![o, 0] S64x256) (D : Vec Ideal S1024x256 .f32) (m m' : Vec Ideal S64x128 .f32)
    (a : Vec Ideal S64x256 .f32) (r : Fin 64) (k : Fin 256) (ho : o + r.val < 1024) :
    blkA o h D m m' a (ix2 r k) = Ideal.exp2 (m (ix2 r (lane k)) - m' (ix2 r (lane k))) * (a (ix2 r k) + D (ix2 ⟨o + r.val, ho⟩ k)) := by
  pointwise [blkA]
  have hk := k.isLt
  have e : ∀ (a : ℕ) (ha : a < 128), a = k.val % 128 → (⟨a, ha⟩ : Fin 128) = lane k := fun a ha h => Fin.ext h
  split_ifs
  all_goals rw [e _ _ (by omega)]; rfl

/-- A block of scores under the causal mask, its first row standing at `o` of its half. -/
def blkMask (o : BitVec 32) (s : Vec Ideal S64x512 .f32) : Vec Ideal S64x512 .f32 :=
  select (cmpi .sge (addi (iota .tc S64x512 32 [0] iota_S64x512_d0_w32) (broadcast S64x512 o)) (iota .tc S64x512 32 [1] iota_S64x512_d1_w32))
    s (broadcast S64x512 (Scalar.ofBits (F := Ideal) .f32 0xFF800000#32))

theorem blkMask_apply (o : ℕ) (ho : o ≤ 448) (s : Vec Ideal S64x512 .f32) (r : Fin 64) (k : Fin 512) :
    blkMask (BitVec.ofNat 32 o) s (ix2 r k) = if k.val ≤ o + r.val then s (ix2 r k) else ⊥ := by
  pointwise [blkMask]
  have hk := k.isLt
  have hr := r.isLt
  have ha : IntOp.addi (BitVec.ofNat 32 r.val) (BitVec.ofNat 32 o) = BitVec.ofNat 32 (o + r.val) := by
    rw [Nat.add_comm]; exact BitVec.ofNat_add .. |>.symm
  rw [ha, ofBits_bot, WordCmp.cmpi_sge_ofNat (by omega) (by omega), WordCmp.select_ofBool]
  simp only [decide_eq_true_eq]

theorem pay3_apply (K : Vec Ideal S1x512x128 .bf16) (q0 q1 : Vec Ideal S512x128 .bf16) (r : Fin 1024) (k : Fin 512) :
    k0_pay3 K q0 q1 (ix2 r k) = ∑ d : Fin 128, (if h : r.val < 512 then q0 (ix2 ⟨r.val, h⟩ d) else q1 (ix2 ⟨r.val - 512, by omega⟩ d)) * K (ix3 0 k d) := by
  pointwise [k0_pay3]
  split_ifs <;> rfl

theorem pay2_apply (V : Vec Ideal S1x512x128 .bf16) (p : Vec Ideal S1024x512 .bf16) (r : Fin 1024) (c : Fin 256) :
    k0_pay2 (k0_pay178 (F := Ideal)) V p (ix2 r c) = ∑ k : Fin 512, p (ix2 r k) * (if h : c.val < 128 then V (ix3 0 k ⟨c.val, h⟩) else 1) := by
  pointwise [k0_pay2, k0_pay178]

theorem pay173_apply (q : Vec Ideal S1x512x128 .bf16) (r : Fin 512) (d : Fin 128) :
    k0_pay173 q (ix2 r d) = if d.val < 64 then q (ix3 0 r d) else 0 := by
  pointwise [k0_pay173, k0_pay172]
  have hd := d.isLt
  rw [WordCmp.cmpi_slt_ofNat (by omega) (by norm_num), WordCmp.select_ofBool]
  simp only [decide_eq_true_eq]

theorem pay174_apply (q : Vec Ideal S1x512x128 .bf16) (r : Fin 512) (d : Fin 128) :
    k0_pay174 q (ix2 r d) = if d.val < 64 then 0 else q (ix3 0 r d) := by
  pointwise [k0_pay174, k0_pay172]
  have hd := d.isLt
  rw [WordCmp.cmpi_sge_ofNat (by omega) (by norm_num), WordCmp.select_ofBool]
  simp only [decide_eq_true_eq]
  by_cases h : d.val < 64
  · rw [if_neg (by omega), if_pos h]
  · rw [if_pos (by omega), if_neg h]

/-- One entry of the normalised and gated output of a row `o`. -/
def gated (o : Fin 128 → EReal) (g z : EReal) (c : Fin 128) : EReal :=
  o c * Ideal.rsqrt (Ideal.div (∑ x, o x * o x) (Ideal.ofBits .f32 0x43000000#32) + Ideal.ofBits .f32 0x358637BD#32) * g
    * Ideal.ofBits .f32 0x3F24FD5C#32 * (z * Ideal.div 1 (1 + Ideal.exp (0 - z)))

theorem pay1_apply (z o : Vec Ideal S512x128 .f32) (g : Vec Ideal S1x128 .f32) (r : Fin 512) (c : Fin 128) :
    k0_pay1 z o g (ix3 0 r c) = gated (fun c => o (ix2 r c)) (g (ix2 0 c)) (z (ix2 r c)) c := by
  pointwise [k0_pay1, gated]

theorem pay271_apply (z : Vec Ideal S1x512x128 .f32) (r : Fin 512) (c : Fin 128) : k0_pay271 z (ix2 r c) = z (ix3 0 r c) := by
  pointwise [k0_pay271]

/-- The sixteen blocks of rows on top of one another. -/
def stack (a0 a1 a2 a3 a4 a5 a6 a7 a8 a9 a10 a11 a12 a13 a14 a15 : Vec Ideal S64x256 .f32) : Vec Ideal S1024x256 .f32 :=
  concatenate S1024x256 0 [⟨S64x256, a0⟩, ⟨S64x256, a1⟩, ⟨S64x256, a2⟩, ⟨S64x256, a3⟩, ⟨S64x256, a4⟩, ⟨S64x256, a5⟩, ⟨S64x256, a6⟩,
    ⟨S64x256, a7⟩, ⟨S64x256, a8⟩, ⟨S64x256, a9⟩, ⟨S64x256, a10⟩, ⟨S64x256, a11⟩, ⟨S64x256, a12⟩, ⟨S64x256, a13⟩, ⟨S64x256, a14⟩, ⟨S64x256, a15⟩]
    concatenates_S64x256_S64x256_S64x256_S64x256_S64x256_S64x256_S64x256_S64x256_S64x256_S64x256_S64x256_S64x256_S64x256_S64x256_S64x256_S64x256_S1024x256_d0

theorem stack_apply (G : Fin 1024 → Fin 256 → EReal) (a : Fin 16 → Vec Ideal S64x256 .f32)
    (h : ∀ b (r : Fin 64) c, a b (ix2 r c) = G ⟨64 * b.val + r.val, by omega⟩ c) (r : Fin 1024) (c : Fin 256) :
    stack (a 0) (a 1) (a 2) (a 3) (a 4) (a 5) (a 6) (a 7) (a 8) (a 9) (a 10) (a 11) (a 12) (a 13) (a 14) (a 15) (ix2 r c) = G r c := by
  have hr := r.isLt
  have hb : r.val / 64 < 16 := by omega
  have e := concatenate_ofFn_apply (t := S1024x256) (s₁ := S64x256) 0 a
    concatenates_S64x256_S64x256_S64x256_S64x256_S64x256_S64x256_S64x256_S64x256_S64x256_S64x256_S64x256_S64x256_S64x256_S64x256_S64x256_S64x256_S1024x256_d0
    rfl 64 rfl (ix2 r c) ⟨r.val / 64, hb⟩ rfl (ix2 ⟨r.val % 64, Nat.mod_lt _ (by norm_num)⟩ c) rfl (by
      intro b hb'
      match b with
      | 0 => exact absurd rfl hb'
      | 1 => rfl)
  refine e.trans ((h _ _ _).trans ?_)
  congr 1
  exact Fin.ext (Nat.div_add_mod r.val 64)

/-- Numerator over denominator in both halves, the second subtracted `λ` times. -/
def combine (A : Vec Ideal S1024x256 .f32) (l1 l2 l3 l4 : Vec Ideal S1x64 .f32) : FVec Ideal S512x128 .f32 :=
  subf (divf (extractStridedSlice S512x128 ![0, 0] A slices_S1024x256_o0_0_S512x128) (extractStridedSlice S512x128 ![0, 128] A slices_S1024x256_o0_128_S512x128))
    (mulf (broadcastTo S512x128 (addf (subf
        (exp (shapeCast S1x1 (multiReduction .add [1] S1 (mulf (shapeCast S1x64 l1 shapeCasts_S1x64_S1x64) (shapeCast S1x64 l2 shapeCasts_S1x64_S1x64)) 0x00000000#32 reduces_S1x64_S1 (.inl rfl) rfl) shapeCasts_S1_S1x1))
        (exp (shapeCast S1x1 (multiReduction .add [1] S1 (mulf (shapeCast S1x64 l3 shapeCasts_S1x64_S1x64) (shapeCast S1x64 l4 shapeCasts_S1x64_S1x64)) 0x00000000#32 reduces_S1x64_S1 (.inl rfl) rfl) shapeCasts_S1_S1x1)))
        (broadcast S1x1 (Scalar.ofBits (F := Ideal) .f32 0x3EB60549#32))) broadcasts_S1x1_S512x128)
      (divf (extractStridedSlice S512x128 ![512, 0] A slices_S1024x256_o512_0_S512x128) (extractStridedSlice S512x128 ![512, 128] A slices_S1024x256_o512_128_S512x128)))

theorem pay272_eq (V : Vec Ideal S1x512x128 .bf16) (p : Vec Ideal S1024x512 .bf16) (a0 a1 a2 a3 a4 a5 a6 a7 a8 a9 a10 a11 a12 a13 a14 a15 : Vec Ideal S64x256 .f32)
    (l1 l2 l3 l4 : Vec Ideal S1x64 .f32) :
    k0_pay272 (k0_pay178 (F := Ideal)) a0 a1 a2 a3 a4 a5 a6 a7 a8 a9 a10 a11 a12 a13 a14 a15 V p l1 l2 l3 l4
      = combine (addf (stack a0 a1 a2 a3 a4 a5 a6 a7 a8 a9 a10 a11 a12 a13 a14 a15) (k0_pay2 (k0_pay178 (F := Ideal)) V p)) l1 l2 l3 l4 := rfl

/-- The weight `λ` of the second softmax. -/
def lamOf (l1 l2 l3 l4 : Fin 64 → EReal) : EReal :=
  Ideal.exp (∑ x, l1 x * l2 x) - Ideal.exp (∑ x, l3 x * l4 x) + Ideal.ofBits .f32 0x3EB60549#32

/-- One entry of a row from the accumulators of its two halves. -/
def comb (A0 A1 : Fin 256 → EReal) (lam : EReal) (c : Fin 128) : EReal :=
  Ideal.div (A0 ⟨c.val, by omega⟩) (A0 ⟨128 + c.val, by omega⟩) - lam * Ideal.div (A1 ⟨c.val, by omega⟩) (A1 ⟨128 + c.val, by omega⟩)

theorem combine_apply (A : Vec Ideal S1024x256 .f32) (l1 l2 l3 l4 : Vec Ideal S1x64 .f32) (r : Fin 512) (c : Fin 128) :
    combine A l1 l2 l3 l4 (ix2 r c) = comb (fun c => A (ix2 ⟨r.val, by omega⟩ c)) (fun c => A (ix2 ⟨512 + r.val, by omega⟩ c))
      (lamOf (fun d => l1 (ix2 0 d)) (fun d => l2 (ix2 0 d)) (fun d => l3 (ix2 0 d)) (fun d => l4 (ix2 0 d))) c := by
  pointwise [combine, comb, lamOf]

end Cert.KernelIdeal.Hand
-- ==== Proof.Trip.lean ====
/-
  Hand-written. One trip of the key loop at the extended reals: what it leaves in the weights, the maxima and the accumulators, each
  as one function of the whole buffer.
-/
module

public import proofs.«01_k».proof.Proof.Blocks
public import proofs.«01_k».proof.Proof.Gen.KernelIdeal.Loops
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

/-! ## Reads of blocks of rows -/

/-- Place `x` of the block of `n` rows from `o` is row `o + x 0`. -/
theorem rows_idx {N W n : ℕ} (o : ℕ) (inb : ∀ a : Fin 2, (![o, 0] : Fin 2 → ℕ) a + (![n, W] : Fin 2 → ℕ) a ≤ (![N, W] : Fin 2 → ℕ) a)
    (r : Fin n) (k : Fin W) (h : o + r.val < N) :
    (Rect.unit (s := ⟨2, ![N, W]⟩) ![o, 0] ![n, W] inb).idx (ix2 r k) = ix2 ⟨o + r.val, h⟩ k := by
  funext a
  match a with
  | 0 => exact Fin.ext (by show o + 1 * r.val = _; simp)
  | 1 => exact Fin.ext (by show 0 + 1 * k.val = _; simp)

theorem readAt_rows {sig : RefSig} {κ : Kind} {sp : Space} {N W n : ℕ} {e : EltTy} (v : View sig κ sp ⟨2, ![N, W]⟩ e) (f : v.ty.Contents (Elt Ideal)) (o : ℕ)
    (inb : ∀ a : Fin 2, (![o, 0] : Fin 2 → ℕ) a + (![n, W] : Fin 2 → ℕ) a ≤ (![N, W] : Fin 2 → ℕ) a) (r : Fin n) (k : Fin W) (h : o + r.val < N) :
    View.readAt (Elt Ideal) v (Rect.unit (s := ⟨2, ![N, W]⟩) ![o, 0] ![n, W] inb).toLoadRect f (ix2 r k) = v.read (Elt Ideal) f (ix2 ⟨o + r.val, h⟩ k) :=
  congrArg (v.read (Elt Ideal) f) (rows_idx o inb r k h)

theorem readCov_rows {sig : RefSig} {κ : Kind} {sp : Space} {N W n : ℕ} {e : EltTy} (v : View sig κ sp ⟨2, ![N, W]⟩ e) (o : ℕ)
    (inb0 : ∀ a : Fin 2, (![0, 0] : Fin 2 → ℕ) a + (![N, W] : Fin 2 → ℕ) a ≤ (![N, W] : Fin 2 → ℕ) a)
    (w : (⟨2, ![N, W]⟩ : Shape).Idx → Elt Ideal e) {L : List (View.Piece (Elt Ideal) ⟨2, ![N, W]⟩ e)}
    (inb : ∀ a : Fin 2, (![o, 0] : Fin 2 → ℕ) a + (![n, W] : Fin 2 → ℕ) a ≤ (![N, W] : Fin 2 → ℕ) a) (r : Fin n) (k : Fin W) (h : o + r.val < N) :
    v.readCov (Val := Elt Ideal) (⟨Rect.unit (s := ⟨2, ![N, W]⟩) ![0, 0] ![N, W] inb0, w⟩ :: L) (Rect.unit (s := ⟨2, ![N, W]⟩) ![o, 0] ![n, W] inb).toLoadRect (ix2 r k)
      = w (ix2 ⟨o + r.val, h⟩ k) := by
  have e := rows_idx 0 inb0 (⟨o + r.val, h⟩ : Fin N) k (by simpa using h)
  have e' : (Rect.unit (s := ⟨2, ![N, W]⟩) ![o, 0] ![n, W] inb).idx (ix2 r k) = (Rect.unit (s := ⟨2, ![N, W]⟩) ![0, 0] ![N, W] inb0).emb (ix2 ⟨o + r.val, h⟩ k) := by
    refine (rows_idx o inb r k h).trans (Eq.trans ?_ e.symm)
    congr 1; exact Fin.ext (by simp)
  have key := View.canon_cons_emb (Val := Elt Ideal) (Rect.unit (s := ⟨2, ![N, W]⟩) ![0, 0] ![N, W] inb0) w L (ix2 ⟨o + r.val, h⟩ k)
  rw [← e'] at key
  rw [View.readCov_eq_canon']
  exact key

/-! ## The step of the whole buffers -/

/-- The new maxima from scores `S` and maxima `M`. -/
def stepM (S : Fin 1024 → Fin 512 → EReal) (M : Fin 1024 → Fin 128 → EReal) (r : Fin 1024) (l : Fin 128) : EReal :=
  max (M r l) (rowMax (S r))

/-- The new weights. -/
def stepP (S : Fin 1024 → Fin 512 → EReal) (M : Fin 1024 → Fin 128 → EReal) (r : Fin 1024) (k : Fin 512) : EReal :=
  Ideal.exp2 (S r k - stepM S M r (lane k))

/-- The new accumulators, the waiting block's products `D` added. -/
def stepA (S : Fin 1024 → Fin 512 → EReal) (M : Fin 1024 → Fin 128 → EReal) (A D : Fin 1024 → Fin 256 → EReal) (r : Fin 1024) (c : Fin 256) : EReal :=
  Ideal.exp2 (M r (lane c) - stepM S M r (lane c)) * (A r c + D r c)

section Pieces

variable {S : Fin 1024 → Fin 512 → EReal} {M : Fin 1024 → Fin 128 → EReal} {A D : Fin 1024 → Fin 256 → EReal}
  {o : ℕ} {s : Vec Ideal S64x512 .f32} {m : Vec Ideal S64x128 .f32} {a : Vec Ideal S64x256 .f32} {d : Vec Ideal S1024x256 .f32}

theorem pieceM (inb : ∀ a : Fin 2, (![o, 0] : Fin 2 → ℕ) a + S64x128.size a ≤ S1024x128.size a)
    (hs : ∀ (r : Fin 64) k (h : o + r.val < 1024), s (ix2 r k) = S ⟨o + r.val, h⟩ k) (hm : ∀ (r : Fin 64) l (h : o + r.val < 1024), m (ix2 r l) = M ⟨o + r.val, h⟩ l)
    (x : S64x128.Idx) :
    shapeCast S64x128 (k0_pay4 s m) shapeCasts_S64x128_S64x128 x
      = (fun y : S1024x128.Idx => stepM S M (y 0) (y 1)) ((Rect.unit (s := S1024x128) ![o, 0] S64x128.size inb).emb x) := by
  obtain ⟨r, l, rfl⟩ : ∃ (r : Fin 64) (l : Fin 128), x = ix2 r l := ⟨x 0, x 1, eq_ix2 x⟩
  have ho : o + 64 ≤ 1024 := inb 0
  have h : o + r.val < 1024 := by omega
  rw [shapeCast_self, pay4_apply, hm r l h]
  refine Eq.trans ?_ (congrArg (fun y : S1024x128.Idx => stepM S M (y 0) (y 1)) (rows_idx o inb r l h).symm)
  show _ = max _ _
  congr 2
  exact funext fun k => hs r k h

theorem pay4_rows (hs : ∀ (r : Fin 64) k (h : o + r.val < 1024), s (ix2 r k) = S ⟨o + r.val, h⟩ k) (hm : ∀ (r : Fin 64) l (h : o + r.val < 1024), m (ix2 r l) = M ⟨o + r.val, h⟩ l)
    (r : Fin 64) (l : Fin 128) (h : o + r.val < 1024) : k0_pay4 s m (ix2 r l) = stepM S M ⟨o + r.val, h⟩ l := by
  rw [pay4_apply, hm r l h, stepM]
  congr 2
  exact funext fun k => hs r k h

theorem pieceP (inb : ∀ a : Fin 2, (![o, 0] : Fin 2 → ℕ) a + S64x512.size a ≤ S1024x512.size a)
    (hs : ∀ (r : Fin 64) k (h : o + r.val < 1024), s (ix2 r k) = S ⟨o + r.val, h⟩ k) (hm : ∀ (r : Fin 64) l (h : o + r.val < 1024), m (ix2 r l) = M ⟨o + r.val, h⟩ l)
    (x : S64x512.Idx) :
    shapeCast S64x512 (k0_pay5 s m) shapeCasts_S64x512_S64x512 x
      = (fun y : S1024x512.Idx => stepP S M (y 0) (y 1)) ((Rect.unit (s := S1024x512) ![o, 0] S64x512.size inb).emb x) := by
  obtain ⟨r, k, rfl⟩ : ∃ (r : Fin 64) (k : Fin 512), x = ix2 r k := ⟨x 0, x 1, eq_ix2 x⟩
  have ho : o + 64 ≤ 1024 := inb 0
  have h : o + r.val < 1024 := by omega
  rw [shapeCast_self, pay5_apply, pay4_rows hs hm r _ h, hs r k h]
  exact (congrArg (fun y : S1024x512.Idx => stepP S M (y 0) (y 1)) (rows_idx o inb r k h).symm)

theorem blkA_rows (hsl : S1024x256.Slices ![o, 0] S64x256)
    (hs : ∀ (r : Fin 64) k (h : o + r.val < 1024), s (ix2 r k) = S ⟨o + r.val, h⟩ k) (hm : ∀ (r : Fin 64) l (h : o + r.val < 1024), m (ix2 r l) = M ⟨o + r.val, h⟩ l)
    (ha : ∀ (r : Fin 64) c (h : o + r.val < 1024), a (ix2 r c) = A ⟨o + r.val, h⟩ c) (hd : ∀ r c, d (ix2 r c) = D r c)
    (r : Fin 64) (c : Fin 256) (h : o + r.val < 1024) :
    blkA o hsl d m (k0_pay4 s m) a (ix2 r c) = stepA S M A D ⟨o + r.val, h⟩ c := by
  rw [blkA_apply _ _ _ _ _ _ _ _ h, pay4_rows hs hm r _ h, hm r _ h, ha r c h, hd]
  rfl

theorem pieceA (inb : ∀ a : Fin 2, (![o, 0] : Fin 2 → ℕ) a + S64x256.size a ≤ S1024x256.size a) (hsl : S1024x256.Slices ![o, 0] S64x256)
    (hs : ∀ (r : Fin 64) k (h : o + r.val < 1024), s (ix2 r k) = S ⟨o + r.val, h⟩ k) (hm : ∀ (r : Fin 64) l (h : o + r.val < 1024), m (ix2 r l) = M ⟨o + r.val, h⟩ l)
    (ha : ∀ (r : Fin 64) c (h : o + r.val < 1024), a (ix2 r c) = A ⟨o + r.val, h⟩ c) (hd : ∀ r c, d (ix2 r c) = D r c) (x : S64x256.Idx) :
    shapeCast S64x256 (blkA o hsl d m (k0_pay4 s m) a) shapeCasts_S64x256_S64x256 x
      = (fun y : S1024x256.Idx => stepA S M A D (y 0) (y 1)) ((Rect.unit (s := S1024x256) ![o, 0] S64x256.size inb).emb x) := by
  obtain ⟨r, c, rfl⟩ : ∃ (r : Fin 64) (c : Fin 256), x = ix2 r c := ⟨x 0, x 1, eq_ix2 x⟩
  have ho : o + 64 ≤ 1024 := inb 0
  have h : o + r.val < 1024 := by omega
  rw [shapeCast_self, blkA_rows hsl hs hm ha hd r c h]
  exact (congrArg (fun y : S1024x256.Idx => stepA S M A D (y 0) (y 1)) (rows_idx o inb r c h).symm)

end Pieces

/-! ## One trip -/

section Trip

variable (𝒱 : Variants) (c : Dev nD) (bd : Option 𝒱.V) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (arg2 v34 : BitVec 32)
    (X4 : BufTy.Contents (Elt Ideal) arg4.view.ty) (X5 : BufTy.Contents (Elt Ideal) arg5.view.ty) (X13 : BufTy.Contents (Elt Ideal) arg13.view.ty)
    (k : Fin (k0_t1_loop i).trips)
    (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty)

/-- The scores of the trip's block of keys. -/
def tripS (r : Fin 1024) (x : Fin 512) : EReal :=
  k0_pay3 (View.readAt (Elt Ideal) arg4.view (Rect.unit (s := S1x4096x128) (k0_off2 i k) S1x512x128.size (k0_off2_inb i k)).toLoadRect X4)
    (View.readAt (Elt Ideal) arg13.view (Rect.unit (s := S1024x128) ![0, 0] S512x128.size inb_S1024x128_S512x128_0_0).toLoadRect X13)
    (View.readAt (Elt Ideal) arg13.view (Rect.unit (s := S1024x128) ![512, 0] S512x128.size inb_S1024x128_S512x128_512_0).toLoadRect X13) (ix2 r x)

/-- The products of the waiting weights with the block of values before. -/
def tripD (r : Fin 1024) (x : Fin 256) : EReal :=
  k0_pay2 (k0_pay178 (F := Ideal)) (View.readAt (Elt Ideal) arg5.view (Rect.unit (s := S1x4096x128) (k0_off1 i k) S1x512x128.size (k0_off1_inb i k)).toLoadRect X5)
    (View.readAt (Elt Ideal) arg15.view (Rect.unit (s := S1024x512) ![0, 0] S1024x512.size inb_S1024x512_S1024x512_0_0).toLoadRect f15) (ix2 r x)

set_option maxHeartbeats 4000000 in
theorem trip_M (y : S1024x128.Idx) : arg16.view.read (Elt Ideal) (arg16.view.writes (Elt Ideal) f16 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 k f14 f15 f16 f17).2.2.1) y
    = stepM (tripS i arg4 arg13 X4 X13 k) (fun r l => arg16.view.read (Elt Ideal) f16 (ix2 r l)) (y 0) (y 1) := by
  unfold tripL_k0_t1 trip_k0_t1
  refine View.read_writes_apply_of_pieces (Val := Elt Ideal) (s := S1024x128) (e := .f32) _ _ (fun y : S1024x128.Idx => stepM (tripS i arg4 arg13 X4 X13 k) (fun r l => arg16.view.read (Elt Ideal) f16 (ix2 r l)) (y 0) (y 1)) _ ?_ y ?_
  rotate_left
  · exact View.cover_of_tiled _ ![64, 128] (by rfl) y
  repeat' refine List.forall_mem_cons.2 ⟨?_, ?_⟩
  all_goals try simp only [trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_3, trip_k0_t1.sl.r_4, trip_k0_t1.sl.r_5, trip_k0_t1.sl.r_6, trip_k0_t1.sl.r_7, trip_k0_t1.sl.r_8, trip_k0_t1.sl.r_9, k0_pay6, k0_pay7, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay179, k0_pay180]
  all_goals first
    | exact fun p hp => absurd hp List.not_mem_nil
    | (intro x; refine pieceM ?_ (fun r k h => readCov_rows _ _ _ _ _ r k h) (fun r l h => readAt_rows _ _ _ _ r l h) x <;> decide)

set_option maxHeartbeats 4000000 in
theorem trip_P (y : S1024x512.Idx) : arg15.view.read (Elt Ideal) (arg15.view.writes (Elt Ideal) f15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 k f14 f15 f16 f17).2.1) y
    = stepP (tripS i arg4 arg13 X4 X13 k) (fun r l => arg16.view.read (Elt Ideal) f16 (ix2 r l)) (y 0) (y 1) := by
  unfold tripL_k0_t1 trip_k0_t1
  refine View.read_writes_apply_of_pieces (Val := Elt Ideal) (s := S1024x512) (e := .bf16) _ _ (fun y : S1024x512.Idx => stepP (tripS i arg4 arg13 X4 X13 k) (fun r l => arg16.view.read (Elt Ideal) f16 (ix2 r l)) (y 0) (y 1)) _ ?_ y ?_
  rotate_left
  · exact View.cover_of_tiled _ ![64, 512] (by rfl) y
  repeat' refine List.forall_mem_cons.2 ⟨?_, ?_⟩
  all_goals try simp only [trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_3, trip_k0_t1.sl.r_4, trip_k0_t1.sl.r_5, trip_k0_t1.sl.r_6, trip_k0_t1.sl.r_7, trip_k0_t1.sl.r_8, trip_k0_t1.sl.r_9, k0_pay6, k0_pay7, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay179, k0_pay180]
  all_goals first
    | exact fun p hp => absurd hp List.not_mem_nil
    | (intro x; refine pieceP ?_ (fun r k h => readCov_rows _ _ _ _ _ r k h) (fun r l h => readAt_rows _ _ _ _ r l h) x <;> decide)

set_option maxHeartbeats 4000000 in
theorem trip_A (y : S1024x256.Idx) : arg17.view.read (Elt Ideal) (arg17.view.writes (Elt Ideal) f17 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 k f14 f15 f16 f17).2.2.2) y
    = stepA (tripS i arg4 arg13 X4 X13 k) (fun r l => arg16.view.read (Elt Ideal) f16 (ix2 r l)) (fun r l => arg17.view.read (Elt Ideal) f17 (ix2 r l)) (tripD i arg5 arg15 X5 k f15) (y 0) (y 1) := by
  unfold tripL_k0_t1 trip_k0_t1
  refine View.read_writes_apply_of_pieces (Val := Elt Ideal) (s := S1024x256) (e := .f32) _ _ (fun y : S1024x256.Idx => stepA (tripS i arg4 arg13 X4 X13 k) (fun r l => arg16.view.read (Elt Ideal) f16 (ix2 r l)) (fun r l => arg17.view.read (Elt Ideal) f17 (ix2 r l)) (tripD i arg5 arg15 X5 k f15) (y 0) (y 1)) _ ?_ y ?_
  rotate_left
  · exact View.cover_of_tiled _ ![64, 256] (by rfl) y
  repeat' refine List.forall_mem_cons.2 ⟨?_, ?_⟩
  all_goals try simp only [trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_3, trip_k0_t1.sl.r_4, trip_k0_t1.sl.r_5, trip_k0_t1.sl.r_6, trip_k0_t1.sl.r_7, trip_k0_t1.sl.r_8, trip_k0_t1.sl.r_9, k0_pay6, k0_pay7, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay179, k0_pay180]
  all_goals first
    | exact fun p hp => absurd hp List.not_mem_nil
    | (intro x; refine pieceA ?_ ?_ (fun r k h => readCov_rows _ _ _ _ _ r k h) (fun r l h => readAt_rows _ _ _ _ r l h) (fun r l h => readAt_rows _ _ _ _ r l h) (fun r c => rfl) x <;> decide)

end Trip

end Cert.KernelIdeal.Hand
-- ==== Proof.Softmax.lean ====
/-
  Hand-written. The online softmax of one row over the extended reals, in base 2: what one block of keys makes of the running
  maximum, the waiting weights and the accumulators, and what the last, masked block leaves.
-/
module

public import Idealize.ShloMosaic.PureOps.Ideal

@[expose] public section

noncomputable section

namespace Cert.Softmax

open Idealize.ShloMosaic

/-- The weight of a score `x` against the maximum `μ`. -/
def wt (x μ : ℝ) : ℝ := Real.rpow 2 (x - μ)

theorem wt_pos (x μ : ℝ) : 0 < wt x μ := Real.rpow_pos_of_pos (by norm_num) _

theorem wt_mul (x μ ν : ℝ) : wt μ ν * wt x μ = wt x ν := by
  have e : μ - ν + (x - μ) = x - ν := by ring
  exact (Real.rpow_add (by norm_num : (0 : ℝ) < 2) (μ - ν) (x - μ)).symm.trans (congrArg (Real.rpow 2) e)

theorem exp2_sub (x μ : ℝ) : Ideal.exp2 ((x : EReal) - (μ : EReal)) = ((wt x μ : ℝ) : EReal) := by
  rw [← EReal.coe_sub, Ideal.exp2_coe]; rfl

theorem exp2_bot_sub (μ : ℝ) : Ideal.exp2 ((⊥ : EReal) - (μ : EReal)) = 0 := by
  rw [EReal.bot_sub]; rfl

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem fold_max_real {ι : Type} (s : Finset ι) (f : ι → EReal) (hf : ∀ i, f i ≠ ⊤) (i₀ : ι) (h0 : i₀ ∈ s) (h : f i₀ ≠ ⊥) :
    ∃ μ : ℝ, s.fold max ⊥ f = (μ : EReal) := by
  have e : s.fold max ⊥ f = s.sup f := rfl
  rw [e]
  have h1 : s.sup f ≠ ⊤ := ((Finset.sup_lt_iff (by simp)).2 fun i _ => lt_top_iff_ne_top.2 (hf i)).ne
  have h2 : s.sup f ≠ ⊥ := fun hb => h (le_bot_iff.1 (hb ▸ Finset.le_sup h0))
  exact ⟨_, (EReal.coe_toReal h1 h2).symm⟩

section Row

variable {C : Type}

/-- What a row holds before block `j` of keys of scores `σ` and value columns `w`: nothing yet, or the maximum `μ`, the weights of
    the block before `j`, and the sums over the blocks before that one. -/
def Inv (σ : ℕ → ℝ) (w : C → ℕ → ℝ) (j : ℕ) (m : Fin 128 → EReal) (p : Fin 512 → EReal) (a : C → EReal) : Prop :=
  (j = 0 ∧ ∀ l, m l = ⊥) ∨
  ∃ j' μ, j = j' + 1 ∧ (∀ l, m l = ((μ : ℝ) : EReal)) ∧ (∀ k : Fin 512, p k = ((wt (σ (512 * j' + k.val)) μ : ℝ) : EReal)) ∧
    ∀ c, a c = ((∑ kk ∈ Finset.range (512 * j'), wt (σ kk) μ * w c kk : ℝ) : EReal)

theorem sum_block (f : ℕ → ℝ) (j n : ℕ) : ∑ kk ∈ Finset.range (512 * j), f kk + ∑ k : Fin n, f (512 * j + k.val)
    = ∑ kk ∈ Finset.range (512 * j + n), f kk := by
  rw [Finset.sum_range_add, ← Fin.sum_univ_eq_sum_range (fun x => f (512 * j + x)) n]

/-- One block: `act` tells the keys that count. -/
theorem step {σ : ℕ → ℝ} {w : C → ℕ → ℝ} {j : ℕ} {m : Fin 128 → EReal} {p : Fin 512 → EReal} {a : C → EReal} (h : Inv σ w j m p a)
    (act : Fin 512 → Prop) [DecidablePred act] (h0 : act 0)
    (s : Fin 512 → EReal) (hs : ∀ k, s k = if act k then ((σ (512 * j + k.val) : ℝ) : EReal) else ⊥)
    (D : C → EReal) (v : C → Fin 512 → EReal) (hD : ∀ c, D c = ∑ k, p k * v c k) (hv : ∀ c k, v c k = ((w c (512 * (j - 1) + k.val) : ℝ) : EReal))
    (lc : C → Fin 128) (lk : Fin 512 → Fin 128)
    (m' : Fin 128 → EReal) (hm' : ∀ l, m' l = max (m l) (Finset.univ.fold max ⊥ s)) :
    ∃ μ : ℝ, (∀ l, m' l = (μ : EReal)) ∧
      (∀ k, Ideal.exp2 (s k - m' (lk k)) = ((if act k then wt (σ (512 * j + k.val)) μ else 0 : ℝ) : EReal)) ∧
      ∀ c, Ideal.exp2 (m (lc c) - m' (lc c)) * (a c + D c) = ((∑ kk ∈ Finset.range (512 * j), wt (σ kk) μ * w c kk : ℝ) : EReal) := by
  obtain ⟨ν, hν⟩ := fold_max_real Finset.univ s (fun k => by rw [hs]; split_ifs <;> simp) 0 (Finset.mem_univ _)
    (by rw [hs, if_pos h0]; simp)
  have hp : ∀ μ : ℝ, (∀ l, m' l = (μ : EReal)) →
      ∀ k, Ideal.exp2 (s k - m' (lk k)) = ((if act k then wt (σ (512 * j + k.val)) μ else 0 : ℝ) : EReal) := by
    intro μ hμ k
    rw [hμ, hs]
    split_ifs
    · exact exp2_sub _ _
    · exact exp2_bot_sub μ
  rcases h with ⟨rfl, hm⟩ | ⟨j', μ, rfl, hm, hpw, ha⟩
  · have hμ : ∀ l, m' l = (ν : EReal) := fun l => by rw [hm', hm, hν]; simp
    refine ⟨ν, hμ, hp ν hμ, fun c => ?_⟩
    rw [hm, hμ, exp2_bot_sub, zero_mul]
    simp
  · have hμ : ∀ l, m' l = ((max μ ν : ℝ) : EReal) := fun l => by rw [hm', hm, hν]; exact (EReal.coe_strictMono.monotone.map_max).symm
    refine ⟨max μ ν, hμ, hp _ hμ, fun c => ?_⟩
    have hDc : D c = ((∑ k : Fin 512, wt (σ (512 * j' + k.val)) μ * w c (512 * j' + k.val) : ℝ) : EReal) := by
      rw [hD, ← coe_sum]
      refine Finset.sum_congr rfl fun k _ => ?_
      rw [hpw, hv, EReal.coe_mul]; rfl
    rw [hm, hμ, exp2_sub, ha, hDc, ← EReal.coe_add, ← EReal.coe_mul, sum_block (fun kk => wt (σ kk) μ * w c kk) j' 512,
      Finset.mul_sum]
    congr 1
    refine Finset.sum_congr (by congr 1) fun kk _ => ?_
    rw [← mul_assoc, wt_mul]

/-- A block of which every key counts carries the invariant on. -/
theorem Inv.next {σ : ℕ → ℝ} {w : C → ℕ → ℝ} {j : ℕ} {m : Fin 128 → EReal} {p : Fin 512 → EReal} {a : C → EReal} (h : Inv σ w j m p a)
    (s : Fin 512 → EReal) (hs : ∀ k, s k = ((σ (512 * j + k.val) : ℝ) : EReal))
    (D : C → EReal) (v : C → Fin 512 → EReal) (hD : ∀ c, D c = ∑ k, p k * v c k) (hv : ∀ c k, v c k = ((w c (512 * (j - 1) + k.val) : ℝ) : EReal))
    (lc : C → Fin 128) (lk : Fin 512 → Fin 128)
    (m' : Fin 128 → EReal) (hm' : ∀ l, m' l = max (m l) (Finset.univ.fold max ⊥ s)) (p' : Fin 512 → EReal) (hp' : ∀ k, p' k = Ideal.exp2 (s k - m' (lk k)))
    (a' : C → EReal) (ha' : ∀ c, a' c = Ideal.exp2 (m (lc c) - m' (lc c)) * (a c + D c)) :
    Inv σ w (j + 1) m' p' a' := by
  obtain ⟨μ, h1, h2, h3⟩ := step h (fun _ => True) trivial s (fun k => by rw [hs, if_pos trivial]) D v hD hv lc lk m' hm'
  exact .inr ⟨j, μ, rfl, h1, fun k => by rw [hp', h2, if_pos trivial], fun c => by rw [ha', h3]⟩

/-- The last block, of which the keys up to `t` count: the accumulators with its own keys added are the sums over all keys. -/
theorem Inv.last {σ : ℕ → ℝ} {w : C → ℕ → ℝ} {j : ℕ} {m : Fin 128 → EReal} {p : Fin 512 → EReal} {a : C → EReal} (h : Inv σ w j m p a)
    (t : ℕ) (ht : t < 512) (s : Fin 512 → EReal) (hs : ∀ k : Fin 512, s k = if k.val ≤ t then ((σ (512 * j + k.val) : ℝ) : EReal) else ⊥)
    (D : C → EReal) (v : C → Fin 512 → EReal) (hD : ∀ c, D c = ∑ k, p k * v c k) (hv : ∀ c k, v c k = ((w c (512 * (j - 1) + k.val) : ℝ) : EReal))
    (lc : C → Fin 128) (lk : Fin 512 → Fin 128)
    (m' : Fin 128 → EReal) (hm' : ∀ l, m' l = max (m l) (Finset.univ.fold max ⊥ s)) (p' : Fin 512 → EReal) (hp' : ∀ k, p' k = Ideal.exp2 (s k - m' (lk k)))
    (a' : C → EReal) (ha' : ∀ c, a' c = Ideal.exp2 (m (lc c) - m' (lc c)) * (a c + D c))
    (v' : C → Fin 512 → EReal) (hv' : ∀ c k, v' c k = ((w c (512 * j + k.val) : ℝ) : EReal)) :
    ∃ μ : ℝ, ∀ c, a' c + ∑ k, p' k * v' c k = ((∑ kk ∈ Finset.range (512 * j + t + 1), wt (σ kk) μ * w c kk : ℝ) : EReal) := by
  obtain ⟨μ, h1, h2, h3⟩ := step h (fun k => k.val ≤ t) (Nat.zero_le _) s hs D v hD hv lc lk m' hm'
  refine ⟨μ, fun c => ?_⟩
  have e : ∀ k : Fin 512, p' k * v' c k = (((fun x : ℕ => if x ≤ t then wt (σ (512 * j + x)) μ * w c (512 * j + x) else 0) k.val : ℝ) : EReal) := fun k => by
    rw [hp', h2, hv', ← EReal.coe_mul]
    congr 1
    show _ = if k.val ≤ t then _ else _
    split_ifs <;> simp
  rw [ha', h3, Finset.sum_congr rfl fun k _ => e k, coe_sum, ← EReal.coe_add,
    Fin.sum_univ_eq_sum_range (fun x : ℕ => if x ≤ t then wt (σ (512 * j + x)) μ * w c (512 * j + x) else 0) 512, ← Finset.sum_filter]
  congr 1
  have hf : (Finset.range 512).filter (fun x => x ≤ t) = Finset.range (t + 1) := by
    ext x; simp; omega
  rw [hf, Nat.add_assoc]
  exact (Finset.sum_range_add _ (512 * j) (t + 1)).symm

end Row

end Cert.Softmax
-- ==== Proof.Loop.lean ====
module

public import proofs.«01_k».proof.Proof.Trip
public import proofs.«01_k».proof.Proof.Softmax
public import Idealize.ShloMosaic.Lib.WordCmp

set_option maxRecDepth 16384

@[expose] public section

open Idealize Idealize.ShloMosaic
open Cert.KernelIdeal Cert.KernelIdeal.Gen
open Idealize.ShloMosaic.TcCoe Idealize.ShloMosaic.Tactic
open Idealize.SL Idealize.SL.RA

noncomputable section

namespace Cert.KernelIdeal.Hand

/-- The first loop runs once for every block of keys before the diagonal one. -/
theorem trips_one (i : grid0.Coords) : (k0_t1_loop i).trips = (i 2).val := by
  have h : ∀ q : Fin 8, Scf.trips 0#32
      (Scalar.addi 0#32 (Scalar.muli (Scalar.divsi (Scalar.subi (BitVec.ofNat 32 q.val) 0#32) 1#32) 1#32)) 1#32
      = q.val := by decide +kernel
  exact h (i 2)

/-- The second loop never runs. -/
theorem trips_two (i : grid0.Coords) : (k0_t2_loop i).trips = 0 := by
  have h : ∀ q : Fin 8, Scf.trips
      (Scalar.addi 0#32 (Scalar.muli (Scalar.divsi (Scalar.subi (BitVec.ofNat 32 q.val) 0#32) 1#32) 1#32))
      (Scalar.addi 0#32 (Scalar.subi (BitVec.ofNat 32 q.val) 0#32)) 1#32 = 0 := by decide +kernel
  exact h (i 2)

theorem trip_lt (i : grid0.Coords) (k : Fin (k0_t1_loop i).trips) : k.val < 8 := by
  have h := k.isLt
  have h2 := (i 2).isLt
  exact lt_trans (lt_of_lt_of_eq h (trips_one i)) h2

/-- The trip's keys begin at row `512 k`. -/
theorem off2_eq (i : grid0.Coords) (k : Fin (k0_t1_loop i).trips) : k0_off2 i k = ![0, 512 * k.val, 0] := by
  have h : ∀ q : Fin 8, (![0, (Scalar.indexCast (Scalar.muli (Scf.iv 0#32 1#32 q.val) 512#32)).toNat, 0] : Fin 3 → ℕ)
      = ![0, 512 * q.val, 0] := by decide +kernel
  exact h ⟨k.val, trip_lt i k⟩

/-- The trip's values belong to the block of keys before. -/
theorem off1_eq (i : grid0.Coords) (k : Fin (k0_t1_loop i).trips) :
    k0_off1 i k = ![0, 512 * (k.val - 1), 0] := by
  have h : ∀ q : Fin 8, (![0, (Scalar.indexCast (Scalar.muli (Scalar.maxsi
      (Scalar.subi (Scf.iv 0#32 1#32 q.val) 1#32) 0#32) 512#32)).toNat, 0] : Fin 3 → ℕ)
      = ![0, 512 * (q.val - 1), 0] := by decide +kernel
  exact h ⟨k.val, trip_lt i k⟩

/-- The diagonal block's keys begin at row `512 q`. -/
theorem off5_eq (i : grid0.Coords) : k0_off5 i = ![0, 512 * (i 2).val, 0] := by
  have h : ∀ q : Fin 8, (![0, (Scalar.indexCast (Scalar.muli (BitVec.ofNat 32 q.val) 512#32)).toNat, 0] : Fin 3 → ℕ)
      = ![0, 512 * q.val, 0] := by decide +kernel
  exact h (i 2)

/-- The block of values before the diagonal one. -/
theorem off6_eq (i : grid0.Coords) : k0_off6 i = ![0, 512 * ((i 2).val - 1), 0] := by
  have h : ∀ q : Fin 8, (![0, (Scalar.indexCast (Scalar.muli (Scalar.maxsi
      (Scalar.subi (BitVec.ofNat 32 q.val) 1#32) 0#32) 512#32)).toNat, 0] : Fin 3 → ℕ)
      = ![0, 512 * (q.val - 1), 0] := by decide +kernel
  exact h (i 2)

/-! ## The invariant of a row -/

/-- Row `k` of the block of keys from `o` is row `o + k` of the buffer. -/
theorem readAt_keys {sig : RefSig} {κ : Kind} {sp : Space} {e : EltTy} (v : View sig κ sp S1x4096x128 e) (f : v.ty.Contents (Elt Ideal)) {off : Fin 3 → ℕ} {o : ℕ}
    (hoff : off = ![0, o, 0]) (inb : ∀ a : Fin 3, off a + S1x512x128.size a ≤ S1x4096x128.size a) (k : Fin 512) (d : Fin 128) (h : o + k.val < 4096) :
    View.readAt (Elt Ideal) v (Rect.unit (s := S1x4096x128) off S1x512x128.size inb).toLoadRect f (ix3 0 k d) = v.read (Elt Ideal) f (ix3 0 ⟨o + k.val, h⟩ d) := by
  subst hoff
  refine congrArg (v.read (Elt Ideal) f) ?_
  funext a
  match a with
  | 0 => rfl
  | 1 => exact Fin.ext (by show o + 1 * k.val = _; simp)
  | 2 => exact Fin.ext (by show 0 + 1 * d.val = _; simp)

/-- The score of row `r` against key `kk`. -/
def score (qr : Fin 1024 → Fin 128 → ℝ) (kr : ℕ → Fin 128 → ℝ) (r : Fin 1024) (kk : ℕ) : ℝ := ∑ d, qr r d * kr kk d

/-- What key `kk` brings to column `c` of the accumulators: its value, or one in the columns that sum the weights. -/
def val (vr : ℕ → Fin 128 → ℝ) (c : Fin 256) (kk : ℕ) : ℝ := if h : c.val < 128 then vr kk ⟨c.val, h⟩ else 1

/-- The scores of one block of keys. -/
theorem scores_eq {qr : Fin 1024 → Fin 128 → ℝ} {kr : ℕ → Fin 128 → ℝ} {o : ℕ} (K : Vec Ideal S1x512x128 .bf16) (q0 q1 : Vec Ideal S512x128 .bf16)
    (hq0 : ∀ (r : Fin 512) d (h : r.val < 1024), q0 (ix2 r d) = ((qr ⟨r.val, h⟩ d : ℝ) : EReal))
    (hq1 : ∀ (r : Fin 512) d (h : 512 + r.val < 1024), q1 (ix2 r d) = ((qr ⟨512 + r.val, h⟩ d : ℝ) : EReal))
    (hK : ∀ (k : Fin 512) d, K (ix3 0 k d) = ((kr (o + k.val) d : ℝ) : EReal)) (r : Fin 1024) (k : Fin 512) :
    k0_pay3 K q0 q1 (ix2 r k) = ((score qr kr r (o + k.val) : ℝ) : EReal) := by
  rw [pay3_apply]
  unfold score
  rw [← Softmax.coe_sum]
  refine Finset.sum_congr rfl fun d _ => ?_
  rw [hK, EReal.coe_mul]
  congr 1
  split_ifs with h
  · exact hq0 ⟨r.val, h⟩ d r.isLt
  · have hr : 512 + (r.val - 512) < 1024 := by omega
    refine (hq1 ⟨r.val - 512, by omega⟩ d hr).trans ?_
    exact congrArg (fun z => ((qr z d : ℝ) : EReal)) (Fin.ext (by show 512 + (r.val - 512) = r.val; omega))

/-- The products of one block of weights with its values. -/
theorem products_eq {vr : ℕ → Fin 128 → ℝ} {o : ℕ} (V : Vec Ideal S1x512x128 .bf16) (p : Vec Ideal S1024x512 .bf16)
    (hV : ∀ (k : Fin 512) d, V (ix3 0 k d) = ((vr (o + k.val) d : ℝ) : EReal)) (r : Fin 1024) (c : Fin 256) :
    k0_pay2 (k0_pay178 (F := Ideal)) V p (ix2 r c) = ∑ k : Fin 512, p (ix2 r k) * ((val vr c (o + k.val) : ℝ) : EReal) := by
  rw [pay2_apply]
  refine Finset.sum_congr rfl fun k _ => ?_
  congr 1
  unfold val
  split_ifs with h
  · exact hV k _
  · rfl

section Loop

variable (𝒱 : Variants) (c : Dev nD) (bd : Option 𝒱.V) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (arg2 v34 : BitVec 32)
    (X4 : BufTy.Contents (Elt Ideal) arg4.view.ty) (X5 : BufTy.Contents (Elt Ideal) arg5.view.ty) (X13 : BufTy.Contents (Elt Ideal) arg13.view.ty)
    (G14 : BufTy.Contents (Elt Ideal) arg14.view.ty) (G15 : BufTy.Contents (Elt Ideal) arg15.view.ty)
    (G16 : BufTy.Contents (Elt Ideal) arg16.view.ty) (G17 : BufTy.Contents (Elt Ideal) arg17.view.ty)

variable {qr : Fin 1024 → Fin 128 → ℝ} {kr vr : ℕ → Fin 128 → ℝ}

theorem tripS_eq (k : Fin (k0_t1_loop i).trips) (hq : ∀ r d, arg13.view.read (Elt Ideal) X13 (ix2 r d) = ((qr r d : ℝ) : EReal))
    (hk : ∀ (kk : Fin 4096) d, arg4.view.read (Elt Ideal) X4 (ix3 0 kk d) = ((kr kk.val d : ℝ) : EReal)) (r : Fin 1024) (x : Fin 512) :
    tripS i arg4 arg13 X4 X13 k r x = ((score qr kr r (512 * k.val + x.val) : ℝ) : EReal) := by
  have hk8 := trip_lt i k
  unfold tripS
  refine scores_eq _ _ _ ?_ ?_ ?_ r x
  · intro r d h
    have h0 : 0 + r.val < 1024 := by omega
    refine (readAt_rows arg13.view X13 0 _ r d h0).trans ((hq _ d).trans ?_)
    exact congrArg (fun z => ((qr z d : ℝ) : EReal)) (Fin.ext (Nat.zero_add r.val))
  · intro r d h
    exact (readAt_rows arg13.view X13 512 _ r d h).trans (hq _ d)
  · intro k' d
    have h : 512 * k.val + k'.val < 4096 := by omega
    exact (readAt_keys arg4.view X4 (off2_eq i k) _ k' d h).trans (hk _ d)

theorem tripD_eq (k : Fin (k0_t1_loop i).trips) (f15 : BufTy.Contents (Elt Ideal) arg15.view.ty)
    (hv : ∀ (kk : Fin 4096) d, arg5.view.read (Elt Ideal) X5 (ix3 0 kk d) = ((vr kk.val d : ℝ) : EReal)) (r : Fin 1024) (x : Fin 256) :
    tripD i arg5 arg15 X5 k f15 r x = ∑ k' : Fin 512, arg15.view.read (Elt Ideal) f15 (ix2 r k') * ((val vr x (512 * (k.val - 1) + k'.val) : ℝ) : EReal) := by
  have hk8 := trip_lt i k
  unfold tripD
  refine (products_eq (vr := vr) (o := 512 * (k.val - 1)) _ _ ?_ r x).trans (Finset.sum_congr rfl fun k' _ => ?_)
  · intro k' d
    have h : 512 * (k.val - 1) + k'.val < 4096 := by omega
    exact (readAt_keys arg5.view X5 (off1_eq i k) _ k' d h).trans (hv _ d)
  · congr 1
    have h0 : 0 + r.val < 1024 := by omega
    refine (readAt_rows arg15.view f15 0 _ r k' h0).trans ?_
    congr 2; exact Fin.ext (by simp)

/-- After `n` trips every row holds the running maximum, the waiting weights and the weighted sums of the keys so far. -/
theorem loop_row (hq : ∀ r d, arg13.view.read (Elt Ideal) X13 (ix2 r d) = ((qr r d : ℝ) : EReal))
    (hk : ∀ (kk : Fin 4096) d, arg4.view.read (Elt Ideal) X4 (ix3 0 kk d) = ((kr kk.val d : ℝ) : EReal))
    (hv : ∀ (kk : Fin 4096) d, arg5.view.read (Elt Ideal) X5 (ix3 0 kk d) = ((vr kk.val d : ℝ) : EReal))
    (r : Fin 1024) (hm : ∀ l, arg16.view.read (Elt Ideal) G16 (ix2 r l) = ⊥) (n : ℕ) (hn : n ≤ (k0_t1_loop i).trips) :
    Softmax.Inv (score qr kr r) (val vr) n
      (fun l => arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 G14 G15 G16 G17 n).2.2.1) (ix2 r l))
      (fun k => arg15.view.read (Elt Ideal) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 G14 G15 G16 G17 n).2.1) (ix2 r k))
      (fun x => arg17.view.read (Elt Ideal) (arg17.view.writes (Elt Ideal) G17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 G14 G15 G16 G17 n).2.2.2) (ix2 r x)) := by
  induction n with
  | zero => exact Or.inl ⟨rfl, hm⟩
  | succ n ih =>
    have hlt : n < (k0_t1_loop i).trips := hn
    have ih := ih (Nat.le_of_lt hlt)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 G14 G15 G16 G17 ⟨n, hlt⟩
    simp only [] at e
    rw [e]
    simp only [View.writes_append]
    refine ih.next (tripS i arg4 arg13 X4 X13 ⟨n, hlt⟩ r) (fun k => tripS_eq i arg4 arg13 X4 X13 ⟨n, hlt⟩ hq hk r k)
      (fun x => tripD i arg5 arg15 X5 ⟨n, hlt⟩ (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 X4 X5 X13 G14 G15 G16 G17 n).2.1) r x)
      (fun x k => ((val vr x (512 * (n - 1) + k.val) : ℝ) : EReal)) (fun x => tripD_eq i arg5 arg15 X5 ⟨n, hlt⟩ _ hv r x) (fun _ _ => rfl)
      lane lane _ ?_ _ ?_ _ ?_
    · intro l; exact trip_M (y := ix2 r l) ..
    · intro k
      refine (trip_P (y := ix2 r k) ..).trans ?_
      refine congrArg (fun z => Ideal.exp2 (tripS i arg4 arg13 X4 X13 ⟨n, hlt⟩ r k - z)) ?_
      exact (trip_M (y := ix2 r (lane k)) ..).symm
    · intro x
      refine (trip_A (y := ix2 r x) ..).trans ?_
      refine congrArg (fun z => Ideal.exp2 (_ - z) * _) ?_
      exact (trip_M (y := ix2 r (lane x)) ..).symm

end Loop

end Cert.KernelIdeal.Hand
-- ==== Proof.Tail.lean ====
/-
  Hand-written. The diagonal block of keys at the extended reals: the masked step of every block of rows, and with it what the row's
  accumulators hold once the last weights are multiplied with their values.
-/
module

public import proofs.«01_k».proof.Proof.Loop
public import proofs.«01_k».proof.Proof.Body
public import Idealize.ShloMosaic.Lib.Pipeline.CanonAppend

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

/-- The block `a` of 64 rows is the rows of `G` from `o`. -/
def Rows {W : ℕ} (G : Fin 1024 → Fin W → EReal) (o : ℕ) (a : (⟨2, ![64, W]⟩ : Shape).Idx → EReal) : Prop :=
  ∀ (r : Fin 64) (c : Fin W) (h : o + r.val < 1024), a (ix2 r c) = G ⟨o + r.val, h⟩ c

theorem stack_rows {G : Fin 1024 → Fin 256 → EReal} {a0 a1 a2 a3 a4 a5 a6 a7 a8 a9 a10 a11 a12 a13 a14 a15 : Vec Ideal S64x256 .f32}
    (h0 : Rows G 0 a0) (h1 : Rows G 64 a1) (h2 : Rows G 128 a2) (h3 : Rows G 192 a3) (h4 : Rows G 256 a4) (h5 : Rows G 320 a5) (h6 : Rows G 384 a6) (h7 : Rows G 448 a7)
    (h8 : Rows G 512 a8) (h9 : Rows G 576 a9) (h10 : Rows G 640 a10) (h11 : Rows G 704 a11) (h12 : Rows G 768 a12) (h13 : Rows G 832 a13) (h14 : Rows G 896 a14)
    (h15 : Rows G 960 a15) (r : Fin 1024) (c : Fin 256) :
    stack a0 a1 a2 a3 a4 a5 a6 a7 a8 a9 a10 a11 a12 a13 a14 a15 (ix2 r c) = G r c := by
  refine stack_apply G ![a0, a1, a2, a3, a4, a5, a6, a7, a8, a9, a10, a11, a12, a13, a14, a15] ?_ r c
  intro b r c
  fin_cases b
  exacts [h0 r c _, h1 r c _, h2 r c _, h3 r c _, h4 r c _, h5 r c _, h6 r c _, h7 r c _, h8 r c _, h9 r c _, h10 r c _, h11 r c _, h12 r c _, h13 r c _, h14 r c _, h15 r c _]

/-- A read of rows from `o` passes over a write of other rows. -/
theorem readCov_skip {sig : RefSig} {κ : Kind} {sp : Space} {N W n : ℕ} {e : EltTy} (v : View sig κ sp ⟨2, ![N, W]⟩ e) (o o' n' : ℕ)
    (inb0 : ∀ a : Fin 2, (![o', 0] : Fin 2 → ℕ) a + (![n', W] : Fin 2 → ℕ) a ≤ (![N, W] : Fin 2 → ℕ) a)
    (w : (⟨2, ![n', W]⟩ : Shape).Idx → Elt Ideal e) (L : List (View.Piece (Elt Ideal) ⟨2, ![N, W]⟩ e))
    (inb : ∀ a : Fin 2, (![o, 0] : Fin 2 → ℕ) a + (![n, W] : Fin 2 → ℕ) a ≤ (![N, W] : Fin 2 → ℕ) a) (r : Fin n) (k : Fin W) (h : o + r.val < N) (ho : o' + n' ≤ o) :
    v.readCov (Val := Elt Ideal) (⟨Rect.unit (s := ⟨2, ![N, W]⟩) ![o', 0] ![n', W] inb0, w⟩ :: L) (Rect.unit (s := ⟨2, ![N, W]⟩) ![o, 0] ![n, W] inb).toLoadRect (ix2 r k)
      = v.readCov (Val := Elt Ideal) L (Rect.unit (s := ⟨2, ![N, W]⟩) ![o, 0] ![n, W] inb).toLoadRect (ix2 r k) := by
  rw [View.readCov_eq_canon', View.readCov_eq_canon']
  refine View.canon_cons_of_not_mem (Val := Elt Ideal) _ L ?_
  intro hm
  have hm := (Rect.mem_set_unit (inb := inb0)).1 hm 0
  have e := congrFun (rows_idx o inb r k h) 0
  have e1 : ((Rect.unit (s := (⟨2, ![N, W]⟩ : Shape)) ![o, 0] ![n, W] inb).toLoadRect.idx (ix2 r k) 0).val = o + r.val := congrArg Fin.val e
  have h1 : ((Rect.unit (s := (⟨2, ![N, W]⟩ : Shape)) ![o, 0] ![n, W] inb).toLoadRect.idx (ix2 r k) 0).val < o' + n' := hm.2
  omega

/-- Scores under the causal mask: row `r` stands at `r % 512` of its half. -/
def masked (S : Fin 1024 → Fin 512 → EReal) (r : Fin 1024) (k : Fin 512) : EReal := if k.val ≤ r.val % 512 then S r k else ⊥

section Blocks

variable {S : Fin 1024 → Fin 512 → EReal} {M : Fin 1024 → Fin 128 → EReal} {A D : Fin 1024 → Fin 256 → EReal}
  {o o' : ℕ} {s : Vec Ideal S64x512 .f32} {m : Vec Ideal S64x128 .f32} {a : Vec Ideal S64x256 .f32} {d : Vec Ideal S1024x256 .f32}

theorem mask_rows (ho : o' ≤ 448 ∧ (o = o' ∨ o = 512 + o')) (hs : Rows S o s) : Rows (masked S) o (blkMask (BitVec.ofNat 32 o') s) := by
  intro r k h
  have hr := r.isLt
  rw [blkMask_apply o' ho.1, hs r k h]
  have e : (o + r.val) % 512 = o' + r.val := by omega
  show _ = if k.val ≤ (o + r.val) % 512 then _ else _
  rw [e]

theorem tailA_rows (ho : o' ≤ 448 ∧ (o = o' ∨ o = 512 + o')) (hsl : S1024x256.Slices ![o, 0] S64x256) (hs : Rows S o s) (hm : Rows M o m) (ha : Rows A o a) (hd : ∀ r c, d (ix2 r c) = D r c) :
    Rows (stepA (masked S) M A D) o (blkA o hsl d m (k0_pay4 (blkMask (BitVec.ofNat 32 o') s) m) a) :=
  fun r c h => blkA_rows hsl (mask_rows ho hs) hm ha hd r c h

theorem tailP_rows (ho : o' ≤ 448 ∧ (o = o' ∨ o = 512 + o')) (inb : ∀ a : Fin 2, (![o, 0] : Fin 2 → ℕ) a + S64x512.size a ≤ S1024x512.size a) (hs : Rows S o s) (hm : Rows M o m) (x : S64x512.Idx) :
    shapeCast S64x512 (k0_pay5 (blkMask (BitVec.ofNat 32 o') s) m) shapeCasts_S64x512_S64x512 x
      = (fun y : S1024x512.Idx => stepP (masked S) M (y 0) (y 1)) ((Rect.unit (s := S1024x512) ![o, 0] S64x512.size inb).emb x) :=
  pieceP inb (mask_rows ho hs) hm x

end Blocks

section Tail

variable (c : Dev nD) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (X3 : BufTy.Contents (Elt Ideal) arg3.view.ty) (X4 : BufTy.Contents (Elt Ideal) arg4.view.ty) (X5 : BufTy.Contents (Elt Ideal) arg5.view.ty)
    (f14 : BufTy.Contents (Elt Ideal) arg14.view.ty) (f15 : BufTy.Contents (Elt Ideal) arg15.view.ty) (f17 : BufTy.Contents (Elt Ideal) arg17.view.ty)

/-- The masked queries of both halves. -/
abbrev qBuf : BufTy.Contents (Elt Ideal) arg13.view.ty := (arg13.view.writes (Elt Ideal) arg13.view.junk (bodyRun.sl.H13_2 (F := Ideal) arg3 X3))

/-- The weights, maxima and accumulators at the loop's entry. -/
abbrev entry15 : BufTy.Contents (Elt Ideal) arg15.view.ty := (dite (bodyRun.sl.v35 i = 1#1) (fun _ => arg15.view.writes (Elt Ideal) f15 [⟨Rect.unit (s := S1024x512) ![0, 0] S1024x512.size inb_S1024x512_S1024x512_0_0, k0_pay177 (F := Ideal)⟩]) (fun _ => f15))

abbrev entry16 : BufTy.Contents (Elt Ideal) arg16.view.ty := (arg16.view.writes (Elt Ideal) arg16.view.junk (bodyRun.sl.H16_1 (F := Ideal)))

abbrev entry17 : BufTy.Contents (Elt Ideal) arg17.view.ty := (dite (bodyRun.sl.v35 i = 1#1) (fun _ => arg17.view.writes (Elt Ideal) f17 [⟨Rect.unit (s := S1024x256) ![0, 0] S1024x256.size inb_S1024x256_S1024x256_0_0, k0_pay176 (F := Ideal)⟩]) (fun _ => f17))

/-- What the loop wrote. -/
abbrev loopPieces := pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (bodyRun.sl.v34 i) X4 X5 (qBuf arg3 arg13 X3) f14 (entry15 i arg15 f15) (entry16 arg16) (entry17 i arg17 f17) (Scf.trips (k0_t1_loop i).lb (k0_t1_loop i).ub (k0_t1_loop i).st)

/-- The scores of the diagonal block, its maxima, accumulators and weights before it, as the loop left them. -/
def diagS (r : Fin 1024) (k : Fin 512) : EReal :=
  k0_pay181 (View.readAt (Elt Ideal) arg4.view (Rect.unit (s := S1x4096x128) (k0_off5 i) S1x512x128.size (k0_off5_inb i)).toLoadRect X4)
    (bodyRun.sl.v47 (F := Ideal) arg3 arg13 X3) (bodyRun.sl.v49 (F := Ideal) arg3 arg13 X3) (ix2 r k)

def diagM (r : Fin 1024) (l : Fin 128) : EReal := arg16.view.read (Elt Ideal) (arg16.view.writes (Elt Ideal) (entry16 arg16) (loopPieces c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17).2.2.1) (ix2 r l)

def diagA (r : Fin 1024) (x : Fin 256) : EReal := arg17.view.read (Elt Ideal) (arg17.view.writes (Elt Ideal) (entry17 i arg17 f17) (loopPieces c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17).2.2.2) (ix2 r x)

def diagD (r : Fin 1024) (x : Fin 256) : EReal := bodyRun.sl.r (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17 (ix2 r x)

/-- The second loop leaves nothing. -/
theorem pb_two_nil {𝒱 : Variants} {c : Dev nD} {bd : Option 𝒱.V} {i : grid0.Coords}
    {arg3 : Memref sig .tc .vmem S1x512x128 .bf16} {harg3 : arg3.IsWhole}
    {arg4 : Memref sig .tc .vmem S1x4096x128 .bf16} {harg4 : arg4.IsWhole}
    {arg5 : Memref sig .tc .vmem S1x4096x128 .bf16} {harg5 : arg5.IsWhole}
    {arg6 : Memref sig .tc .vmem S1x512x128 .f32} {harg6 : arg6.IsWhole}
    {arg7 : Memref sig .tc .vmem S1x64 .f32} {harg7 : arg7.IsWhole}
    {arg8 : Memref sig .tc .vmem S1x64 .f32} {harg8 : arg8.IsWhole}
    {arg9 : Memref sig .tc .vmem S1x64 .f32} {harg9 : arg9.IsWhole}
    {arg10 : Memref sig .tc .vmem S1x64 .f32} {harg10 : arg10.IsWhole}
    {arg11 : Memref sig .tc .vmem S1x128 .f32} {harg11 : arg11.IsWhole}
    {arg12 : Memref sig .tc .vmem S1x512x128 .bf16} {harg12 : arg12.IsWhole}
    {arg13 : Memref sig .tc .vmem S1024x128 .bf16} {harg13 : arg13.IsWhole}
    {arg14 : Memref sig .tc .vmem S1024x512 .f32} {harg14 : arg14.IsWhole}
    {arg15 : Memref sig .tc .vmem S1024x512 .bf16} {harg15 : arg15.IsWhole}
    {arg16 : Memref sig .tc .vmem S1024x128 .f32} {harg16 : arg16.IsWhole}
    {arg17 : Memref sig .tc .vmem S1024x256 .f32} {harg17 : arg17.IsWhole}
    {arg2 v34 v41 : BitVec 32} {X4 : BufTy.Contents (Elt Ideal) arg4.view.ty} {X5 : BufTy.Contents (Elt Ideal) arg5.view.ty} {X13 : BufTy.Contents (Elt Ideal) arg13.view.ty}
    {f14 : BufTy.Contents (Elt Ideal) arg14.view.ty} {f15 : BufTy.Contents (Elt Ideal) arg15.view.ty}
    {f16 : BufTy.Contents (Elt Ideal) arg16.view.ty} {f17 : BufTy.Contents (Elt Ideal) arg17.view.ty} (n : ℕ) (h : n = 0) :
    pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v34 v41 X4 X5 X13 f14 f15 f16 f17 n = ([], [], [], []) := by
  subst h; rfl

theorem diag_scores : Rows (diagS i arg3 arg4 arg13 X3 X4) 0 (bodyRun.sl.v65 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 64 (bodyRun.sl.v95 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 128 (bodyRun.sl.v125 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 192 (bodyRun.sl.v155 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 256 (bodyRun.sl.v185 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 320 (bodyRun.sl.v215 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 384 (bodyRun.sl.v245 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 448 (bodyRun.sl.v275 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 512 (bodyRun.sl.v305 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 576 (bodyRun.sl.v335 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 640 (bodyRun.sl.v365 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 704 (bodyRun.sl.v395 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 768 (bodyRun.sl.v425 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 832 (bodyRun.sl.v455 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 896 (bodyRun.sl.v485 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagS i arg3 arg4 arg13 X3 X4) 960 (bodyRun.sl.v515 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) := by
  refine ⟨?_, ?_, ?_, ?_, ?_, ?_, ?_, ?_, ?_, ?_, ?_, ?_, ?_, ?_, ?_, ?_⟩
  all_goals exact fun r k h => readCov_rows arg14.view _ _ _ _ r k h

set_option maxHeartbeats 4000000 in
theorem diag_maxima : Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 0 (bodyRun.sl.v73 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 64 (bodyRun.sl.v103 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 128 (bodyRun.sl.v133 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 192 (bodyRun.sl.v163 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 256 (bodyRun.sl.v193 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 320 (bodyRun.sl.v223 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 384 (bodyRun.sl.v253 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 448 (bodyRun.sl.v283 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 512 (bodyRun.sl.v313 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 576 (bodyRun.sl.v343 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 640 (bodyRun.sl.v373 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 704 (bodyRun.sl.v403 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 768 (bodyRun.sl.v433 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 832 (bodyRun.sl.v463 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 896 (bodyRun.sl.v493 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 960 (bodyRun.sl.v523 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) := by
  refine ⟨?_, ?_, ?_, ?_, ?_, ?_, ?_, ?_, ?_, ?_, ?_, ?_, ?_, ?_, ?_, ?_⟩
  all_goals
    intro r l h
    repeat refine (readCov_skip _ _ _ _ _ _ _ _ _ _ h (by decide)).trans ?_
    try unfold bodyRun.sl.v73
    rw [pb_two_nil _ (trips_two i), List.nil_append, View.readCov, View.writes_append]
    exact readAt_rows _ _ _ _ _ _ h

set_option maxHeartbeats 4000000 in
theorem diag_sums : Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 0 (bodyRun.sl.v88 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 64 (bodyRun.sl.v118 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 128 (bodyRun.sl.v148 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 192 (bodyRun.sl.v178 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 256 (bodyRun.sl.v208 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 320 (bodyRun.sl.v238 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 384 (bodyRun.sl.v268 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 448 (bodyRun.sl.v298 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 512 (bodyRun.sl.v328 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 576 (bodyRun.sl.v358 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 640 (bodyRun.sl.v388 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 704 (bodyRun.sl.v418 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 768 (bodyRun.sl.v448 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 832 (bodyRun.sl.v478 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 896 (bodyRun.sl.v508 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) ∧ Rows (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) 960 (bodyRun.sl.v538 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) := by
  simp only [bodyRun.sl.v88, bodyRun.sl.v118, bodyRun.sl.v148, bodyRun.sl.v178, bodyRun.sl.v208, bodyRun.sl.v238, bodyRun.sl.v268, bodyRun.sl.v298, bodyRun.sl.v328, bodyRun.sl.v358, bodyRun.sl.v388, bodyRun.sl.v418, bodyRun.sl.v448, bodyRun.sl.v478, bodyRun.sl.v508, bodyRun.sl.v538]
  refine ⟨?_, ?_, ?_, ?_, ?_, ?_, ?_, ?_, ?_, ?_, ?_, ?_, ?_, ?_, ?_, ?_⟩
  all_goals
    intro r l h
    rw [pb_two_nil _ (trips_two i), List.nil_append]
    exact readAt_rows _ _ _ _ _ _ h

set_option maxHeartbeats 4000000 in
/-- The accumulators after the diagonal block's step. -/
theorem diag_acc (r : Fin 1024) (x : Fin 256) :
    stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (ix2 r x) = stepA (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (diagD c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r x := by
  obtain ⟨s0, s1, s2, s3, s4, s5, s6, s7, s8, s9, s10, s11, s12, s13, s14, s15⟩ := diag_scores c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17
  obtain ⟨m0, m1, m2, m3, m4, m5, m6, m7, m8, m9, m10, m11, m12, m13, m14, m15⟩ := diag_maxima c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17
  obtain ⟨a0, a1, a2, a3, a4, a5, a6, a7, a8, a9, a10, a11, a12, a13, a14, a15⟩ := diag_sums c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17
  refine stack_rows ?_ ?_ ?_ ?_ ?_ ?_ ?_ ?_ ?_ ?_ ?_ ?_ ?_ ?_ ?_ ?_ r x
  all_goals
    simp only [bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_4, bodyRun.sl.r_5, bodyRun.sl.r_6, bodyRun.sl.r_7, bodyRun.sl.r_8, bodyRun.sl.r_9, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270]
    refine tailA_rows ?_ _ ?_ ?_ ?_ (fun r c => rfl)
    rotate_left
    all_goals first | assumption | decide

set_option maxHeartbeats 4000000 in
/-- The weights of the diagonal block. -/
theorem diag_weights (r : Fin 1024) (k : Fin 512) : (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (ix2 r k) = stepP (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r k := by
  obtain ⟨s0, s1, s2, s3, s4, s5, s6, s7, s8, s9, s10, s11, s12, s13, s14, s15⟩ := diag_scores c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17
  obtain ⟨m0, m1, m2, m3, m4, m5, m6, m7, m8, m9, m10, m11, m12, m13, m14, m15⟩ := diag_maxima c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17
  have hr : 0 + r.val < 1024 := by omega
  unfold bodyRun.sl.v552 bodyRun.sl.H15_16
  rw [View.readCov_eq_canon']
  refine (View.canon_append_of_pieces (Val := Elt Ideal) (S := S1024x512) (e := .bf16) (fun y : S1024x512.Idx => stepP (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (y 0) (y 1)) _ [_, _, _, _, _, _, _, _, _, _, _, _, _, _, _, _] ?_ _ ?_).trans ?_
  rotate_left
  · exact View.cover_of_tiled _ ![64, 512] (by rfl) _
  · refine (congrArg (fun y : S1024x512.Idx => stepP (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (y 0) (y 1)) (rows_idx 0 inb_S1024x512_S1024x512_0_0 r k hr)).trans ?_
    show stepP _ _ _ k = _
    congr 1
    exact Fin.ext (Nat.zero_add r.val)
  repeat' refine List.forall_mem_cons.2 ⟨?_, ?_⟩
  all_goals try simp only [bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_4, bodyRun.sl.r_5, bodyRun.sl.r_6, bodyRun.sl.r_7, bodyRun.sl.r_8, bodyRun.sl.r_9, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270]
  all_goals first
    | exact fun p hp => absurd hp List.not_mem_nil
    | (intro x
       refine tailP_rows ?_ ?_ ?_ ?_ x
       rotate_left
       all_goals first | assumption | decide)

end Tail

end Cert.KernelIdeal.Hand
-- ==== Proof.Row.lean ====
/-
  Hand-written. One row of the kernel body's block at the extended reals: the difference of two averages of the values, normalised and
  gated.
-/
module

public import proofs.«01_k».proof.Proof.Tail

@[expose] public section

set_option maxRecDepth 16384

noncomputable section

namespace Cert.Softmax

open Idealize Idealize.ShloMosaic

/-- The average of `f` over the first `n` keys, key `kk` weighing two to the power of its score. -/
def avg (σ f : ℕ → ℝ) (n : ℕ) : ℝ := (∑ kk ∈ Finset.range n, Real.rpow 2 (σ kk) * f kk) / ∑ kk ∈ Finset.range n, Real.rpow 2 (σ kk)

theorem avg_shift (σ f : ℕ → ℝ) (n : ℕ) (μ : ℝ) :
    (∑ kk ∈ Finset.range n, wt (σ kk) μ * f kk) / (∑ kk ∈ Finset.range n, wt (σ kk) μ) = avg σ f n := by
  have e : ∀ x, wt x μ = wt 0 μ * Real.rpow 2 x := fun x => by
    have h := wt_mul x 0 μ
    rw [← h]; unfold wt; simp
  have h0 : wt 0 μ ≠ 0 := (wt_pos 0 μ).ne'
  have h1 : ∑ kk ∈ Finset.range n, wt (σ kk) μ * f kk = wt 0 μ * ∑ kk ∈ Finset.range n, Real.rpow 2 (σ kk) * f kk := by
    rw [Finset.mul_sum]; exact Finset.sum_congr rfl fun kk _ => by rw [e (σ kk), mul_assoc]
  have h2 : ∑ kk ∈ Finset.range n, wt (σ kk) μ = wt 0 μ * ∑ kk ∈ Finset.range n, Real.rpow 2 (σ kk) := by
    rw [Finset.mul_sum]; exact Finset.sum_congr rfl fun kk _ => e (σ kk)
  rw [h1, h2, mul_div_mul_left _ _ h0]; rfl

/-- A row's sums divided by its weights are the average. -/
theorem div_avg (σ f : ℕ → ℝ) (n : ℕ) (hn : 0 < n) (μ : ℝ) :
    Ideal.div ((∑ kk ∈ Finset.range n, wt (σ kk) μ * f kk : ℝ) : EReal) ((∑ kk ∈ Finset.range n, wt (σ kk) μ * 1 : ℝ) : EReal) = ((avg σ f n : ℝ) : EReal) := by
  have e : ∑ kk ∈ Finset.range n, wt (σ kk) μ * 1 = ∑ kk ∈ Finset.range n, wt (σ kk) μ := Finset.sum_congr rfl fun _ _ => mul_one _
  have hpos : 0 < ∑ kk ∈ Finset.range n, wt (σ kk) μ := Finset.sum_pos (fun kk _ => wt_pos _ _) ⟨0, Finset.mem_range.2 hn⟩
  rw [e, Ideal.div_coe hpos.ne', ← EReal.coe_mul, mul_one_div, avg_shift]

end Cert.Softmax

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

/-- The queries of both halves, each keeping its own half of the lanes. -/
def halves (q : ℕ → Fin 128 → ℝ) (r : Fin 1024) (d : Fin 128) : ℝ :=
  if r.val < 512 then (if d.val < 64 then q r.val d else 0) else (if d.val < 64 then 0 else q (r.val - 512) d)

section Row

variable (c : Dev nD) (i : grid0.Coords)
    (arg3 : Memref sig .tc .vmem S1x512x128 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x512x128 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x128 .f32) (harg11 : arg11.IsWhole)
    (arg12 : Memref sig .tc .vmem S1x512x128 .bf16) (harg12 : arg12.IsWhole)
    (arg13 : Memref sig .tc .vmem S1024x128 .bf16) (harg13 : arg13.IsWhole)
    (arg14 : Memref sig .tc .vmem S1024x512 .f32) (harg14 : arg14.IsWhole)
    (arg15 : Memref sig .tc .vmem S1024x512 .bf16) (harg15 : arg15.IsWhole)
    (arg16 : Memref sig .tc .vmem S1024x128 .f32) (harg16 : arg16.IsWhole)
    (arg17 : Memref sig .tc .vmem S1024x256 .f32) (harg17 : arg17.IsWhole)
    (X3 : BufTy.Contents (Elt Ideal) arg3.view.ty) (X4 : BufTy.Contents (Elt Ideal) arg4.view.ty) (X5 : BufTy.Contents (Elt Ideal) arg5.view.ty)
    (f14 : BufTy.Contents (Elt Ideal) arg14.view.ty) (f15 : BufTy.Contents (Elt Ideal) arg15.view.ty) (f17 : BufTy.Contents (Elt Ideal) arg17.view.ty)
    {q kr vr : ℕ → Fin 128 → ℝ}

theorem readAt_all {sig : RefSig} {κ : Kind} {sp : Space} {A W : ℕ} {e : EltTy} (v : View sig κ sp ⟨3, ![1, A, W]⟩ e) (f : v.ty.Contents (Elt Ideal))
    (inb : ∀ a : Fin 3, (![0, 0, 0] : Fin 3 → ℕ) a + (![1, A, W] : Fin 3 → ℕ) a ≤ (![1, A, W] : Fin 3 → ℕ) a) (r : Fin A) (k : Fin W) :
    View.readAt (Elt Ideal) v (Rect.unit (s := ⟨3, ![1, A, W]⟩) ![0, 0, 0] ![1, A, W] inb).toLoadRect f (ix3 0 r k) = v.read (Elt Ideal) f (ix3 0 r k) := by
  refine congrArg (v.read (Elt Ideal) f) ?_
  funext a
  match a with
  | 0 => rfl
  | 1 => exact Fin.ext (by show 0 + 1 * r.val = r.val; omega)
  | 2 => exact Fin.ext (by show 0 + 1 * k.val = k.val; omega)

theorem halves_read (hq : ∀ (r : Fin 512) d, arg3.view.read (Elt Ideal) X3 (ix3 0 r d) = ((q r.val d : ℝ) : EReal)) (r : Fin 1024) (d : Fin 128) :
    arg13.view.read (Elt Ideal) (qBuf arg3 arg13 X3) (ix2 r d) = ((halves q r d : ℝ) : EReal) := by
  unfold qBuf bodyRun.sl.H13_2
  refine View.read_writes_apply_of_pieces (Val := Elt Ideal) (s := S1024x128) (e := .bf16) _ _ (fun y : S1024x128.Idx => ((halves q (y 0) (y 1) : ℝ) : EReal)) _ ?_ (ix2 r d) ?_
  · refine List.forall_mem_cons.2 ⟨?_, List.forall_mem_cons.2 ⟨?_, fun p hp => absurd hp List.not_mem_nil⟩⟩
    · intro x
      obtain ⟨r, d, rfl⟩ : ∃ (r : Fin 512) (d : Fin 128), x = ix2 r d := ⟨x 0, x 1, eq_ix2 x⟩
      refine (pay174_apply _ r d).trans ?_
      refine Eq.trans ?_ (congrArg (fun y : S1024x128.Idx => ((halves q (y 0) (y 1) : ℝ) : EReal)) (rows_idx 512 inb_S1024x128_S512x128_512_0 r d (by omega)).symm)
      show _ = ((halves q ⟨512 + r.val, _⟩ d : ℝ) : EReal)
      have e : 512 + r.val - 512 = r.val := by omega
      unfold halves
      rw [if_neg (show ¬ 512 + r.val < 512 by omega)]
      show _ = ((if d.val < 64 then (0 : ℝ) else q (512 + r.val - 512) d : ℝ) : EReal)
      rw [e]
      split_ifs
      · rfl
      · exact (readAt_all arg3.view X3 _ r d).trans (hq r d)
    · intro x
      obtain ⟨r, d, rfl⟩ : ∃ (r : Fin 512) (d : Fin 128), x = ix2 r d := ⟨x 0, x 1, eq_ix2 x⟩
      have h0 : 0 + r.val < 1024 := by omega
      refine (pay173_apply _ r d).trans ?_
      refine Eq.trans ?_ (congrArg (fun y : S1024x128.Idx => ((halves q (y 0) (y 1) : ℝ) : EReal)) (rows_idx 0 inb_S1024x128_S512x128_0_0 r d h0).symm)
      have e : (⟨0 + r.val, h0⟩ : Fin 1024) = ⟨r.val, by omega⟩ := Fin.ext (Nat.zero_add _)
      show _ = ((halves q ⟨0 + r.val, _⟩ d : ℝ) : EReal)
      rw [e]
      unfold halves
      rw [if_pos (show r.val < 512 from r.isLt)]
      show _ = ((if d.val < 64 then q r.val d else (0 : ℝ) : ℝ) : EReal)
      split_ifs
      · exact (readAt_all arg3.view X3 _ r d).trans (hq r d)
      · rfl
  · exact View.cover_of_tiled _ ![512, 128] (by rfl) _

theorem entry_bot (r : Fin 1024) (l : Fin 128) : arg16.view.read (Elt Ideal) (entry16 arg16) (ix2 r l) = (⊥ : EReal) := by
  unfold entry16 bodyRun.sl.H16_1
  refine View.read_writes_apply_of_pieces (Val := Elt Ideal) (s := S1024x128) (e := .f32) _ _ (fun _ : S1024x128.Idx => (⊥ : EReal)) _ ?_ (ix2 r l) ?_
  · refine List.forall_mem_cons.2 ⟨fun x => ?_, fun p hp => absurd hp List.not_mem_nil⟩
    exact ofBits_bot
  · exact View.cover_of_tiled _ ![1024, 128] (by rfl) _

/-- The weights the loop left. -/
def diagP (r : Fin 1024) (k : Fin 512) : EReal := arg15.view.read (Elt Ideal) (arg15.view.writes (Elt Ideal) (entry15 i arg15 f15) (loopPieces c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17).2.1) (ix2 r k)

set_option maxHeartbeats 1000000 in
theorem loop_end (hq : ∀ (r : Fin 512) d, arg3.view.read (Elt Ideal) X3 (ix3 0 r d) = ((q r.val d : ℝ) : EReal))
    (hk : ∀ (kk : Fin 4096) d, arg4.view.read (Elt Ideal) X4 (ix3 0 kk d) = ((kr kk.val d : ℝ) : EReal))
    (hv : ∀ (kk : Fin 4096) d, arg5.view.read (Elt Ideal) X5 (ix3 0 kk d) = ((vr kk.val d : ℝ) : EReal))
    (r : Fin 1024) : Softmax.Inv (score (halves q) kr r) (val vr) (i 2).val ((diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) ((diagP c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) ((diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) := by
  have hL : Softmax.Inv (score (halves q) kr r) (val vr) (Scf.trips (k0_t1_loop i).lb (k0_t1_loop i).ub (k0_t1_loop i).st) ((diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) ((diagP c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) ((diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) :=
    loop_row Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (bodyRun.sl.v34 i) X4 X5 (qBuf arg3 arg13 X3) f14 (entry15 i arg15 f15) (entry16 arg16) (entry17 i arg17 f17) (halves_read arg3 arg13 X3 hq) hk hv r
      (entry_bot arg16 r) (Scf.trips (k0_t1_loop i).lb (k0_t1_loop i).ub (k0_t1_loop i).st) le_rfl
  have e : Scf.trips (k0_t1_loop i).lb (k0_t1_loop i).ub (k0_t1_loop i).st = (i 2).val := trips_one i
  rw [e] at hL
  exact hL

set_option maxHeartbeats 1000000 in
/-- The accumulators with the last block's products: weighted sums over the keys the row sees. -/
theorem sums_row (hq : ∀ (r : Fin 512) d, arg3.view.read (Elt Ideal) X3 (ix3 0 r d) = ((q r.val d : ℝ) : EReal))
    (hk : ∀ (kk : Fin 4096) d, arg4.view.read (Elt Ideal) X4 (ix3 0 kk d) = ((kr kk.val d : ℝ) : EReal))
    (hv : ∀ (kk : Fin 4096) d, arg5.view.read (Elt Ideal) X5 (ix3 0 kk d) = ((vr kk.val d : ℝ) : EReal))
    (r : Fin 1024) : ∃ μ : ℝ, ∀ x : Fin 256, (addf (stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)) (k0_pay2 (k0_pay178 (F := Ideal)) (View.readAt (Elt Ideal) arg5.view (Rect.unit (s := S1x4096x128) (k0_off5 i) S1x512x128.size (k0_off5_inb i)).toLoadRect X5) (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17))) (ix2 r x)
      = ((∑ kk ∈ Finset.range (512 * (i 2).val + r.val % 512 + 1), Softmax.wt (score (halves q) kr r kk) μ * val vr x kk : ℝ) : EReal) := by
  have hi := (i 2).isLt
  have hi : (i 2).val < 8 := hi
  have hQ := halves_read arg3 arg13 X3 hq
  have hL := loop_end c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17 hq hk hv r
  have hs : ∀ k : Fin 512, masked (diagS i arg3 arg4 arg13 X3 X4) r k = if k.val ≤ r.val % 512 then ((score (halves q) kr r (512 * (i 2).val + k.val) : ℝ) : EReal) else ⊥ := by
    intro k
    unfold masked
    congr 1
    unfold diagS
    refine scores_eq (qr := halves q) (kr := kr) (o := 512 * (i 2).val) _ _ _ ?_ ?_ ?_ r k
    · intro r d h
      have h0 : 0 + r.val < 1024 := by omega
      refine (readAt_rows arg13.view (qBuf arg3 arg13 X3) 0 _ r d h0).trans ((hQ _ d).trans ?_)
      exact congrArg (fun z => ((halves q z d : ℝ) : EReal)) (Fin.ext (Nat.zero_add r.val))
    · intro r d h
      exact (readAt_rows arg13.view (qBuf arg3 arg13 X3) 512 _ r d h).trans (hQ _ d)
    · intro k d
      have h : 512 * (i 2).val + k.val < 4096 := by omega
      exact (readAt_keys arg4.view X4 (off5_eq i) _ k d h).trans (hk _ d)
  have hD : ∀ x : Fin 256, (diagD c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r x = ∑ k : Fin 512, (diagP c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r k * ((val vr x (512 * ((i 2).val - 1) + k.val) : ℝ) : EReal) := by
    intro x
    unfold diagD
    refine (products_eq (vr := vr) (o := 512 * ((i 2).val - 1)) _ _ ?_ r x).trans (Finset.sum_congr rfl fun k _ => ?_)
    · intro k d
      have h : 512 * ((i 2).val - 1) + k.val < 4096 := by omega
      exact (readAt_keys arg5.view X5 (off6_eq i) _ k d h).trans (hv _ d)
    · congr 1
      have h0 : 0 + r.val < 1024 := by omega
      unfold bodyRun.sl.v63
      rw [pb_two_nil _ (trips_two i), List.nil_append]
      refine (readAt_rows arg15.view _ 0 _ r k h0).trans ?_
      congr 2; exact Fin.ext (Nat.zero_add r.val)
  obtain ⟨μ, h⟩ := hL.last (r.val % 512) (Nat.mod_lt _ (by norm_num)) (masked (diagS i arg3 arg4 arg13 X3 X4) r) hs ((diagD c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r)
    (fun x k => ((val vr x (512 * ((i 2).val - 1) + k.val) : ℝ) : EReal)) hD (fun _ _ => rfl) lane lane
    (stepM (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) (fun l => rfl) (stepP (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) (fun k => rfl)
    (stepA (masked (diagS i arg3 arg4 arg13 X3 X4)) (diagM c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (diagA c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (diagD c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) r) (fun x => rfl) (fun x k => ((val vr x (512 * (i 2).val + k.val) : ℝ) : EReal)) (fun _ _ => rfl)
  refine ⟨μ, fun x => Eq.trans ?_ (h x)⟩
  show _ + _ = _
  rw [diag_acc]
  congr 1
  refine (products_eq (vr := vr) (o := 512 * (i 2).val) _ _ ?_ r x).trans (Finset.sum_congr rfl fun k _ => ?_)
  · intro k d
    have h : 512 * (i 2).val + k.val < 4096 := by omega
    exact (readAt_keys arg5.view X5 (off5_eq i) _ k d h).trans (hv _ d)
  · rw [diag_weights]

/-- The entry of row `r` before normalisation. -/
def headOf (q kr vr : ℕ → Fin 128 → ℝ) (lam : EReal) (n : ℕ) (r : Fin 512) (x : Fin 128) : EReal :=
  ((Softmax.avg (score (halves q) kr ⟨r.val, by omega⟩) (fun kk => vr kk x) n : ℝ) : EReal)
    - lam * ((Softmax.avg (score (halves q) kr ⟨512 + r.val, by omega⟩) (fun kk => vr kk x) n : ℝ) : EReal)

theorem head_row (hq : ∀ (r : Fin 512) d, arg3.view.read (Elt Ideal) X3 (ix3 0 r d) = ((q r.val d : ℝ) : EReal))
    (hk : ∀ (kk : Fin 4096) d, arg4.view.read (Elt Ideal) X4 (ix3 0 kk d) = ((kr kk.val d : ℝ) : EReal))
    (hv : ∀ (kk : Fin 4096) d, arg5.view.read (Elt Ideal) X5 (ix3 0 kk d) = ((vr kk.val d : ℝ) : EReal))
    (l1 l2 l3 l4 : Vec Ideal S1x64 .f32) (r : Fin 512) (x : Fin 128) :
    combine (addf (stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)) (k0_pay2 (k0_pay178 (F := Ideal)) (View.readAt (Elt Ideal) arg5.view (Rect.unit (s := S1x4096x128) (k0_off5 i) S1x512x128.size (k0_off5_inb i)).toLoadRect X5) (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17))) l1 l2 l3 l4 (ix2 r x)
      = headOf q kr vr (lamOf (fun d => l1 (ix2 0 d)) (fun d => l2 (ix2 0 d)) (fun d => l3 (ix2 0 d)) (fun d => l4 (ix2 0 d))) (512 * (i 2).val + r.val + 1) r x := by
  have hx := x.isLt
  have key : ∀ (r' : Fin 1024) (hr : r'.val % 512 = r.val), Ideal.div ((addf (stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)) (k0_pay2 (k0_pay178 (F := Ideal)) (View.readAt (Elt Ideal) arg5.view (Rect.unit (s := S1x4096x128) (k0_off5 i) S1x512x128.size (k0_off5_inb i)).toLoadRect X5) (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17))) (ix2 r' ⟨x.val, by omega⟩)) ((addf (stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)) (k0_pay2 (k0_pay178 (F := Ideal)) (View.readAt (Elt Ideal) arg5.view (Rect.unit (s := S1x4096x128) (k0_off5 i) S1x512x128.size (k0_off5_inb i)).toLoadRect X5) (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17))) (ix2 r' ⟨128 + x.val, by omega⟩))
      = ((Softmax.avg (score (halves q) kr r') (fun kk => vr kk x) (512 * (i 2).val + r.val + 1) : ℝ) : EReal) := by
    intro r' hr
    obtain ⟨μ, h⟩ := sums_row c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17 hq hk hv r'
    rw [h, h, hr]
    have e0 : ∀ kk, val vr (⟨x.val, by omega⟩ : Fin 256) kk = vr kk x := fun kk => dif_pos hx
    have e1 : ∀ kk, val vr (⟨128 + x.val, by omega⟩ : Fin 256) kk = 1 := fun kk => dif_neg (by show ¬ 128 + x.val < 128; omega)
    simp only [e0, e1]
    exact Softmax.div_avg _ _ _ (Nat.succ_pos _) μ
  rw [combine_apply]
  unfold comb headOf
  rw [key ⟨r.val, by omega⟩ (Nat.mod_eq_of_lt r.isLt), key ⟨512 + r.val, by omega⟩ (by show (512 + r.val) % 512 = r.val; omega)]

variable (X6 : BufTy.Contents (Elt Ideal) arg6.view.ty) (X7 : BufTy.Contents (Elt Ideal) arg7.view.ty) (X8 : BufTy.Contents (Elt Ideal) arg8.view.ty)
    (X9 : BufTy.Contents (Elt Ideal) arg9.view.ty) (X10 : BufTy.Contents (Elt Ideal) arg10.view.ty) (X11 : BufTy.Contents (Elt Ideal) arg11.view.ty)
    (f13 : BufTy.Contents (Elt Ideal) arg13.view.ty) (f16 : BufTy.Contents (Elt Ideal) arg16.view.ty) (f12 : BufTy.Contents (Elt Ideal) arg12.view.ty)

theorem readAt_row {sig : RefSig} {κ : Kind} {sp : Space} {W : ℕ} {e : EltTy} (v : View sig κ sp ⟨2, ![1, W]⟩ e) (f : v.ty.Contents (Elt Ideal))
    (inb : ∀ a : Fin 2, (![0, 0] : Fin 2 → ℕ) a + (![1, W] : Fin 2 → ℕ) a ≤ (![1, W] : Fin 2 → ℕ) a) (k : Fin W) :
    View.readAt (Elt Ideal) v (Rect.unit (s := ⟨2, ![1, W]⟩) ![0, 0] ![1, W] inb).toLoadRect f (ix2 0 k) = v.read (Elt Ideal) f (ix2 0 k) :=
  readAt_rows v f 0 inb 0 k (by norm_num)

set_option maxHeartbeats 2000000 in
/-- What the body leaves in its block of the output. -/
theorem body_out (hq : ∀ (r : Fin 512) d, arg3.view.read (Elt Ideal) X3 (ix3 0 r d) = ((q r.val d : ℝ) : EReal))
    (hk : ∀ (kk : Fin 4096) d, arg4.view.read (Elt Ideal) X4 (ix3 0 kk d) = ((kr kk.val d : ℝ) : EReal))
    (hv : ∀ (kk : Fin 4096) d, arg5.view.read (Elt Ideal) X5 (ix3 0 kk d) = ((vr kk.val d : ℝ) : EReal))
    (r : Fin 512) (x : Fin 128) :
    arg12.view.read (Elt Ideal) (arg12.view.writes (Elt Ideal) f12 (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 X7 X8 X9 X10 X11 f13 f14 f15 f16 f17).1) (ix3 0 r x)
      = gated (headOf q kr vr (lamOf (fun d => arg7.view.read (Elt Ideal) X7 (ix2 0 d)) (fun d => arg8.view.read (Elt Ideal) X8 (ix2 0 d))
          (fun d => arg9.view.read (Elt Ideal) X9 (ix2 0 d)) (fun d => arg10.view.read (Elt Ideal) X10 (ix2 0 d))) (512 * (i 2).val + r.val + 1) r)
        (arg11.view.read (Elt Ideal) X11 (ix2 0 x)) (arg6.view.read (Elt Ideal) X6 (ix3 0 r x)) x := by
  unfold bodyRun
  refine (View.read_writes_apply_of_pieces (Val := Elt Ideal) (s := S1x512x128) (e := .bf16) _ _ (fun y : S1x512x128.Idx =>
      k0_pay1 (bodyRun.sl.r_33 (F := Ideal) arg6 X6) (combine (addf (stack (bodyRun.sl.r_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_23 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_24 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_25 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_27 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_31 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17) (bodyRun.sl.r_32 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)) (k0_pay2 (k0_pay178 (F := Ideal)) (View.readAt (Elt Ideal) arg5.view (Rect.unit (s := S1x4096x128) (k0_off5 i) S1x512x128.size (k0_off5_inb i)).toLoadRect X5) (bodyRun.sl.v552 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17)))
        (View.readAt (Elt Ideal) arg7.view (Rect.unit (s := S1x64) ![0, 0] S1x64.size inb_S1x64_S1x64_0_0).toLoadRect X7)
        (View.readAt (Elt Ideal) arg8.view (Rect.unit (s := S1x64) ![0, 0] S1x64.size inb_S1x64_S1x64_0_0).toLoadRect X8)
        (View.readAt (Elt Ideal) arg9.view (Rect.unit (s := S1x64) ![0, 0] S1x64.size inb_S1x64_S1x64_0_0).toLoadRect X9)
        (View.readAt (Elt Ideal) arg10.view (Rect.unit (s := S1x64) ![0, 0] S1x64.size inb_S1x64_S1x64_0_0).toLoadRect X10))
        (View.readAt (Elt Ideal) arg11.view (Rect.unit (s := S1x128) ![0, 0] S1x128.size inb_S1x128_S1x128_0_0).toLoadRect X11) y) _ ?_ (ix3 0 r x) ?_).trans ?_
  · refine List.forall_mem_cons.2 ⟨fun y => ?_, fun p hp => absurd hp List.not_mem_nil⟩
    obtain ⟨a, b, d, rfl⟩ : ∃ (a : Fin 1) (b : Fin 512) (d : Fin 128), y = ix3 a b d := ⟨y 0, y 1, y 2, eq_ix3 y⟩
    have e : (Rect.unit (s := S1x512x128) ![0, 0, 0] S1x512x128.size inb_S1x512x128_S1x512x128_0_0_0).emb (ix3 a b d) = ix3 a b d := by
      funext k
      match k with
      | 0 => exact Fin.ext (by show 0 + 1 * a.val = a.val; omega)
      | 1 => exact Fin.ext (by show 0 + 1 * b.val = b.val; omega)
      | 2 => exact Fin.ext (by show 0 + 1 * d.val = d.val; omega)
    exact congrArg _ e.symm
  · exact View.cover_of_tiled _ ![1, 512, 128] (by rfl) _
  · refine (pay1_apply _ _ _ r x).trans ?_
    have hz : bodyRun.sl.r_33 (F := Ideal) arg6 X6 (ix2 r x) = arg6.view.read (Elt Ideal) X6 (ix3 0 r x) :=
      (pay271_apply _ r x).trans (readAt_all arg6.view X6 _ r x)
    rw [hz]
    have hg := readAt_row arg11.view X11 inb_S1x128_S1x128_0_0 x
    refine congrArg₂ (fun o g => gated o g _ x) (funext fun y => ?_) hg
    refine (head_row c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 f14 f15 f17 hq hk hv _ _ _ _ r y).trans ?_
    congr 2
    · exact funext fun d => readAt_row arg7.view X7 _ d
    · exact funext fun d => readAt_row arg8.view X8 _ d
    · exact funext fun d => readAt_row arg9.view X9 _ d
    · exact funext fun d => readAt_row arg10.view X10 _ d

end Row

end Cert.KernelIdeal.Hand
-- ==== Proof.Value.lean ====
/-
  The kernel's output array, read at one element.

  The blocks that the pipeline stages are read as slices of the arguments, the value of one grid point (`body_out`) is
  put on them, and the blocks written back are put together to the whole output array.
-/
module

public import proofs.«01_k».proof.Proof.Row
public import proofs.«01_k».proof.Proof.Gen.KernelIdeal.Frame
public import Idealize.ShloMosaic.Lib.Pipeline.ValueKit
public import Idealize.ShloMosaic.Lib.StableHlo.Run
public import Idealize.ShloMosaic.Lib.Pipeline.Covers

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-! ## What the host prepares -/

/-- The factor on the queries. -/
def qScale : EReal := Ideal.div (Ideal.ofBits .f32 0x3E000000#32) (Ideal.log (Ideal.ofBits .f32 0x40000000#32))

/-- The arguments, as arrays of extended reals. -/
def aQ (c : Dev nD) : S4x4096x1024.Idx → EReal := m ((c : Thread nD τ).loc main_arg0)
def aK (c : Dev nD) : S4x4096x1024.Idx → EReal := m ((c : Thread nD τ).loc main_arg1)
def aV (c : Dev nD) : S4x4096x1024.Idx → EReal := m ((c : Thread nD τ).loc main_arg2)
def aZ (c : Dev nD) : S4x4096x1024.Idx → EReal := m ((c : Thread nD τ).loc main_arg3)
def aL1 (c : Dev nD) : S64.Idx → EReal := m ((c : Thread nD τ).loc main_arg4)
def aL2 (c : Dev nD) : S64.Idx → EReal := m ((c : Thread nD τ).loc main_arg5)
def aL3 (c : Dev nD) : S64.Idx → EReal := m ((c : Thread nD τ).loc main_arg6)
def aL4 (c : Dev nD) : S64.Idx → EReal := m ((c : Thread nD τ).loc main_arg7)
def aG (c : Dev nD) : S128.Idx → EReal := m ((c : Thread nD τ).loc main_arg8)

theorem V_q (c : Dev nD) : V m c main_v4 = fun j => aQ m c j * qScale := by
  unfold_abbrev_sides
  after_results
  rfl

theorem V_k (c : Dev nD) : V m c main_v5 = aK m c := by
  unfold_abbrev_sides
  after_results
  rfl

theorem V_v (c : Dev nD) : V m c main_v6 = aV m c := by
  unfold_abbrev_sides
  after_results
  rfl

theorem V_l1 (c : Dev nD) : V m c main_v7 = shapeCast S1x64 (aL1 m c) shapeCasts_S64_S1x64 := by
  unfold_abbrev_sides
  after_results
  rfl

theorem V_l2 (c : Dev nD) : V m c main_v8 = shapeCast S1x64 (aL2 m c) shapeCasts_S64_S1x64 := by
  unfold_abbrev_sides
  after_results
  rfl

theorem V_l3 (c : Dev nD) : V m c main_v9 = shapeCast S1x64 (aL3 m c) shapeCasts_S64_S1x64 := by
  unfold_abbrev_sides
  after_results
  rfl

theorem V_l4 (c : Dev nD) : V m c main_v10 = shapeCast S1x64 (aL4 m c) shapeCasts_S64_S1x64 := by
  unfold_abbrev_sides
  after_results
  rfl

theorem V_g (c : Dev nD) : V m c main_v11 = shapeCast S1x128 (aG m c) shapeCasts_S128_S1x128 := by
  unfold_abbrev_sides
  after_results
  rfl

/-! ## The windows' places -/

theorem place_row (i : grid0.Coords) : cc0_transform_0 i = ![(i 0).val, (i 2).val, (i 1).val] := by
  revert i; decide +kernel

theorem place_keys (i : grid0.Coords) : cc0_transform_1 i = ![(i 0).val, 0, (i 1).val] := by
  revert i; decide +kernel

theorem place_none (i : grid0.Coords) : cc0_transform_4 i = ![0, 0] := by
  revert i; decide +kernel

section Place

variable (t : Fin cfg0.N)

/-- The batch, the head group and the block of queries of a grid point. -/
def bOf : Fin 4 := (grid0.coords t) 0
def gOf : Fin 8 := (grid0.coords t) 1
def iOf : Fin 8 := (grid0.coords t) 2

/-- Where an entry of a block of queries lies in the array. -/
def atRow (r : Fin 512) (d : Fin 128) : S4x4096x1024.Idx :=
  ix3 (bOf t) (⟨512 * (iOf t).val + r.val, by have := (iOf t).isLt; omega⟩ : Fin 4096) (⟨128 * (gOf t).val + d.val, by have := (gOf t).isLt; omega⟩ : Fin 1024)

/-- Where an entry of the keys' block lies in the array. -/
def atKey (kk : Fin 4096) (d : Fin 128) : S4x4096x1024.Idx :=
  ix3 (bOf t) kk (⟨128 * (gOf t).val + d.val, by have := (gOf t).isLt; omega⟩ : Fin 1024)

theorem emb_0 (r : Fin 512) (d : Fin 128) : ((cfg0.win 0).blk t).view.emb (ix3 0 r d) = atRow t r d := by
  have e : win0_0.index t = ![(bOf t).val, (iOf t).val, (gOf t).val] := place_row (grid0.coords t)
  have h : ∀ a : Fin 3, win0_0.index t a * win0_0.size a + ((ix3 0 r d : S1x512x128.Idx) a).val = (atRow t r d a).val := by
    intro a; rw [e]
    match a with
    | 0 => show (bOf t).val * 1 + 0 = (bOf t).val; omega
    | 1 => show (iOf t).val * 512 + r.val = 512 * (iOf t).val + r.val; omega
    | 2 => show (gOf t).val * 128 + d.val = 128 * (gOf t).val + d.val; omega
  funext a
  refine Fin.ext ?_
  blk_simp
  exact h a

theorem emb_1 (kk : Fin 4096) (d : Fin 128) : ((cfg0.win 1).blk t).view.emb (ix3 0 kk d) = atKey t kk d := by
  have e : win0_1.index t = ![(bOf t).val, 0, (gOf t).val] := place_keys (grid0.coords t)
  have h : ∀ a : Fin 3, win0_1.index t a * win0_1.size a + ((ix3 0 kk d : S1x4096x128.Idx) a).val = (atKey t kk d a).val := by
    intro a; rw [e]
    match a with
    | 0 => show (bOf t).val * 1 + 0 = (bOf t).val; omega
    | 1 => show 0 * 4096 + kk.val = kk.val; omega
    | 2 => show (gOf t).val * 128 + d.val = 128 * (gOf t).val + d.val; omega
  funext a
  refine Fin.ext ?_
  blk_simp
  exact h a

theorem emb_2 (kk : Fin 4096) (d : Fin 128) : ((cfg0.win 2).blk t).view.emb (ix3 0 kk d) = atKey t kk d := by
  have e : win0_2.index t = ![(bOf t).val, 0, (gOf t).val] := place_keys (grid0.coords t)
  have h : ∀ a : Fin 3, win0_2.index t a * win0_2.size a + ((ix3 0 kk d : S1x4096x128.Idx) a).val = (atKey t kk d a).val := by
    intro a; rw [e]
    match a with
    | 0 => show (bOf t).val * 1 + 0 = (bOf t).val; omega
    | 1 => show 0 * 4096 + kk.val = kk.val; omega
    | 2 => show (gOf t).val * 128 + d.val = 128 * (gOf t).val + d.val; omega
  funext a
  refine Fin.ext ?_
  blk_simp
  exact h a

theorem emb_3 (r : Fin 512) (d : Fin 128) : ((cfg0.win 3).blk t).view.emb (ix3 0 r d) = atRow t r d := by
  have e : win0_3.index t = ![(bOf t).val, (iOf t).val, (gOf t).val] := place_row (grid0.coords t)
  have h : ∀ a : Fin 3, win0_3.index t a * win0_3.size a + ((ix3 0 r d : S1x512x128.Idx) a).val = (atRow t r d a).val := by
    intro a; rw [e]
    match a with
    | 0 => show (bOf t).val * 1 + 0 = (bOf t).val; omega
    | 1 => show (iOf t).val * 512 + r.val = 512 * (iOf t).val + r.val; omega
    | 2 => show (gOf t).val * 128 + d.val = 128 * (gOf t).val + d.val; omega
  funext a
  refine Fin.ext ?_
  blk_simp
  exact h a

theorem emb_4 (d : Fin 64) : ((cfg0.win 4).blk t).view.emb (ix2 0 d) = ix2 0 d := by
  have e : win0_4.index t = ![0, 0] := place_none (grid0.coords t)
  have h : ∀ a : Fin 2, win0_4.index t a * win0_4.size a + ((ix2 0 d : S1x64.Idx) a).val = ((ix2 0 d : S1x64.Idx) a).val := by
    intro a; rw [e]
    match a with
    | 0 => show 0 * 1 + 0 = 0; omega
    | 1 => show 0 * 64 + d.val = d.val; omega
  funext a
  refine Fin.ext ?_
  blk_simp
  exact h a

theorem emb_5 (d : Fin 64) : ((cfg0.win 5).blk t).view.emb (ix2 0 d) = ix2 0 d := by
  have e : win0_5.index t = ![0, 0] := place_none (grid0.coords t)
  have h : ∀ a : Fin 2, win0_5.index t a * win0_5.size a + ((ix2 0 d : S1x64.Idx) a).val = ((ix2 0 d : S1x64.Idx) a).val := by
    intro a; rw [e]
    match a with
    | 0 => show 0 * 1 + 0 = 0; omega
    | 1 => show 0 * 64 + d.val = d.val; omega
  funext a
  refine Fin.ext ?_
  blk_simp
  exact h a

theorem emb_6 (d : Fin 64) : ((cfg0.win 6).blk t).view.emb (ix2 0 d) = ix2 0 d := by
  have e : win0_6.index t = ![0, 0] := place_none (grid0.coords t)
  have h : ∀ a : Fin 2, win0_6.index t a * win0_6.size a + ((ix2 0 d : S1x64.Idx) a).val = ((ix2 0 d : S1x64.Idx) a).val := by
    intro a; rw [e]
    match a with
    | 0 => show 0 * 1 + 0 = 0; omega
    | 1 => show 0 * 64 + d.val = d.val; omega
  funext a
  refine Fin.ext ?_
  blk_simp
  exact h a

theorem emb_7 (d : Fin 64) : ((cfg0.win 7).blk t).view.emb (ix2 0 d) = ix2 0 d := by
  have e : win0_7.index t = ![0, 0] := place_none (grid0.coords t)
  have h : ∀ a : Fin 2, win0_7.index t a * win0_7.size a + ((ix2 0 d : S1x64.Idx) a).val = ((ix2 0 d : S1x64.Idx) a).val := by
    intro a; rw [e]
    match a with
    | 0 => show 0 * 1 + 0 = 0; omega
    | 1 => show 0 * 64 + d.val = d.val; omega
  funext a
  refine Fin.ext ?_
  blk_simp
  exact h a

theorem emb_8 (d : Fin 128) : ((cfg0.win 8).blk t).view.emb (ix2 0 d) = ix2 0 d := by
  have e : win0_8.index t = ![0, 0] := place_none (grid0.coords t)
  have h : ∀ a : Fin 2, win0_8.index t a * win0_8.size a + ((ix2 0 d : S1x128.Idx) a).val = ((ix2 0 d : S1x128.Idx) a).val := by
    intro a; rw [e]
    match a with
    | 0 => show 0 * 1 + 0 = 0; omega
    | 1 => show 0 * 128 + d.val = d.val; omega
  funext a
  refine Fin.ext ?_
  blk_simp
  exact h a

theorem emb_9 (r : Fin 512) (d : Fin 128) : ((cfg0.win 9).blk t).view.emb (ix3 0 r d) = atRow t r d := by
  have e : win0_9.index t = ![(bOf t).val, (iOf t).val, (gOf t).val] := place_row (grid0.coords t)
  have h : ∀ a : Fin 3, win0_9.index t a * win0_9.size a + ((ix3 0 r d : S1x512x128.Idx) a).val = (atRow t r d a).val := by
    intro a; rw [e]
    match a with
    | 0 => show (bOf t).val * 1 + 0 = (bOf t).val; omega
    | 1 => show (iOf t).val * 512 + r.val = 512 * (iOf t).val + r.val; omega
    | 2 => show (gOf t).val * 128 + d.val = 128 * (gOf t).val + d.val; omega
  funext a
  refine Fin.ext ?_
  blk_simp
  exact h a

end Place

/-! ## The blocks -/

theorem q_block (c : Dev nD) (t : Fin cfg0.N) (r : Fin 512) (d : Fin 128) :
    iblk m c 0 t (ix3 0 r d) = aQ m c (atRow t r d) * qScale :=
  (congrArg (V m c main_v4) (emb_0 t r d)).trans (congrFun (V_q m c) _)

theorem k_block (c : Dev nD) (t : Fin cfg0.N) (kk : Fin 4096) (d : Fin 128) : iblk m c 1 t (ix3 0 kk d) = aK m c (atKey t kk d) :=
  (congrArg (V m c main_v5) (emb_1 t kk d)).trans (congrFun (V_k m c) _)

theorem v_block (c : Dev nD) (t : Fin cfg0.N) (kk : Fin 4096) (d : Fin 128) : iblk m c 2 t (ix3 0 kk d) = aV m c (atKey t kk d) :=
  (congrArg (V m c main_v6) (emb_2 t kk d)).trans (congrFun (V_v m c) _)

theorem z_block (c : Dev nD) (t : Fin cfg0.N) (r : Fin 512) (d : Fin 128) : iblk m c 3 t (ix3 0 r d) = aZ m c (atRow t r d) :=
  (congrArg (V m c main_arg3) (emb_3 t r d)).trans (congrFun (V_main_arg3 m c) _)

theorem cast_row {W : ℕ} (f : (⟨1, ![W]⟩ : Shape).Idx → EReal) (h : (⟨1, ![W]⟩ : Shape).ShapeCasts ⟨2, ![1, W]⟩) (d : Fin W) :
    shapeCast ⟨2, ![1, W]⟩ f h (ix2 0 d) = f (ix1 d) :=
  shapeCast_apply f h (ix2 0 d) (ix1 d) (by rw [Shape.rowMajor_val_one, Shape.rowMajor_val_two]; show d.val = 0 * W + d.val; omega)

theorem l1_block (c : Dev nD) (t : Fin cfg0.N) (d : Fin 64) : iblk m c 4 t (ix2 0 d) = aL1 m c (ix1 d) :=
  (congrArg (V m c main_v7) (emb_4 t d)).trans ((congrFun (V_l1 m c) _).trans (cast_row _ _ d))

theorem l2_block (c : Dev nD) (t : Fin cfg0.N) (d : Fin 64) : iblk m c 5 t (ix2 0 d) = aL2 m c (ix1 d) :=
  (congrArg (V m c main_v8) (emb_5 t d)).trans ((congrFun (V_l2 m c) _).trans (cast_row _ _ d))

theorem l3_block (c : Dev nD) (t : Fin cfg0.N) (d : Fin 64) : iblk m c 6 t (ix2 0 d) = aL3 m c (ix1 d) :=
  (congrArg (V m c main_v9) (emb_6 t d)).trans ((congrFun (V_l3 m c) _).trans (cast_row _ _ d))

theorem l4_block (c : Dev nD) (t : Fin cfg0.N) (d : Fin 64) : iblk m c 7 t (ix2 0 d) = aL4 m c (ix1 d) :=
  (congrArg (V m c main_v10) (emb_7 t d)).trans ((congrFun (V_l4 m c) _).trans (cast_row _ _ d))

theorem g_block (c : Dev nD) (t : Fin cfg0.N) (d : Fin 128) : iblk m c 8 t (ix2 0 d) = aG m c (ix1 d) :=
  (congrArg (V m c main_v11) (emb_8 t d)).trans ((congrFun (V_g m c) _).trans (cast_row _ _ d))

/-! ## The result, entry by entry -/

/-- One of a query's two scores with a key: over the first or the second half of the head's entries. -/
def half1 (q : Fin 128 → ℝ) (kr : ℕ → Fin 128 → ℝ) (kk : ℕ) : ℝ := ∑ d : Fin 128, (if d.val < 64 then q d else 0) * kr kk d
def half2 (q : Fin 128 → ℝ) (kr : ℕ → Fin 128 → ℝ) (kk : ℕ) : ℝ := ∑ d : Fin 128, (if d.val < 64 then 0 else q d) * kr kk d

/-- A query's row: the average of the values weighed by the first score less `lam` times that weighed by the second. -/
def headRow (q : Fin 128 → ℝ) (kr vr : ℕ → Fin 128 → ℝ) (lam : EReal) (n : ℕ) (x : Fin 128) : EReal :=
  ((Softmax.avg (half1 q kr) (fun kk => vr kk x) n : ℝ) : EReal) - lam * ((Softmax.avg (half2 q kr) (fun kk => vr kk x) n : ℝ) : EReal)

theorem headOf_eq (q kr vr : ℕ → Fin 128 → ℝ) (lam : EReal) (n : ℕ) (r : Fin 512) : headOf q kr vr lam n r = headRow (q r.val) kr vr lam n := by
  have h1 : score (halves q) kr ⟨r.val, by omega⟩ = half1 (q r.val) kr := by
    funext kk
    unfold score half1 halves
    refine Finset.sum_congr rfl fun d _ => ?_
    rw [if_pos (show (⟨r.val, by omega⟩ : Fin 1024).val < 512 from r.isLt)]
  have h2 : score (halves q) kr ⟨512 + r.val, by omega⟩ = half2 (q r.val) kr := by
    funext kk
    unfold score half2 halves
    refine Finset.sum_congr rfl fun d _ => ?_
    rw [if_neg (show ¬(⟨512 + r.val, by omega⟩ : Fin 1024).val < 512 from by show ¬512 + r.val < 512; omega)]
    show (if d.val < 64 then 0 else q (512 + r.val - 512) d) * _ = _
    rw [Nat.add_sub_cancel_left]
  funext x
  unfold headOf headRow
  rw [h1, h2]

/-- Row `s` of a head group of an array. -/
def rowOf (A : S4x4096x1024.Idx → ℝ) (b : Fin 4) (g : Fin 8) (s : ℕ) (d : Fin 128) : ℝ :=
  if h : s < 4096 then A (ix3 b ⟨s, h⟩ ⟨128 * g.val + d.val, by omega⟩) else 0

theorem rowOf_of_lt (A : S4x4096x1024.Idx → ℝ) (b : Fin 4) (g : Fin 8) (s : Fin 4096) (d : Fin 128) :
    rowOf A b g s.val d = A (ix3 b s ⟨128 * g.val + d.val, by omega⟩) := dif_pos s.isLt

/-- The factor on the queries, as a real number. -/
def qs : ℝ := (1 / 8) * (1 / Real.log 2)

theorem qScale_eq : qScale = ((qs : ℝ) : EReal) := by
  have h8 : Ideal.ofBits .f32 0x3E000000#32 = (((1 : ℝ) / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; try norm_num
  unfold qScale qs
  rw [h8, h2, Ideal.log_coe, if_neg (by norm_num), Ideal.div_coe (Real.log_pos (by norm_num)).ne', ← EReal.coe_mul]

/-- The weight of the second average. -/
def lam (c : Dev nD) : EReal := lamOf (fun d => aL1 m c (ix1 d)) (fun d => aL2 m c (ix1 d)) (fun d => aL3 m c (ix1 d)) (fun d => aL4 m c (ix1 d))

/-- The result at an entry: batch `b`, query `s`, head group `g`, entry `x` of the group. -/
def outAt (c : Dev nD) (b : Fin 4) (s : Fin 4096) (g : Fin 8) (x : Fin 128) : EReal :=
  gated (headRow (fun d => rowOf (fun j => (aQ m c j).toReal) b g s.val d * qs) (rowOf (fun j => (aK m c j).toReal) b g)
      (rowOf (fun j => (aV m c j).toReal) b g) (lam m c) (s.val + 1))
    (aG m c (ix1 x)) (aZ m c (ix3 b s ⟨128 * g.val + x.val, by omega⟩)) x

/-- The same as an array. -/
def out (c : Dev nD) : S4x4096x1024.Idx → EReal := fun j =>
  outAt m c (j 0) (j 1) (⟨(j 2).val / 128, by have : (j 2).val < 1024 := (j 2).isLt; omega⟩ : Fin 8) (⟨(j 2).val % 128, by omega⟩ : Fin 128)

theorem out_atRow (c : Dev nD) (t : Fin cfg0.N) (r : Fin 512) (x : Fin 128) :
    out m c (atRow t r x) = outAt m c (bOf t) ⟨512 * (iOf t).val + r.val, by have := (iOf t).isLt; omega⟩ (gOf t) x := by
  have hg := (gOf t).isLt
  have e1 : (⟨(128 * (gOf t).val + x.val) / 128, by omega⟩ : Fin 8) = gOf t := Fin.ext (by show (128 * (gOf t).val + x.val) / 128 = (gOf t).val; omega)
  have e2 : (⟨(128 * (gOf t).val + x.val) % 128, by omega⟩ : Fin 128) = x := Fin.ext (by show (128 * (gOf t).val + x.val) % 128 = x.val; omega)
  show outAt m c (bOf t) _ (⟨(128 * (gOf t).val + x.val) / 128, by omega⟩ : Fin 8) (⟨(128 * (gOf t).val + x.val) % 128, by omega⟩ : Fin 128) = _
  rw [e1, e2]
  rfl

/-- Queries, keys and values are real numbers. -/
structure Real3 (c : Dev nD) : Prop where
  q : ∀ j, aQ m c j = (((aQ m c j).toReal : ℝ) : EReal)
  k : ∀ j, aK m c j = (((aK m c j).toReal : ℝ) : EReal)
  v : ∀ j, aV m c j = (((aV m c j).toReal : ℝ) : EReal)

/-- The block that a grid point writes back. -/
def outBlk : Out (F := Ideal) := fun c t y => out m c (atRow t (y 1) (y 2))

set_option maxHeartbeats 2000000 in
theorem point (c : Dev nD) (hf : Real3 m c) (t : Fin cfg0.N) : PointHas m (fun d => d = outBlk m c t) c t := by
  intro X3 h3 X4 h4 X5 h5 X6 h6 X7 h7 X8 h8 X9 h9 X10 h10 X11 h11 f13 f14 f15 f16 f17 f12
  funext y
  obtain ⟨a, r, x, rfl⟩ : ∃ (a : Fin 1) (b : Fin 512) (d : Fin 128), y = ix3 a b d := ⟨y 0, y 1, y 2, eq_ix3 y⟩
  obtain rfl : a = 0 := Subsingleton.elim _ _
  have hi := (iOf t).isLt
  refine (body_out (q := fun s d => rowOf (fun j => (aQ m c j).toReal) (bOf t) (gOf t) (512 * (iOf t).val + s) d * qs)
    (kr := rowOf (fun j => (aK m c j).toReal) (bOf t) (gOf t)) (vr := rowOf (fun j => (aV m c j).toReal) (bOf t) (gOf t))
    (hq := fun r d => ?_) (hk := fun kk d => ?_) (hv := fun kk d => ?_) (r := r) (x := x) ..).trans ?_
  · rw [h3, q_block, hf.q, qScale_eq, ← EReal.coe_mul]
    exact congrArg (fun z => ((z * qs : ℝ) : EReal)) (rowOf_of_lt (fun j => (aQ m c j).toReal) (bOf t) (gOf t) ⟨512 * (iOf t).val + r.val, by omega⟩ d).symm
  · rw [h4, k_block, hf.k]
    exact congrArg (fun z : ℝ => (z : EReal)) (rowOf_of_lt (fun j => (aK m c j).toReal) (bOf t) (gOf t) kk d).symm
  · rw [h5, v_block, hf.v]
    exact congrArg (fun z : ℝ => (z : EReal)) (rowOf_of_lt (fun j => (aV m c j).toReal) (bOf t) (gOf t) kk d).symm
  · rw [headOf_eq, h6, h7, h8, h9, h10, h11]
    simp only [l1_block, l2_block, l3_block, l4_block, g_block, z_block]
    exact (out_atRow m c t r x).symm

theorem array_eq (c : Dev nD) : (dats m (outBlk m) 0 c).arrAt 9 cfg0.N = out m c := by
  refine (dats m (outBlk m) 0 c).arrAt_eq_of_covers 9 (out m c)
    ((cfg0.win 9).covers_of_indexMap_surj rfl (by decide) fun β => ⟨fun | 0 => β 0 | 1 => β 2 | 2 => β 1, fun a => ?_⟩) fun t ht y => ?_
  · have e := place_row (fun | 0 => β 0 | 1 => β 2 | 2 => β 1 : grid0.Coords)
    refine (congrFun e a).trans ?_
    match a with
    | 0 => rfl
    | 1 => rfl
    | 2 => rfl
  · obtain ⟨a, r, x, rfl⟩ : ∃ (a : Fin 1) (b : Fin 512) (d : Fin 128), y = ix3 a b d := ⟨y 0, y 1, y 2, eq_ix3 y⟩
    obtain rfl : a = 0 := Subsingleton.elim _ _
    exact congrArg (out m c) (emb_9 t r x).symm

theorem run_out (hf : ∀ c, Real3 m c) :
    θ_run defs (onTc (τ := τ) (main (F := Ideal))) ⟨m, fun _ => 0, ρ⟩ (fun r => (∀ c : Dev nD,
      r.2.mem ((c.tc : Thread nD τ).loc main_v12) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((h.1 c).1 9).trans (array_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m (outBlk m) 0 c).arrAt_in 3 rfl _).trans ((A_eq m (outBlk m) c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩)
    (run_named m ρ (outBlk m) fun c t => point m c (hf c) t)

end Cert.KernelIdeal.Hand

end
-- ==== Proof.Reference.lean ====
/-
  The reference's result, read at one element, and its equality with the kernel's.
-/
module

public import proofs.«01_k».proof.Proof.Value
public import proofs.«01_k».proof.Proof.Gen.ReferenceIdeal.Read
public import Idealize.ShloMosaic.Lib.Pointwise

@[expose] public section

set_option maxRecDepth 16384

noncomputable section

namespace Cert.Softmax

open Idealize Idealize.ShloMosaic

/-! ## A row of the plain softmax -/

/-- The weight that the plain softmax gives key `k` in row `s`, keys after `s` masked. -/
def soft (σ : Fin 4096 → ℝ) (s : ℕ) (k : Fin 4096) : ℝ :=
  (if k.val ≤ s then Real.exp (σ k) else 0) / ∑ k' : Fin 4096, if k'.val ≤ s then Real.exp (σ k') else 0

/-- A masked row of scores. -/
def maskedRow (σ : Fin 4096 → ℝ) (s : ℕ) (k : Fin 4096) : EReal := if k.val ≤ s then ((σ k : ℝ) : EReal) else ⊥

/-- The row's maximum is a real number. -/
theorem rowMax_real (σ : Fin 4096 → ℝ) (s : ℕ) : ∃ μ : ℝ, (Finset.univ.fold max ⊥ (maskedRow σ s) : EReal) = (μ : EReal) := by
  have hlt : (Finset.univ.fold max ⊥ (maskedRow σ s) : EReal) < ⊤ :=
    (Finset.fold_max_lt _).2 ⟨bot_lt_top, fun k _ => by
      unfold maskedRow; split
      · exact EReal.coe_lt_top _
      · exact bot_lt_top⟩
  have hgt : ⊥ < (Finset.univ.fold max ⊥ (maskedRow σ s) : EReal) :=
    lt_of_lt_of_le (EReal.bot_lt_coe (σ 0)) ((Finset.le_fold_max _).2 (Or.inr ⟨0, Finset.mem_univ _, by
      unfold maskedRow; rw [if_pos (show (0 : Fin 4096).val ≤ s from Nat.zero_le s)]⟩))
  exact ⟨_, (EReal.coe_toReal hlt.ne hgt.ne').symm⟩

theorem soft_row (σ : Fin 4096 → ℝ) (s : ℕ) (k : Fin 4096) (M : EReal) (hM : M = max ⊥ (Finset.univ.fold max ⊥ (maskedRow σ s))) :
    Ideal.div (Ideal.exp (maskedRow σ s k - M)) (0 + ∑ k' : Fin 4096, Ideal.exp (maskedRow σ s k' - M)) = ((soft σ s k : ℝ) : EReal) := by
  obtain ⟨μ, hμ⟩ := rowMax_real σ s
  rw [hμ, max_eq_right bot_le] at hM
  subst hM
  have e : ∀ k', Ideal.exp (maskedRow σ s k' - (μ : EReal)) = (((if k'.val ≤ s then Real.exp (σ k') else 0) * Real.exp (-μ) : ℝ) : EReal) := by
    intro k'
    unfold maskedRow
    split
    · rw [← EReal.coe_sub, Ideal.exp_coe, sub_eq_add_neg, Real.exp_add]
    · rw [EReal.bot_sub, zero_mul]
      exact Ideal.exp_bot
  simp only [e]
  rw [zero_add, coe_sum, ← Finset.sum_mul]
  have hpos : 0 < ∑ k' : Fin 4096, (if k'.val ≤ s then Real.exp (σ k') else 0) := by
    refine Finset.sum_pos' (fun k' _ => ?_) ⟨0, Finset.mem_univ _, ?_⟩
    · split
      · exact (Real.exp_pos _).le
      · exact le_rfl
    · rw [if_pos (show (0 : Fin 4096).val ≤ s from Nat.zero_le s)]; exact Real.exp_pos _
  have hne := (mul_pos hpos (Real.exp_pos (-μ))).ne'
  rw [Ideal.div_coe hne, ← EReal.coe_mul, mul_one_div, mul_div_mul_right _ _ (Real.exp_pos _).ne']
  rfl

/-- The average that weighs by powers of two is the softmax's, if the weights agree. -/
theorem avg_eq_soft (τ f : ℕ → ℝ) (σ V : Fin 4096 → ℝ) (s : Fin 4096) (hw : ∀ k : Fin 4096, Real.rpow 2 (τ k.val) = Real.exp (σ k))
    (hf : ∀ k : Fin 4096, f k.val = V k) : avg τ f (s.val + 1) = ∑ k : Fin 4096, V k * soft σ s.val k := by
  have e : ∀ g : ℕ → ℝ, ∑ kk ∈ Finset.range (s.val + 1), g kk = ∑ k : Fin 4096, if k.val ≤ s.val then g k.val else 0 := by
    intro g
    rw [Fin.sum_univ_eq_sum_range (fun i => if i ≤ s.val then g i else 0) 4096, ← Finset.sum_filter]
    refine Finset.sum_congr (Finset.ext fun i => ?_) fun _ _ => rfl
    have := s.isLt
    simp only [Finset.mem_range, Finset.mem_filter]; omega
  unfold avg
  rw [e, e]
  unfold soft
  simp only [hw, hf]
  rw [Finset.sum_div]
  refine Finset.sum_congr rfl fun k _ => ?_
  split
  · rw [mul_comm (Real.exp _), mul_div_assoc]
  · rw [zero_div, mul_zero]

end Cert.Softmax

namespace Cert.RefValue

open Idealize Idealize.ShloMosaic Idealize.ShloMosaic.TcCoe
open Cert.ReferenceIdeal Cert.ReferenceIdeal.Gen Cert.ReferenceIdeal.Read

variable (x0 x1 x2 x3 : S4x4096x1024.Idx → EReal) (x4 x5 x6 x7 : S64.Idx → EReal) (x8 : S128.Idx → EReal)

/-! ## The halves of a head's queries and keys -/

theorem v13_at (b : Fin 4) (s : Fin 4096) (g : Fin 8) (k : Fin 64) :
    val_main_v13 (F := Ideal) x0 (ix4 b s g k) = x0 (ix3 b s ⟨128 * g.val + (0 + k.val), by omega⟩) := by
  rw [val_main_v13_apply, val_main_v12_apply, val_main_v0_apply]
  refine congrArg x0 (funext fun a => Fin.ext ?_)
  have hb := b.isLt; have hs := s.isLt; have hg := g.isLt; have hk := k.isLt
  match a with
  | ⟨0, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) / 4194304 = b.val
    omega
  | ⟨1, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) / 1024 % 4096 = s.val
    omega
  | ⟨2, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) % 1024 = 128 * g.val + (0 + k.val)
    omega

theorem v15_at (b : Fin 4) (s : Fin 4096) (g : Fin 8) (k : Fin 64) :
    val_main_v15 (F := Ideal) x1 (ix4 b s g k) = x1 (ix3 b s ⟨128 * g.val + (0 + k.val), by omega⟩) := by
  rw [val_main_v15_apply, val_main_v14_apply, val_main_v1_apply]
  refine congrArg x1 (funext fun a => Fin.ext ?_)
  have hb := b.isLt; have hs := s.isLt; have hg := g.isLt; have hk := k.isLt
  match a with
  | ⟨0, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) / 4194304 = b.val
    omega
  | ⟨1, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) / 1024 % 4096 = s.val
    omega
  | ⟨2, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + 0) * 64 + ((((b.val * 4096 + s.val) * 8 + g.val) * 64 + k.val) % 64)) % 1024 = 128 * g.val + (0 + k.val)
    omega

theorem v37_at (b : Fin 4) (s : Fin 4096) (g : Fin 8) (k : Fin 64) :
    val_main_v37 (F := Ideal) x0 (ix4 b s g k) = x0 (ix3 b s ⟨128 * g.val + (64 + k.val), by omega⟩) := by
  rw [val_main_v37_apply, val_main_v36_apply, val_main_v0_apply]
  refine congrArg x0 (funext fun a => Fin.ext ?_)
  have hb := b.isLt; have hs := s.isLt; have hg := g.isLt; have hk := k.isLt
  match a with
  | ⟨0, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) / 4194304 = b.val
    omega
  | ⟨1, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) / 1024 % 4096 = s.val
    omega
  | ⟨2, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) % 1024 = 128 * g.val + (64 + k.val)
    omega

theorem v39_at (b : Fin 4) (s : Fin 4096) (g : Fin 8) (k : Fin 64) :
    val_main_v39 (F := Ideal) x1 (ix4 b s g k) = x1 (ix3 b s ⟨128 * g.val + (64 + k.val), by omega⟩) := by
  rw [val_main_v39_apply, val_main_v38_apply, val_main_v1_apply]
  refine congrArg x1 (funext fun a => Fin.ext ?_)
  have hb := b.isLt; have hs := s.isLt; have hg := g.isLt; have hk := k.isLt
  match a with
  | ⟨0, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) / 4194304 = b.val
    omega
  | ⟨1, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) / 1024 % 4096 = s.val
    omega
  | ⟨2, _⟩ =>
    show ((((((((b.val * 4096 + s.val) * 8 + g.val) * 64 + k.val) / 2097152) * 4096 + ((((b.val * 4096 + s.val) * 8 + g.val) * 64 + k.val) / 512 % 4096)) * 8 + ((((b.val * 4096 + s.val) * 8 + g.val) * 64 + k.val) / 64 % 8)) * 2 + (1 + 0)) * 64 + ((((b.val * 4096 + s.val) * 8 + g.val) * 64 + k.val) % 64)) % 1024 = 128 * g.val + (64 + k.val)
    omega

/-! ## The scores -/

section Scores

variable (rq rk rv : S4x4096x1024.Idx → ℝ) (hq : ∀ j, x0 j = ((rq j : ℝ) : EReal)) (hk : ∀ j, x1 j = ((rk j : ℝ) : EReal))

/-- A scaled score of query `s` with key `t` in half `h` of head group `g`. -/
def sc (h : Fin 2) (b : Fin 4) (g : Fin 8) (s t : Fin 4096) : ℝ :=
  (∑ k : Fin 64, rq (ix3 b s ⟨128 * g.val + (64 * h.val + k.val), by omega⟩) * rk (ix3 b t ⟨128 * g.val + (64 * h.val + k.val), by omega⟩)) * (1 / 8)

theorem eighth : Ideal.ofBits .f32 0x3E000000#32 = (((1 : ℝ) / 8 : ℝ) : EReal) := by
  simp [Ideal.ofBits, Ideal.ieee, -EReal.coe_mul]; norm_num

theorem neg_inf : Ideal.ofBits .f32 0xFF800000#32 = ⊥ := by
  simp [Ideal.ofBits, Ideal.ieee]

include hq hk in
theorem v18_at (b : Fin 4) (g : Fin 8) (s t : Fin 4096) :
    val_main_v18 (F := Ideal) x0 x1 (ix4 b g s t) = ((sc rq rk 0 b g s t : ℝ) : EReal) := by
  rw [val_main_v18_apply, val_main_v16_apply, val_main_v17_apply, val_main_cst_2_apply]
  have e : ∀ k : Fin 64, val_main_v13 (F := Ideal) x0 (lidx_main_v16 (ix4 b g s t) k) * val_main_v15 (F := Ideal) x1 (ridx_main_v16 (ix4 b g s t) k)
      = ((rq (ix3 b s ⟨128 * g.val + (0 + k.val), by omega⟩) * rk (ix3 b t ⟨128 * g.val + (0 + k.val), by omega⟩) : ℝ) : EReal) := by
    intro k
    have el : lidx_main_v16 (ix4 b g s t) k = ix4 b s g k := funext fun a => by match a with | 0 => rfl | 1 => rfl | 2 => rfl | 3 => rfl
    have er : ridx_main_v16 (ix4 b g s t) k = ix4 b t g k := funext fun a => by match a with | 0 => rfl | 1 => rfl | 2 => rfl | 3 => rfl
    rw [el, er, v13_at, v15_at, hq, hk, ← EReal.coe_mul]
  simp only [e]
  rw [Softmax.coe_sum]
  show ((_ : ℝ) : EReal) * Ideal.ofBits .f32 0x3E000000#32 = _
  rw [eighth, ← EReal.coe_mul]
  rfl

include hq hk in
theorem v42_at (b : Fin 4) (g : Fin 8) (s t : Fin 4096) :
    val_main_v42 (F := Ideal) x0 x1 (ix4 b g s t) = ((sc rq rk 1 b g s t : ℝ) : EReal) := by
  rw [val_main_v42_apply, val_main_v40_apply, val_main_v41_apply, val_main_cst_7_apply]
  have e : ∀ k : Fin 64, val_main_v37 (F := Ideal) x0 (lidx_main_v40 (ix4 b g s t) k) * val_main_v39 (F := Ideal) x1 (ridx_main_v40 (ix4 b g s t) k)
      = ((rq (ix3 b s ⟨128 * g.val + (64 + k.val), by omega⟩) * rk (ix3 b t ⟨128 * g.val + (64 + k.val), by omega⟩) : ℝ) : EReal) := by
    intro k
    have el : lidx_main_v40 (ix4 b g s t) k = ix4 b s g k := funext fun a => by match a with | 0 => rfl | 1 => rfl | 2 => rfl | 3 => rfl
    have er : ridx_main_v40 (ix4 b g s t) k = ix4 b t g k := funext fun a => by match a with | 0 => rfl | 1 => rfl | 2 => rfl | 3 => rfl
    rw [el, er, v37_at, v39_at, hq, hk, ← EReal.coe_mul]
  simp only [e]
  rw [Softmax.coe_sum]
  show ((_ : ℝ) : EReal) * Ideal.ofBits .f32 0x3E000000#32 = _
  rw [eighth, ← EReal.coe_mul]
  rfl

theorem le_word (s t : Fin 4096) : IntOp.cmpi .sle (BitVec.ofNat 32 t.val) (BitVec.ofNat 32 s.val) = if t.val ≤ s.val then 1#1 else 0#1 := by
  have hs := s.isLt; have ht := t.isLt
  have es : (BitVec.ofNat 32 s.val).toInt = s.val := by
    rw [BitVec.toInt_eq_toNat_of_lt (by rw [BitVec.toNat_ofNat, Nat.mod_eq_of_lt (by omega)]; omega), BitVec.toNat_ofNat, Nat.mod_eq_of_lt (by omega)]
  have et : (BitVec.ofNat 32 t.val).toInt = t.val := by
    rw [BitVec.toInt_eq_toNat_of_lt (by rw [BitVec.toNat_ofNat, Nat.mod_eq_of_lt (by omega)]; omega), BitVec.toNat_ofNat, Nat.mod_eq_of_lt (by omega)]
  have e : (BitVec.ofNat 32 t.val).sle (BitVec.ofNat 32 s.val) = decide (t.val ≤ s.val) := by
    rw [BitVec.sle, es, et]; simp
  show BitVec.ofBool ((BitVec.ofNat 32 t.val).sle (BitVec.ofNat 32 s.val)) = _
  rw [e]
  by_cases h : t.val ≤ s.val
  · rw [decide_eq_true h, if_pos h]; rfl
  · rw [decide_eq_false h, if_neg h]; rfl

include hq hk in
theorem v24_at (b : Fin 4) (g : Fin 8) (s t : Fin 4096) :
    val_main_v24 (F := Ideal) x0 x1 (ix4 b g s t) = Softmax.maskedRow (sc rq rk 0 b g s) s.val t := by
  rw [val_main_v24_apply, v18_at x0 x1 rq rk hq hk, val_main_call0_v1_apply, val_main_call0_v2_apply, val_main_call0_v0_apply, val_main_cst_3_apply,
    val_main_v23_apply, val_main_v21_apply, val_main_v22_apply, val_main_v19_apply, val_main_v20_apply, val_main_v11_apply, val_main_v11_apply]
  show Scalar.select (IntOp.cmpi .sle (BitVec.ofNat 32 t.val) (BitVec.ofNat 32 s.val)) _ (Ideal.ofBits .f32 0xFF800000#32) = _
  rw [neg_inf, le_word s t]
  unfold Softmax.maskedRow
  split <;> rfl

include hq hk in
theorem v48_at (b : Fin 4) (g : Fin 8) (s t : Fin 4096) :
    val_main_v48 (F := Ideal) x0 x1 (ix4 b g s t) = Softmax.maskedRow (sc rq rk 1 b g s) s.val t := by
  rw [val_main_v48_apply, v42_at x0 x1 rq rk hq hk, val_main_call1_v1_apply, val_main_call1_v2_apply, val_main_call1_v0_apply, val_main_cst_8_apply,
    val_main_v47_apply, val_main_v45_apply, val_main_v46_apply, val_main_v43_apply, val_main_v44_apply, val_main_v11_apply, val_main_v11_apply]
  show Scalar.select (IntOp.cmpi .sle (BitVec.ofNat 32 t.val) (BitVec.ofNat 32 s.val)) _ (Ideal.ofBits .f32 0xFF800000#32) = _
  rw [neg_inf, le_word s t]
  unfold Softmax.maskedRow
  split <;> rfl

include hq hk in
theorem v25_at (b : Fin 4) (g : Fin 8) (s : Fin 4096) :
    val_main_v25 (F := Ideal) x0 x1 (ix3 b g s) = Finset.univ.fold max ⊥ (Softmax.maskedRow (sc rq rk 0 b g s) s.val) := by
  have e : val_main_v25 (F := Ideal) x0 x1 (ix3 b g s)
      = Finset.univ.fold max (Ideal.ofBits .f32 0xFF800000#32) fun t : Fin 4096 => val_main_v24 (F := Ideal) x0 x1 (ix4 b g s t) := by
    unfold val_main_v25 val_main_cst_4
    generalize val_main_v24 (F := Ideal) x0 x1 = y
    pointwise
  rw [e, neg_inf]
  simp only [v24_at x0 x1 rq rk hq hk]

include hq hk in
theorem v35_at (b : Fin 4) (g : Fin 8) (s t : Fin 4096) :
    val_main_v35 (F := Ideal) x0 x1 (ix4 b g s t) = ((Softmax.soft (sc rq rk 0 b g s) s.val t : ℝ) : EReal) := by
  have em : val_main_v27 (F := Ideal) x0 x1 (ix3 b g s) = max ⊥ (Finset.univ.fold max ⊥ (Softmax.maskedRow (sc rq rk 0 b g s) s.val)) := by
    rw [val_main_v27_apply, val_main_v26_apply, val_main_cst_5_apply, v25_at x0 x1 rq rk hq hk, ← neg_inf]
    rfl
  have ex : ∀ t' : Fin 4096, val_main_v31 (F := Ideal) x0 x1 (ix4 b g s t')
      = Ideal.exp (Softmax.maskedRow (sc rq rk 0 b g s) s.val t' - val_main_v27 (F := Ideal) x0 x1 (ix3 b g s)) := by
    intro t'
    rw [val_main_v31_apply, val_main_v30_apply, v24_at x0 x1 rq rk hq hk, val_main_v29_apply, val_main_v28_apply]
    have ei : idx_main_v28 (idx_main_v29 (ix4 b g s t')) = ix3 b g s := funext fun a => by match a with | 0 => rfl | 1 => rfl | 2 => rfl
    rw [ei]
    rfl
  have es : val_main_v32 (F := Ideal) x0 x1 (ix3 b g s) = 0 + ∑ t' : Fin 4096, val_main_v31 (F := Ideal) x0 x1 (ix4 b g s t') := by
    rw [val_main_v32_apply, val_main_cst_6_apply]
    refine congr (congrArg HAdd.hAdd Ideal.ofBits_zero_f32) (Finset.sum_congr rfl fun t' _ => congrArg _ (funext fun a => ?_))
    match a with | 0 => rfl | 1 => rfl | 2 => rfl | 3 => rfl
  rw [val_main_v35_apply, val_main_v34_apply, val_main_v33_apply]
  have ei : idx_main_v33 (idx_main_v34 (ix4 b g s t)) = ix3 b g s := funext fun a => by match a with | 0 => rfl | 1 => rfl | 2 => rfl
  rw [ei, es]
  simp only [ex]
  exact Softmax.soft_row (sc rq rk 0 b g s) s.val t _ em

include hq hk in
theorem v49_at (b : Fin 4) (g : Fin 8) (s : Fin 4096) :
    val_main_v49 (F := Ideal) x0 x1 (ix3 b g s) = Finset.univ.fold max ⊥ (Softmax.maskedRow (sc rq rk 1 b g s) s.val) := by
  have e : val_main_v49 (F := Ideal) x0 x1 (ix3 b g s)
      = Finset.univ.fold max (Ideal.ofBits .f32 0xFF800000#32) fun t : Fin 4096 => val_main_v48 (F := Ideal) x0 x1 (ix4 b g s t) := by
    unfold val_main_v49 val_main_cst_9
    generalize val_main_v48 (F := Ideal) x0 x1 = y
    pointwise
  rw [e, neg_inf]
  simp only [v48_at x0 x1 rq rk hq hk]

include hq hk in
theorem v59_at (b : Fin 4) (g : Fin 8) (s t : Fin 4096) :
    val_main_v59 (F := Ideal) x0 x1 (ix4 b g s t) = ((Softmax.soft (sc rq rk 1 b g s) s.val t : ℝ) : EReal) := by
  have em : val_main_v51 (F := Ideal) x0 x1 (ix3 b g s) = max ⊥ (Finset.univ.fold max ⊥ (Softmax.maskedRow (sc rq rk 1 b g s) s.val)) := by
    rw [val_main_v51_apply, val_main_v50_apply, val_main_cst_10_apply, v49_at x0 x1 rq rk hq hk, ← neg_inf]
    rfl
  have ex : ∀ t' : Fin 4096, val_main_v55 (F := Ideal) x0 x1 (ix4 b g s t')
      = Ideal.exp (Softmax.maskedRow (sc rq rk 1 b g s) s.val t' - val_main_v51 (F := Ideal) x0 x1 (ix3 b g s)) := by
    intro t'
    rw [val_main_v55_apply, val_main_v54_apply, v48_at x0 x1 rq rk hq hk, val_main_v53_apply, val_main_v52_apply]
    have ei : idx_main_v52 (idx_main_v53 (ix4 b g s t')) = ix3 b g s := funext fun a => by match a with | 0 => rfl | 1 => rfl | 2 => rfl
    rw [ei]
    rfl
  have es : val_main_v56 (F := Ideal) x0 x1 (ix3 b g s) = 0 + ∑ t' : Fin 4096, val_main_v55 (F := Ideal) x0 x1 (ix4 b g s t') := by
    rw [val_main_v56_apply, val_main_cst_11_apply]
    refine congr (congrArg HAdd.hAdd Ideal.ofBits_zero_f32) (Finset.sum_congr rfl fun t' _ => congrArg _ (funext fun a => ?_))
    match a with | 0 => rfl | 1 => rfl | 2 => rfl | 3 => rfl
  rw [val_main_v59_apply, val_main_v58_apply, val_main_v57_apply]
  have ei : idx_main_v57 (idx_main_v58 (ix4 b g s t)) = ix3 b g s := funext fun a => by match a with | 0 => rfl | 1 => rfl | 2 => rfl
  rw [ei, es]
  simp only [ex]
  exact Softmax.soft_row (sc rq rk 1 b g s) s.val t _ em

/-! ## The difference of the two averages -/

/-- The weight of the second average, as the reference has it. -/
def lamR : EReal := Cert.KernelIdeal.Hand.lamOf (fun d => x4 (ix1 d)) (fun d => x5 (ix1 d)) (fun d => x6 (ix1 d)) (fun d => x7 (ix1 d))

theorem sum_line (f : S64.Idx → EReal) : ∑ j : S64.Idx, f j = ∑ d : Fin 64, f (ix1 d) :=
  ((⟨fun d => ix1 d, fun j => j 0, fun _ => rfl, fun j => (eq_ix1 j).symm⟩ : Fin 64 ≃ S64.Idx).sum_comp f).symm

theorem v10_at (i : S_.Idx) : val_main_v10 (F := Ideal) x4 x5 x6 x7 i = lamR x4 x5 x6 x7 := by
  have e4 : ∀ j, val_main_v4 (F := Ideal) x4 x5 j = ∑ d : Fin 64, x4 (ix1 d) * x5 (ix1 d) := fun j => by
    rw [val_main_v4_apply, val_main_cst_apply]
    rw [sum_line]
    exact (congrArg (· + _) Ideal.ofBits_zero_f32).trans (zero_add _)
  have e7 : ∀ j, val_main_v7 (F := Ideal) x6 x7 j = ∑ d : Fin 64, x6 (ix1 d) * x7 (ix1 d) := fun j => by
    rw [val_main_v7_apply, val_main_cst_0_apply]
    rw [sum_line]
    exact (congrArg (· + _) Ideal.ofBits_zero_f32).trans (zero_add _)
  rw [val_main_v10_apply, val_main_v9_apply, val_main_v5_apply, val_main_v8_apply, val_main_cst_1_apply, e4, e7]
  rfl

variable (hv : ∀ j, x2 j = ((rv j : ℝ) : EReal)) (lr : ℝ) (hl : lamR x4 x5 x6 x7 = ((lr : ℝ) : EReal))

include hq hk hl in
theorem v62_at (b : Fin 4) (g : Fin 8) (s t : Fin 4096) :
    val_main_v62 (F := Ideal) x0 x1 x4 x5 x6 x7 (ix4 b g s t)
      = ((Softmax.soft (sc rq rk 0 b g s) s.val t - lr * Softmax.soft (sc rq rk 1 b g s) s.val t : ℝ) : EReal) := by
  rw [val_main_v62_apply, v35_at x0 x1 rq rk hq hk, val_main_v61_apply, v59_at x0 x1 rq rk hq hk, val_main_v60_apply, v10_at, hl, EReal.coe_sub, EReal.coe_mul]
  rfl

include hv in
theorem v2_at (b : Fin 4) (s : Fin 4096) (g : Fin 8) (x : Fin 128) :
    val_main_v2 (F := Ideal) x2 (ix4 b s g x) = ((rv (ix3 b s ⟨128 * g.val + x.val, by omega⟩) : ℝ) : EReal) := by
  rw [val_main_v2_apply, hv]
  refine congrArg (fun z => ((rv z : ℝ) : EReal)) (funext fun a => Fin.ext ?_)
  have hb := b.isLt; have hs := s.isLt; have hg := g.isLt; have hx := x.isLt
  match a with
  | ⟨0, _⟩ =>
    show (((b.val * 4096 + s.val) * 8 + g.val) * 128 + x.val) / 4194304 = b.val
    omega
  | ⟨1, _⟩ =>
    show (((b.val * 4096 + s.val) * 8 + g.val) * 128 + x.val) / 1024 % 4096 = s.val
    omega
  | ⟨2, _⟩ =>
    show (((b.val * 4096 + s.val) * 8 + g.val) * 128 + x.val) % 1024 = 128 * g.val + x.val
    omega

/-- A query's row of the difference of the averages. -/
def diffRow (b : Fin 4) (g : Fin 8) (s : Fin 4096) (x : Fin 128) : ℝ :=
  (∑ t : Fin 4096, rv (ix3 b t ⟨128 * g.val + x.val, by omega⟩) * Softmax.soft (sc rq rk 0 b g s) s.val t)
    - lr * ∑ t : Fin 4096, rv (ix3 b t ⟨128 * g.val + x.val, by omega⟩) * Softmax.soft (sc rq rk 1 b g s) s.val t

include hq hk hv hl in
theorem v64_at (b : Fin 4) (s : Fin 4096) (g : Fin 8) (x : Fin 128) :
    val_main_v64 (F := Ideal) x0 x1 x2 x4 x5 x6 x7 (ix4 b s g x) = ((diffRow rq rk rv lr b g s x : ℝ) : EReal) := by
  rw [val_main_v64_apply, val_main_v63_apply]
  have e : ∀ t : Fin 4096, val_main_v2 (F := Ideal) x2 (lidx_main_v63 (idx_main_v64 (ix4 b s g x)) t)
        * val_main_v62 (F := Ideal) x0 x1 x4 x5 x6 x7 (ridx_main_v63 (idx_main_v64 (ix4 b s g x)) t)
      = ((rv (ix3 b t ⟨128 * g.val + x.val, by omega⟩) * (Softmax.soft (sc rq rk 0 b g s) s.val t - lr * Softmax.soft (sc rq rk 1 b g s) s.val t) : ℝ) : EReal) := by
    intro t
    have el : lidx_main_v63 (idx_main_v64 (ix4 b s g x)) t = ix4 b t g x := funext fun a => by match a with | 0 => rfl | 1 => rfl | 2 => rfl | 3 => rfl
    have er : ridx_main_v63 (idx_main_v64 (ix4 b s g x)) t = ix4 b g s t := funext fun a => by match a with | 0 => rfl | 1 => rfl | 2 => rfl | 3 => rfl
    rw [el, er, v2_at x2 rv hv, v62_at x0 x1 x4 x5 x6 x7 rq rk hq hk lr hl, ← EReal.coe_mul]
  simp only [e]
  rw [Softmax.coe_sum]
  refine congrArg (fun z : ℝ => (z : EReal)) ?_
  unfold diffRow
  rw [Finset.mul_sum, ← Finset.sum_sub_distrib]
  exact Finset.sum_congr rfl fun t _ => by ring

/-! ## The norm and the gate -/

include hq hk hv hl in
theorem v83_at (b : Fin 4) (s : Fin 4096) (g : Fin 8) (x : Fin 128) :
    val_main_v83 (F := Ideal) x0 x1 x2 x3 x4 x5 x6 x7 x8 (ix3 b s ⟨128 * g.val + x.val, by omega⟩)
      = Cert.KernelIdeal.Hand.gated (fun x => ((diffRow rq rk rv lr b g s x : ℝ) : EReal)) (x8 (ix1 x)) (x3 (ix3 b s ⟨128 * g.val + x.val, by omega⟩)) x := by
  have hb := b.isLt; have hs := s.isLt; have hg := g.isLt; have hx := x.isLt
  have e64 := v64_at x0 x1 x2 x4 x5 x6 x7 rq rk rv hq hk hv lr hl
  have ei : idx_main_v80 (ix3 b s ⟨128 * g.val + x.val, by omega⟩) = ix4 b s g x := by
    refine funext fun a => Fin.ext ?_
    match a with
    | ⟨0, _⟩ =>
      show ((b.val * 4096 + s.val) * 1024 + (128 * g.val + x.val)) / 4194304 = b.val
      omega
    | ⟨1, _⟩ =>
      show ((b.val * 4096 + s.val) * 1024 + (128 * g.val + x.val)) / 1024 % 4096 = s.val
      omega
    | ⟨2, _⟩ =>
      show ((b.val * 4096 + s.val) * 1024 + (128 * g.val + x.val)) / 128 % 8 = g.val
      omega
    | ⟨3, _⟩ =>
      show ((b.val * 4096 + s.val) * 1024 + (128 * g.val + x.val)) % 128 = x.val
      omega
  have esq : val_main_v67 (F := Ideal) x0 x1 x2 x4 x5 x6 x7 (idx_main_v73 (ix4 b s g x))
      = ∑ x : Fin 128, ((diffRow rq rk rv lr b g s x : ℝ) : EReal) * ((diffRow rq rk rv lr b g s x : ℝ) : EReal) := by
    rw [val_main_v67_apply, val_main_v66_apply, val_main_cst_12_apply]
    refine (congr (congrArg HAdd.hAdd Ideal.ofBits_zero_f32) (Finset.sum_congr rfl fun y _ => ?_)).trans (zero_add _)
    have ey : idx_main_v66 (idx_main_v67 (idx_main_v73 (ix4 b s g x))) y = ix4 b s g y := funext fun a => by match a with | 0 => rfl | 1 => rfl | 2 => rfl | 3 => rfl
    rw [ey, val_main_v65_apply, e64]
    rfl
  have eg : val_main_v76 (F := Ideal) x8 (ix4 b s g x) = x8 (ix1 x) := by
    rw [val_main_v76_apply, val_main_v75_apply]
    exact congrArg x8 (funext fun a => by match a with | 0 => rfl)
  have ez : val_main_v81 (F := Ideal) x3 (ix3 b s ⟨128 * g.val + x.val, by omega⟩)
      = x3 (ix3 b s ⟨128 * g.val + x.val, by omega⟩) * Ideal.div 1 (1 + Ideal.exp (0 - x3 (ix3 b s ⟨128 * g.val + x.val, by omega⟩))) := by
    rw [val_main_v81_apply, val_main_call2_v5_apply, val_main_call2_v4_apply, val_main_call2_v3_apply, val_main_call2_v2_apply, val_main_call2_v1_apply,
      val_main_call2_v0_apply, val_main_call2_cst_apply, val_main_call2_cst_0_apply, zero_sub]
    show _ * Ideal.div (Ideal.ofBits .f32 0x3F800000#32) (Ideal.ofBits .f32 0x3F800000#32 + Ideal.exp (-_)) = _
    rw [Ideal.ofBits_one_f32]
  rw [val_main_v83_apply, val_main_v82_apply, val_main_v80_apply, ei, val_main_v79_apply, val_main_v77_apply, val_main_v74_apply, val_main_v78_apply,
    val_main_cst_15_apply, e64, eg, ez, val_main_v73_apply, val_main_v72_apply, val_main_v71_apply, val_main_v70_apply, val_main_cst_14_apply,
    val_main_v69_apply, val_main_v68_apply, val_main_cst_13_apply, esq]
  rfl

end Scores

end Cert.RefValue

end
-- ==== Proof.Agree.lean ====
/-
  The kernel and the reference end with the same array.
-/
module

public import proofs.«01_k».proof.Defs
public import proofs.«01_k».proof.Proof.Reference
public import proofs.«01_k».proof.Proof.Gen.Pre_finite
public import proofs.«01_k».proof.Proof.Gen.ReferenceIdeal.Run
public import Idealize.ShloMosaic.Lib.ReduceAll

@[expose] public section

set_option maxRecDepth 16384

noncomputable section

namespace Cert.Agree

open Idealize Idealize.ShloMosaic Idealize.SL.Sem
open Cert.KernelIdeal Cert.KernelIdeal.Hand Cert.RefValue

/-! ## A row -/

/-- A power of two to the scaled score is the exponential of the plain score. -/
theorem pow_score (z : ℝ) : Real.rpow 2 (z * qs) = Real.exp (z * (1 / 8)) := by
  have hl : Real.log 2 ≠ 0 := (Real.log_pos (by norm_num)).ne'
  have e : Real.log 2 * (z * qs) = z * (1 / 8) := by unfold qs; field_simp
  exact (Real.rpow_def_of_pos (by norm_num) (z * qs)).trans (congrArg Real.exp e)

theorem half1_eq (rq rk : Cert.KernelIdeal.S4x4096x1024.Idx → ℝ) (b : Fin 4) (g : Fin 8) (s t : Fin 4096) :
    Real.rpow 2 (half1 (fun d => rowOf rq b g s.val d * qs) (rowOf rk b g) t.val) = Real.exp (sc rq rk 0 b g s t) := by
  have hg := g.isLt
  have e : half1 (fun d => rowOf rq b g s.val d * qs) (rowOf rk b g) t.val
      = (∑ k : Fin 64, rq (ix3 b s ⟨128 * g.val + (64 * (0 : Fin 2).val + k.val), by have := k.isLt; show 128 * g.val + (64 * 0 + k.val) < 1024; omega⟩)
          * rk (ix3 b t ⟨128 * g.val + (64 * (0 : Fin 2).val + k.val), by have := k.isLt; show 128 * g.val + (64 * 0 + k.val) < 1024; omega⟩)) * qs := by
    unfold half1
    refine (Fin.sum_univ_add (a := 64) (b := 64) _).trans ?_
    rw [Finset.sum_eq_zero (s := (Finset.univ : Finset (Fin 64))) (f := fun i => _ * rowOf rk b g t.val (Fin.natAdd 64 i)) fun i _ => ?_, add_zero, Finset.sum_mul]
    · refine Finset.sum_congr rfl fun i _ => ?_
      rw [if_pos (show (Fin.castAdd 64 i).val < 64 from i.isLt)]
      show rowOf rq b g s.val (Fin.castAdd 64 i) * qs * _ = _
      rw [rowOf_of_lt, rowOf_of_lt]
      have ei : (⟨128 * g.val + (Fin.castAdd 64 i).val, by have := i.isLt; show 128 * g.val + i.val < 1024; omega⟩ : Fin 1024)
          = ⟨128 * g.val + (64 * (0 : Fin 2).val + i.val), by have := i.isLt; show 128 * g.val + (64 * 0 + i.val) < 1024; omega⟩ :=
        Fin.ext (by show 128 * g.val + i.val = 128 * g.val + (64 * 0 + i.val); omega)
      rw [ei]; ring
    · rw [if_neg (show ¬(Fin.natAdd 64 i).val < 64 from by show ¬64 + i.val < 64; omega), zero_mul]
  rw [e]
  exact pow_score _

theorem half2_eq (rq rk : Cert.KernelIdeal.S4x4096x1024.Idx → ℝ) (b : Fin 4) (g : Fin 8) (s t : Fin 4096) :
    Real.rpow 2 (half2 (fun d => rowOf rq b g s.val d * qs) (rowOf rk b g) t.val) = Real.exp (sc rq rk 1 b g s t) := by
  have hg := g.isLt
  have e : half2 (fun d => rowOf rq b g s.val d * qs) (rowOf rk b g) t.val
      = (∑ k : Fin 64, rq (ix3 b s ⟨128 * g.val + (64 * (1 : Fin 2).val + k.val), by have := k.isLt; show 128 * g.val + (64 * 1 + k.val) < 1024; omega⟩)
          * rk (ix3 b t ⟨128 * g.val + (64 * (1 : Fin 2).val + k.val), by have := k.isLt; show 128 * g.val + (64 * 1 + k.val) < 1024; omega⟩)) * qs := by
    unfold half2
    refine (Fin.sum_univ_add (a := 64) (b := 64) _).trans ?_
    rw [Finset.sum_eq_zero (s := (Finset.univ : Finset (Fin 64))) (f := fun i => _ * rowOf rk b g t.val (Fin.castAdd 64 i)) fun i _ => ?_, zero_add, Finset.sum_mul]
    · refine Finset.sum_congr rfl fun i _ => ?_
      rw [if_neg (show ¬(Fin.natAdd 64 i).val < 64 from by show ¬64 + i.val < 64; omega)]
      show rowOf rq b g s.val (Fin.natAdd 64 i) * qs * _ = _
      rw [rowOf_of_lt, rowOf_of_lt]
      have ei : (⟨128 * g.val + (Fin.natAdd 64 i).val, by have := i.isLt; show 128 * g.val + (64 + i.val) < 1024; omega⟩ : Fin 1024)
          = ⟨128 * g.val + (64 * (1 : Fin 2).val + i.val), by have := i.isLt; show 128 * g.val + (64 * 1 + i.val) < 1024; omega⟩ :=
        Fin.ext (by show 128 * g.val + (64 + i.val) = 128 * g.val + (64 * 1 + i.val); omega)
      rw [ei]; ring
    · rw [if_pos (show (Fin.castAdd 64 i).val < 64 from i.isLt), zero_mul]
  rw [e]
  exact pow_score _

/-- A query's row, as the kernel and as the reference compute it. -/
theorem head_eq (rq rk rv : Cert.KernelIdeal.S4x4096x1024.Idx → ℝ) (lr : ℝ) (b : Fin 4) (g : Fin 8) (s : Fin 4096) :
    headRow (fun d => rowOf rq b g s.val d * qs) (rowOf rk b g) (rowOf rv b g) ((lr : ℝ) : EReal) (s.val + 1)
      = fun x => ((diffRow rq rk rv lr b g s x : ℝ) : EReal) := by
  have hg := g.isLt
  funext x
  unfold headRow diffRow
  rw [Softmax.avg_eq_soft _ _ (sc rq rk 0 b g s) (fun t => rv (ix3 b t ⟨128 * g.val + x.val, by omega⟩)) s (half1_eq rq rk b g s)
      (fun t => rowOf_of_lt rv b g t x),
    Softmax.avg_eq_soft _ _ (sc rq rk 1 b g s) (fun t => rv (ix3 b t ⟨128 * g.val + x.val, by omega⟩)) s (half2_eq rq rk b g s)
      (fun t => rowOf_of_lt rv b g t x), ← EReal.coe_mul, ← EReal.coe_sub]

/-! ## What the precondition says -/

theorem inf_word : Ideal.ofBits .f32 0x7F800000#32 = ⊤ := by
  simp [Ideal.ofBits, Ideal.ieee]

/-- An array whose absolute values are below infinity has real entries. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (i : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) hr hu i = 1#1) (j : s.Idx) :
    (x j : EReal) = ((EReal.toReal (x j) : ℝ) : EReal) := by
  haveI : Subsingleton Cert.Pre_finite.S_.Idx := ⟨fun a b => funext fun k => Fin.elim0 k⟩
  have h := Host.reduce_andi_all _ _ hr hu i e j
  have h' : BitVec.ofBool (decide (max (x j : EReal) (-(x j : EReal)) < Ideal.ofBits .f32 0x7F800000#32)) = 1#1 := h
  rw [inf_word] at h'
  have h2 : max (x j : EReal) (-(x j : EReal)) < ⊤ := by
    by_contra hn
    rw [decide_eq_false hn] at h'
    exact absurd h' (by decide)
  have ht : (x j : EReal) ≠ ⊤ := (lt_of_le_of_lt (le_max_left _ _) h2).ne
  have hn : (x j : EReal) ≠ ⊥ := by
    intro hbot
    have : (-(x j : EReal)) < ⊤ := lt_of_le_of_lt (le_max_right _ _) h2
    rw [hbot] at this
    exact absurd this (by simp)
  exact (EReal.coe_toReal ht hn).symm

/-- The seven arrays that the precondition speaks of have real entries. -/
theorem real_of_pre (x0 x1 x2 x3 : FVec Ideal Cert.Pre_finite.S4x4096x1024 .f32) (x4 x5 x6 x7 : FVec Ideal Cert.Pre_finite.S64 .f32)
    (x8 : FVec Ideal Cert.Pre_finite.S128 .f32) (h : Cert.Pre_finite.fn (F := Ideal) x0 x1 x2 x3 x4 x5 x6 x7 x8 = fun _ => 1#1) :
    ((∀ j, (x0 j : EReal) = ((EReal.toReal (x0 j) : ℝ) : EReal)) ∧ (∀ j, (x1 j : EReal) = ((EReal.toReal (x1 j) : ℝ) : EReal))
      ∧ ∀ j, (x2 j : EReal) = ((EReal.toReal (x2 j) : ℝ) : EReal))
    ∧ (∀ j, (x4 j : EReal) = ((EReal.toReal (x4 j) : ℝ) : EReal)) ∧ (∀ j, (x5 j : EReal) = ((EReal.toReal (x5 j) : ℝ) : EReal))
      ∧ (∀ j, (x6 j : EReal) = ((EReal.toReal (x6 j) : ℝ) : EReal)) ∧ ∀ j, (x7 j : EReal) = ((EReal.toReal (x7 j) : ℝ) : EReal) := by
  have i : Cert.Pre_finite.S_.Idx := fun k => Fin.elim0 k
  have h0 := congrFun h i
  obtain ⟨h6, a7⟩ := IntOp.andi_eq_one.1 h0
  obtain ⟨h5, a6⟩ := IntOp.andi_eq_one.1 h6
  obtain ⟨h4, a5⟩ := IntOp.andi_eq_one.1 h5
  obtain ⟨h2, a4⟩ := IntOp.andi_eq_one.1 h4
  obtain ⟨h1, a2⟩ := IntOp.andi_eq_one.1 h2
  obtain ⟨a0, a1⟩ := IntOp.andi_eq_one.1 h1
  exact ⟨⟨real_of_all x0 _ _ _ i a0, real_of_all x1 _ _ _ i a1, real_of_all x2 _ _ _ i a2⟩,
    real_of_all x4 _ _ _ i a4, real_of_all x5 _ _ _ i a5, real_of_all x6 _ _ _ i a6, real_of_all x7 _ _ _ i a7⟩

/-- The weight of the second average is a real number when its four rows are. -/
theorem lam_real (l1 l2 l3 l4 : Fin 64 → EReal) (h1 : ∀ d, l1 d = (((l1 d).toReal : ℝ) : EReal)) (h2 : ∀ d, l2 d = (((l2 d).toReal : ℝ) : EReal))
    (h3 : ∀ d, l3 d = (((l3 d).toReal : ℝ) : EReal)) (h4 : ∀ d, l4 d = (((l4 d).toReal : ℝ) : EReal)) : ∃ lr : ℝ, lamOf l1 l2 l3 l4 = (lr : EReal) := by
  have es : ∀ a b : Fin 64 → EReal, (∀ d, a d = (((a d).toReal : ℝ) : EReal)) → (∀ d, b d = (((b d).toReal : ℝ) : EReal)) →
      ∑ d, a d * b d = ((∑ d, (a d).toReal * (b d).toReal : ℝ) : EReal) := fun a b ha hb => by
    rw [← Softmax.coe_sum]
    exact Finset.sum_congr rfl fun d _ => by rw [EReal.coe_mul, ← ha, ← hb]
  obtain ⟨w, hw⟩ : ∃ w : ℝ, Ideal.ofBits .f32 0x3EB60549#32 = (w : EReal) := by
    simp [Ideal.ofBits, Ideal.ieee, -EReal.coe_mul]
  unfold lamOf
  rw [es l1 l2 h1 h2, es l3 l4 h3 h4, Ideal.exp_coe, Ideal.exp_coe, hw, ← EReal.coe_sub, ← EReal.coe_add]
  exact ⟨_, rfl⟩

/-! ## The two arrays -/

section Arrays

variable (m : (ℓ : Loc nD τ sig) → Buf (Elt Ideal) ℓ) (c : Dev nD)

theorem reference_eq (hf : Real3 m c) (lr : ℝ) (hl : lam m c = (lr : EReal)) :
    Cert.ReferenceIdeal.Read.val_main_v83 (F := Ideal) (aQ m c) (aK m c) (aV m c) (aZ m c) (aL1 m c) (aL2 m c) (aL3 m c) (aL4 m c) (aG m c) = out m c := by
  funext j
  obtain ⟨b, s, y, rfl⟩ : ∃ (b : Fin 4) (s : Fin 4096) (y : Fin 1024), j = ix3 b s y := ⟨j 0, j 1, j 2, eq_ix3 j⟩
  obtain ⟨g, x, hy⟩ : ∃ (g : Fin 8) (x : Fin 128), y.val = 128 * g.val + x.val :=
    ⟨⟨y.val / 128, by omega⟩, ⟨y.val % 128, by omega⟩, by show y.val = 128 * (y.val / 128) + y.val % 128; omega⟩
  have hg := g.isLt
  rw [show y = ⟨128 * g.val + x.val, by omega⟩ from Fin.ext hy]
  refine (v83_at _ _ _ _ _ _ _ _ _ (fun j => (aQ m c j).toReal) (fun j => (aK m c j).toReal) (fun j => (aV m c j).toReal) hf.q hf.k hf.v lr hl b s g x).trans ?_
  have e1 : (⟨(128 * g.val + x.val) / 128, by omega⟩ : Fin 8) = g := Fin.ext (by show (128 * g.val + x.val) / 128 = g.val; omega)
  have e2 : (⟨(128 * g.val + x.val) % 128, by omega⟩ : Fin 128) = x := Fin.ext (by show (128 * g.val + x.val) % 128 = x.val; omega)
  show _ = outAt m c b s (⟨(128 * g.val + x.val) / 128, by omega⟩ : Fin 8) (⟨(128 * g.val + x.val) % 128, by omega⟩ : Fin 128)
  rw [e1, e2]
  unfold outAt
  rw [hl, head_eq]

end Arrays

theorem algebraic : Cert.algebraic_KernelIdeal_ReferenceIdeal_pre_finite := by
  intro m g m' g' hpre hm
  have hp := fun c => real_of_pre _ _ _ _ _ _ _ _ _ (hpre c)
  have hf : ∀ c, Real3 m c := fun c => ⟨(hp c).1.1, (hp c).1.2.1, (hp c).1.2.2⟩
  refine ⟨fun c => out m c, (θ_run Cert.KernelIdeal.defs _ _).mono (fun r h => h.1) (run_out m g hf),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8⟩ := hm c
  obtain ⟨lr, hl⟩ := lam_real (fun d => aL1 m c (ix1 d)) (fun d => aL2 m c (ix1 d)) (fun d => aL3 m c (ix1 d)) (fun d => aL4 m c (ix1 d))
    (fun d => (hp c).2.1 _) (fun d => (hp c).2.2.1 _) (fun d => (hp c).2.2.2.1 _) (fun d => (hp c).2.2.2.2 _)
  refine (Cert.ReferenceIdeal.Read.val_main_v83_eq m' c).trans ?_
  rw [e0, e1, e2, e3, e4, e5, e6, e7, e8]
  exact reference_eq m c (hf c) lr hl

end Cert.Agree

end
-- ==== Proof.Dense.lean ====
/-
  A row scaled by the root of its mean square, and rows of a flattened batch: what the layer's matrix products have in
  common.
-/
module

public import Idealize.ShloMosaic.Lib.Pipeline.ValueKit
public import Idealize.ShloMosaic.Lib.StableHlo.Run
public import Idealize.ShloMosaic.Lib.Pipeline.Covers
public import Idealize.ShloMosaic.Lib.Pointwise

@[expose] public section

noncomputable section

namespace Cert.Dense

open Idealize Idealize.ShloMosaic

/-- The factor that brings a row to a mean square of one. -/
def rootOf (y : Fin 1024 → EReal) : EReal :=
  Ideal.rsqrt (Ideal.div (∑ d, y d * y d) (Ideal.ofBits .f32 0x44800000#32) + Ideal.ofBits .f32 0x358637BD#32)

/-- A row, normed, with its gains. -/
def normed (y g : Fin 1024 → EReal) (d : Fin 1024) : EReal := y d * rootOf y * g d

/-- The batch and the step of a row of the flattened batch. -/
def batchOf (R : Fin 16384) : Fin 4 := ⟨R.val / 4096, by omega⟩
def stepOf (R : Fin 16384) : Fin 4096 := ⟨R.val % 4096, by omega⟩

/-- Where column `d` of the flattened row `R` lies in the batch. -/
def atFlat (R : Fin 16384) (d : Fin 1024) : (⟨3, ![4, 4096, 1024]⟩ : Shape).Idx := ix3 (batchOf R) (stepOf R) d

/-- A flattened batch, at one element. -/
theorem cast_flat (f : (⟨3, ![4, 4096, 1024]⟩ : Shape).Idx → EReal)
    (h : (⟨3, ![4, 4096, 1024]⟩ : Shape).ShapeCasts ⟨2, ![16384, 1024]⟩) (R : Fin 16384) (d : Fin 1024) :
    shapeCast ⟨2, ![16384, 1024]⟩ f h (ix2 R d) = f (atFlat R d) :=
  shapeCast_apply f h (ix2 R d) (atFlat R d) (by
    rw [Shape.rowMajor_val_three, Shape.rowMajor_val_two]
    show (R.val / 4096 * 4096 + R.val % 4096) * 1024 + d.val = R.val * 1024 + d.val
    omega)

/-- A vector laid out as a row, at one element. -/
theorem cast_line {W : ℕ} (f : (⟨1, ![W]⟩ : Shape).Idx → EReal) (h : (⟨1, ![W]⟩ : Shape).ShapeCasts ⟨2, ![1, W]⟩) (d : Fin W) :
    shapeCast ⟨2, ![1, W]⟩ f h (ix2 0 d) = f (ix1 d) :=
  shapeCast_apply f h (ix2 0 d) (ix1 d) (by rw [Shape.rowMajor_val_one, Shape.rowMajor_val_two]; show d.val = 0 * W + d.val; omega)

/-- The constant zero adds nothing. -/
theorem zero_bits_add (u : EReal) : (Ideal.ofBits .f32 0x00000000#32 : EReal) + u = u := by
  rw [Ideal.ofBits_zero_f32, zero_add]

/-- Row `r` of the `t`-th block of 256 rows. -/
def rowIn (t : Fin 64) (r : Fin 256) : Fin 16384 := ⟨256 * t.val + r.val, by omega⟩

end Cert.Dense

end
-- ==== Proof.OutProj.lean ====
/-
  The last out-projection: the kernel's array and the reference's, read at one element, and their equality.
-/
module

public import proofs.«01_k».proof.Proof.Dense
public import proofs.«01_k».proof.Proof.Gen.Kernel2Ideal.Value
public import proofs.«01_k».proof.Proof.Gen.Reference2Ideal.Run
public import proofs.«01_k».proof.Proof.Gen.Reference2Ideal.Read
public import proofs.«01_k».proof.Defs

@[expose] public section

set_option maxRecDepth 16384

noncomputable section

namespace Cert.Kernel2Ideal.Hand

open Idealize.ShloMosaic Idealize.ShloMosaic.TcCoe
open Idealize.SL Idealize.SL.Sem
open Cert.Kernel2Ideal Cert.Kernel2Ideal.Gen Cert.Dense

/-! ## One block -/

theorem pay_apply (a : Vec Ideal S256x1024 .bf16) (w : Vec Ideal S1024x1024 .bf16) (x : Vec Ideal S256x1024 .f32) (g : Vec Ideal S1x1024 .f32)
    (r : Fin 256) (n : Fin 1024) :
    k0_pay1 a w x g (ix2 r n)
      = normed (fun n => x (ix2 r n) + ∑ k : Fin 1024, a (ix2 r k) * w (ix2 k n)) (fun n => g (ix2 0 n)) n := by
  unfold normed rootOf
  pointwise [k0_pay1]

variable (m : (ℓ : Loc nD τ sig) → Buf (Elt Ideal) ℓ) (ρ : Dev nD → PrngReg)

/-! ## What the host prepares -/

/-- The arguments, as arrays of extended reals. -/
def aX (c : Dev nD) : S4x4096x1024.Idx → EReal := m ((c : Thread nD τ).loc main_arg0)
def aO (c : Dev nD) : S4x4096x1024.Idx → EReal := m ((c : Thread nD τ).loc main_arg1)
def aW (c : Dev nD) : S1024x1024.Idx → EReal := m ((c : Thread nD τ).loc main_arg2)
def aG (c : Dev nD) : S1024.Idx → EReal := m ((c : Thread nD τ).loc main_arg3)

theorem V_x (c : Dev nD) : V m c main_v0 = shapeCast S16384x1024 (aX m c) shapeCasts_S4x4096x1024_S16384x1024 := by
  unfold_abbrev_sides
  after_results
  rfl

theorem V_o (c : Dev nD) : V m c main_v1 = shapeCast S16384x1024 (aO m c) shapeCasts_S4x4096x1024_S16384x1024 := by
  unfold_abbrev_sides
  after_results
  rfl

theorem V_w (c : Dev nD) : V m c main_v2 = aW m c := by
  unfold_abbrev_sides
  after_results
  rfl

theorem V_g (c : Dev nD) : V m c main_v3 = shapeCast S1x1024 (aG m c) shapeCasts_S1024_S1x1024 := by
  unfold_abbrev_sides
  after_results
  rfl

/-! ## The windows' places -/

theorem place_row (i : grid0.Coords) : cc0_transform_0 i = ![(i 0).val, 0] := by
  revert i; decide +kernel

theorem place_none (i : grid0.Coords) : cc0_transform_2 i = ![0, 0] := by
  revert i; decide +kernel

section Place

variable (t : Fin cfg0.N)

/-- The block of rows of a grid point. -/
def tOf : Fin 64 := (grid0.coords t) 0

theorem emb_0 (r : Fin 256) (d : Fin 1024) : ((cfg0.win 0).blk t).view.emb (ix2 r d) = (ix2 (rowIn (tOf t) r) d : S16384x1024.Idx) := by
  have e : win0_0.index t = ![(tOf t).val, 0] := place_row (grid0.coords t)
  have h : ∀ a : Fin 2, win0_0.index t a * win0_0.size a + ((ix2 r d : S256x1024.Idx) a).val = ((ix2 (rowIn (tOf t) r) d : S16384x1024.Idx) a).val := by
    intro a; rw [e]
    match a with
    | 0 => show (tOf t).val * 256 + r.val = 256 * (tOf t).val + r.val; omega
    | 1 => show 0 * 1024 + d.val = d.val; omega
  funext a
  refine Fin.ext ?_
  blk_simp
  exact h a

theorem emb_1 (r : Fin 256) (d : Fin 1024) : ((cfg0.win 1).blk t).view.emb (ix2 r d) = (ix2 (rowIn (tOf t) r) d : S16384x1024.Idx) := emb_0 t r d

theorem emb_4 (r : Fin 256) (d : Fin 1024) : ((cfg0.win 4).blk t).view.emb (ix2 r d) = (ix2 (rowIn (tOf t) r) d : S16384x1024.Idx) := emb_0 t r d

theorem emb_2 (k n : Fin 1024) : ((cfg0.win 2).blk t).view.emb (ix2 k n) = (ix2 k n : S1024x1024.Idx) := by
  have e : win0_2.index t = ![0, 0] := place_none (grid0.coords t)
  have h : ∀ a : Fin 2, win0_2.index t a * win0_2.size a + ((ix2 k n : S1024x1024.Idx) a).val = ((ix2 k n : S1024x1024.Idx) a).val := by
    intro a; rw [e]
    match a with
    | 0 => show 0 * 1024 + k.val = k.val; omega
    | 1 => show 0 * 1024 + n.val = n.val; omega
  funext a
  refine Fin.ext ?_
  blk_simp
  exact h a

theorem emb_3 (d : Fin 1024) : ((cfg0.win 3).blk t).view.emb (ix2 0 d) = (ix2 0 d : S1x1024.Idx) := by
  have e : win0_3.index t = ![0, 0] := place_none (grid0.coords t)
  have h : ∀ a : Fin 2, win0_3.index t a * win0_3.size a + ((ix2 0 d : S1x1024.Idx) a).val = ((ix2 0 d : S1x1024.Idx) a).val := by
    intro a; rw [e]
    match a with
    | 0 => show 0 * 1 + 0 = 0; omega
    | 1 => show 0 * 1024 + d.val = d.val; omega
  funext a
  refine Fin.ext ?_
  blk_simp
  exact h a

end Place

/-! ## The staged blocks, at one element -/

theorem x_block (c : Dev nD) (t : Fin cfg0.N) (r : Fin 256) (d : Fin 1024) : iblk m c 0 t (ix2 r d) = aX m c (atFlat (rowIn (tOf t) r) d) :=
  (congrArg (V m c main_v0) (emb_0 t r d)).trans ((congrFun (V_x m c) _).trans (cast_flat _ _ _ _))

theorem o_block (c : Dev nD) (t : Fin cfg0.N) (r : Fin 256) (d : Fin 1024) : iblk m c 1 t (ix2 r d) = aO m c (atFlat (rowIn (tOf t) r) d) :=
  (congrArg (V m c main_v1) (emb_1 t r d)).trans ((congrFun (V_o m c) _).trans (cast_flat _ _ _ _))

theorem w_block (c : Dev nD) (t : Fin cfg0.N) (k n : Fin 1024) : iblk m c 2 t (ix2 k n) = aW m c (ix2 k n) :=
  (congrArg (V m c main_v2) (emb_2 t k n)).trans (congrFun (V_w m c) _)

theorem g_block (c : Dev nD) (t : Fin cfg0.N) (d : Fin 1024) : iblk m c 3 t (ix2 0 d) = aG m c (ix1 d) :=
  (congrArg (V m c main_v3) (emb_3 t d)).trans ((congrFun (V_g m c) _).trans (cast_line _ _ d))

/-! ## The whole array -/

/-- A row of the residual stream after the out-projection. -/
def sumRow (x o : S4x4096x1024.Idx → EReal) (w : S1024x1024.Idx → EReal) (R : Fin 16384) (n : Fin 1024) : EReal :=
  x (atFlat R n) + ∑ k : Fin 1024, o (atFlat R k) * w (ix2 k n)

/-- The result, at one element. -/
def outAt (x o : S4x4096x1024.Idx → EReal) (w : S1024x1024.Idx → EReal) (g : S1024.Idx → EReal) (R : Fin 16384) (n : Fin 1024) : EReal :=
  normed (sumRow x o w R) (fun d => g (ix1 d)) n

def out (c : Dev nD) : S16384x1024.Idx → EReal := fun j => outAt (aX m c) (aO m c) (aW m c) (aG m c) (j 0) (j 1)

theorem zeros : (![0, 0] : Fin 2 → ℕ) = fun _ => 0 := by funext a; match a with | 0 => rfl | 1 => rfl

theorem point (c : Dev nD) (t : Fin cfg0.N) (r : Fin 256) (n : Fin 1024) :
    out0_4 (iblk m c 0 t) (iblk m c 1 t) (iblk m c 2 t) (iblk m c 3 t) (ix2 r n) = out m c (ix2 (rowIn (tOf t) r) n) := by
  unfold out0_4
  rw [View.canon_unit_zero zeros, View.ld_unit_zero zeros, View.ld_unit_zero zeros, View.ld_unit_zero zeros, View.ld_unit_zero zeros]
  refine (pay_apply _ _ _ _ r n).trans ?_
  show _ = outAt (aX m c) (aO m c) (aW m c) (aG m c) (rowIn (tOf t) r) n
  unfold outAt
  congr 1
  · funext n'
    rw [x_block]
    unfold sumRow
    congr 1
    exact Finset.sum_congr rfl fun k _ => by rw [o_block, w_block]
  · funext d
    exact g_block m c t d

theorem array_eq (c : Dev nD) : (dats m 0 c).arrAt 4 cfg0.N = out m c := by
  refine (dats m 0 c).arrAt_eq_of_covers 4 (out m c)
    ((cfg0.win 4).covers_of_indexMap_surj rfl (by decide) fun β => ⟨fun | 0 => β 0, fun a => ?_⟩) fun t ht y => ?_
  · have e := place_row (fun | 0 => β 0 : grid0.Coords)
    refine (congrFun e a).trans ?_
    match a with
    | 0 => rfl
    | 1 => exact (Nat.lt_one_iff.mp (β 1).isLt).symm
  · obtain ⟨r, n, rfl⟩ : ∃ (r : Fin 256) (n : Fin 1024), y = ix2 r n := ⟨y 0, y 1, eq_ix2 y⟩
    refine (congrFun (Cert.Kernel2Ideal.Value.flushed4 m c t) (ix2 r n)).trans ?_
    refine Eq.trans ?_ ((point m c t r n).trans (congrArg (out m c) (emb_4 t r n).symm))
    rfl

end Cert.Kernel2Ideal.Hand

namespace Cert.Agree2

open Idealize.ShloMosaic Idealize.ShloMosaic.TcCoe
open Idealize.SL Idealize.SL.Sem
open Cert.Dense Cert.Reference2Ideal Cert.Reference2Ideal.Read Cert.Kernel2Ideal.Hand

/-! ## The reference -/

theorem sum_at (x0 x1 : S4x4096x1024.Idx → EReal) (x2 : S1024x1024.Idx → EReal) (R : Fin 16384) (n : Fin 1024) :
    val_main_v2 (F := Ideal) x0 x1 x2 (atFlat R n) = sumRow x0 x1 x2 R n := by
  have hl : ∀ k : Fin 1024, lidx_main_v1 (atFlat R n) k = atFlat R k := fun k => funext fun a => by match a with | 0 => rfl | 1 => rfl | 2 => rfl
  have hr : ∀ k : Fin 1024, ridx_main_v1 (atFlat R n) k = ix2 k n := fun k => funext fun a => by match a with | 0 => rfl | 1 => rfl
  rw [val_main_v2_apply, val_main_v1_apply]
  unfold sumRow
  exact congrArg (x0 (atFlat R n) + ·) (Finset.sum_congr rfl fun k _ => by rw [val_main_v0_apply, hl, hr]; rfl)

theorem root_at (x0 x1 : S4x4096x1024.Idx → EReal) (x2 : S1024x1024.Idx → EReal) (R : Fin 16384) (n : Fin 1024) :
    val_main_v11 (F := Ideal) x0 x1 x2 (atFlat R n) = rootOf (sumRow x0 x1 x2 R) := by
  have e : val_main_v4 (F := Ideal) x0 x1 x2 (ix2 (batchOf R) (stepOf R)) = ∑ d : Fin 1024, sumRow x0 x1 x2 R d * sumRow x0 x1 x2 R d := by
    rw [val_main_v4_apply, val_main_cst_apply]
    refine (zero_bits_add _).trans (Finset.sum_congr rfl fun d _ => ?_)
    have hi : idx_main_v4 (ix2 (batchOf R) (stepOf R)) d = atFlat R d := funext fun a => by match a with | 0 => rfl | 1 => rfl | 2 => rfl
    rw [hi, val_main_v3_apply]
    exact congrArg₂ (· * ·) (sum_at x0 x1 x2 R d) (sum_at x0 x1 x2 R d)
  have hi : idx_main_v5 (idx_main_v11 (atFlat R n)) = ix2 (batchOf R) (stepOf R) := funext fun a => by match a with | 0 => rfl | 1 => rfl
  rw [val_main_v11_apply, val_main_v10_apply, val_main_v9_apply, val_main_v7_apply, val_main_v5_apply, val_main_v8_apply, val_main_v6_apply,
    val_main_cst_0_apply, val_main_cst_1_apply, hi]
  exact congrArg (fun u => Ideal.rsqrt (Ideal.div u (Ideal.ofBits .f32 0x44800000#32) + Ideal.ofBits .f32 0x358637BD#32)) e

theorem val_at (x0 x1 : S4x4096x1024.Idx → EReal) (x2 : S1024x1024.Idx → EReal) (x3 : S1024.Idx → EReal) :
    val_main_v16 (F := Ideal) x0 x1 x2 x3 = fun j => outAt x0 x1 x2 x3 (j 0) (j 1) := by
  funext j
  obtain ⟨R, n, rfl⟩ : ∃ (R : Fin 16384) (n : Fin 1024), j = ix2 R n := ⟨j 0, j 1, eq_ix2 j⟩
  have ej : idx_main_v16 (ix2 R n) = atFlat R n := by
    funext a; refine Fin.ext ?_
    match a with
    | 0 => show (R.val * 1024 + n.val) / 4194304 = R.val / 4096; omega
    | 1 => show (R.val * 1024 + n.val) / 1024 % 4096 = R.val % 4096; omega
    | 2 => show (R.val * 1024 + n.val) % 1024 = n.val; omega
  have eg : idx_main_v13 (idx_main_v14 (atFlat R n)) = ix1 n := funext fun a => by match a with | 0 => rfl
  rw [val_main_v16_apply, ej, val_main_v15_apply, val_main_v12_apply, val_main_v14_apply, val_main_v13_apply, eg]
  exact congrArg₂ (· * ·) (congrArg₂ (· * ·) (sum_at x0 x1 x2 R n) (root_at x0 x1 x2 R n)) rfl

theorem algebraic : Cert.algebraic_Kernel2Ideal_Reference2Ideal := by
  intro m g m' g' _ hm
  refine ⟨fun c => out m c, (θ_run Cert.Kernel2Ideal.defs _ _).mono
      (fun r h c => ⟨(h c).1.trans (array_eq m c), (h c).2⟩) (Cert.Kernel2Ideal.Value.run_blocks (F := Ideal) m g),
    (θ_run Cert.Reference2Ideal.defs _ _).mono (fun r h c => ⟨(h c).1.trans ?_, (h c).2⟩) (Cert.Reference2Ideal.Value.run (F := Ideal) m' g')⟩
  obtain ⟨e0, e1, e2, e3⟩ := hm c
  refine (Cert.Reference2Ideal.Read.val_main_v16_eq _ _ _ _).trans ?_
  rw [e0, e1, e2, e3]
  exact val_at (aX m c) (aO m c) (aW m c) (aG m c)

end Cert.Agree2

end
-- ==== Proof.OutProjEven.lean ====
/-
  The out-projection of a layer with two attentions: the kernel adds two products, the reference takes one product of the
  concatenation. Both arrays read at one element, and their equality.
-/
module

public import proofs.«01_k».proof.Proof.Dense
public import proofs.«01_k».proof.Proof.Gen.Kernel5Ideal.Value
public import proofs.«01_k».proof.Proof.Gen.Reference5Ideal.Run
public import proofs.«01_k».proof.Proof.Gen.Reference5Ideal.Read
public import proofs.«01_k».proof.Defs

@[expose] public section

set_option maxRecDepth 16384

noncomputable section

namespace Cert.Kernel5Ideal.Hand

open Idealize.ShloMosaic Idealize.ShloMosaic.TcCoe
open Idealize.SL Idealize.SL.Sem
open Cert.Kernel5Ideal Cert.Kernel5Ideal.Gen Cert.Dense

/-! ## One block -/

theorem pay_apply (a : Vec Ideal S256x512 .bf16) (w : Vec Ideal S512x1024 .bf16) (b : Vec Ideal S256x512 .bf16) (u : Vec Ideal S512x1024 .bf16)
    (x : Vec Ideal S256x1024 .f32) (r : Fin 256) (n : Fin 1024) :
    k0_pay1 a w b u x (ix2 r n)
      = x (ix2 r n) + (∑ k : Fin 512, a (ix2 r k) * w (ix2 k n) + ∑ k : Fin 512, b (ix2 r k) * u (ix2 k n)) := by
  pointwise [k0_pay1]

variable (m : (ℓ : Loc nD τ sig) → Buf (Elt Ideal) ℓ) (ρ : Dev nD → PrngReg)

/-! ## What the host prepares -/

/-- The arguments, as arrays of extended reals. -/
def aX (c : Dev nD) : S4x4096x1024.Idx → EReal := m ((c : Thread nD τ).loc main_arg0)
def aH (c : Dev nD) : S4x4096x512.Idx → EReal := m ((c : Thread nD τ).loc main_arg1)
def aO (c : Dev nD) : S4x4096x512.Idx → EReal := m ((c : Thread nD τ).loc main_arg2)
def aW (c : Dev nD) : S1024x1024.Idx → EReal := m ((c : Thread nD τ).loc main_arg3)

theorem V_x (c : Dev nD) : V m c main_v1 = shapeCast S16384x1024 (aX m c) shapeCasts_S4x4096x1024_S16384x1024 := by
  unfold_abbrev_sides
  after_results
  rfl

theorem V_h (c : Dev nD) : V m c main_v2 = shapeCast S16384x512 (aH m c) shapeCasts_S4x4096x512_S16384x512 := by
  unfold_abbrev_sides
  after_results
  rfl

theorem V_o (c : Dev nD) : V m c main_v3 = shapeCast S16384x512 (aO m c) shapeCasts_S4x4096x512_S16384x512 := by
  unfold_abbrev_sides
  after_results
  rfl

theorem V_top (c : Dev nD) : V m c main_v4 = extractStridedSlice S512x1024 ![0, 0] (aW m c) slices_S1024x1024_S512x1024_0_0 := by
  unfold_abbrev_sides
  after_results
  rfl

theorem V_bot (c : Dev nD) : V m c main_v5 = extractStridedSlice S512x1024 ![512, 0] (aW m c) slices_S1024x1024_S512x1024_512_0 := by
  unfold_abbrev_sides
  after_results
  rfl

/-- Where column `d` of the flattened row `R` lies in half a batch. -/
def atHalf (R : Fin 16384) (d : Fin 512) : S4x4096x512.Idx := ix3 (batchOf R) (stepOf R) d

/-- A flattened half batch, at one element. -/
theorem cast_half (f : S4x4096x512.Idx → EReal) (R : Fin 16384) (d : Fin 512) :
    shapeCast S16384x512 f shapeCasts_S4x4096x512_S16384x512 (ix2 R d) = f (atHalf R d) :=
  shapeCast_apply f _ (ix2 R d) (atHalf R d) (by
    rw [Shape.rowMajor_val_three, Shape.rowMajor_val_two]
    show (R.val / 4096 * 4096 + R.val % 4096) * 512 + d.val = R.val * 512 + d.val
    omega)

/-- The two halves of the contracted axis. -/
def low (k : Fin 512) : Fin 1024 := Fin.castAdd 512 k
def high (k : Fin 512) : Fin 1024 := Fin.natAdd 512 k

/-- A slice of rows of the weights, at one element. -/
theorem slice_rows (w : S1024x1024.Idx → EReal) (off : ℕ) (hs : S1024x1024.Slices ![off, 0] S512x1024) (k : Fin 512) (n k' : Fin 1024)
    (hk : k'.val = off + k.val) : extractStridedSlice S512x1024 ![off, 0] w hs (ix2 k n) = w (ix2 k' n) :=
  extractStridedSlice_apply ![off, 0] w hs (ix2 k n) (ix2 k' n) fun a => match a with
    | ⟨0, _⟩ => by show k'.val = off + k.val; exact hk
    | ⟨1, _⟩ => by show n.val = 0 + n.val; omega

/-! ## The windows' places -/

theorem place_row (i : grid0.Coords) : cc0_transform_0 i = ![(i 0).val, 0] := by
  revert i; decide +kernel

theorem place_none (i : grid0.Coords) : cc0_transform_3 i = ![0, 0] := by
  revert i; decide +kernel

section Place

variable (t : Fin cfg0.N)

/-- The block of rows of a grid point. -/
def tOf : Fin 64 := (grid0.coords t) 0

theorem emb_0 (r : Fin 256) (d : Fin 1024) : ((cfg0.win 0).blk t).view.emb (ix2 r d) = (ix2 (rowIn (tOf t) r) d : S16384x1024.Idx) := by
  have e : win0_0.index t = ![(tOf t).val, 0] := place_row (grid0.coords t)
  have h : ∀ a : Fin 2, win0_0.index t a * win0_0.size a + ((ix2 r d : S256x1024.Idx) a).val = ((ix2 (rowIn (tOf t) r) d : S16384x1024.Idx) a).val := by
    intro a; rw [e]
    match a with
    | 0 => show (tOf t).val * 256 + r.val = 256 * (tOf t).val + r.val; omega
    | 1 => show 0 * 1024 + d.val = d.val; omega
  funext a
  refine Fin.ext ?_
  blk_simp
  exact h a

theorem emb_5 (r : Fin 256) (d : Fin 1024) : ((cfg0.win 5).blk t).view.emb (ix2 r d) = (ix2 (rowIn (tOf t) r) d : S16384x1024.Idx) := emb_0 t r d

theorem emb_1 (r : Fin 256) (d : Fin 512) : ((cfg0.win 1).blk t).view.emb (ix2 r d) = (ix2 (rowIn (tOf t) r) d : S16384x512.Idx) := by
  have e : win0_1.index t = ![(tOf t).val, 0] := place_row (grid0.coords t)
  have h : ∀ a : Fin 2, win0_1.index t a * win0_1.size a + ((ix2 r d : S256x512.Idx) a).val = ((ix2 (rowIn (tOf t) r) d : S16384x512.Idx) a).val := by
    intro a; rw [e]
    match a with
    | 0 => show (tOf t).val * 256 + r.val = 256 * (tOf t).val + r.val; omega
    | 1 => show 0 * 512 + d.val = d.val; omega
  funext a
  refine Fin.ext ?_
  blk_simp
  exact h a

theorem emb_2 (r : Fin 256) (d : Fin 512) : ((cfg0.win 2).blk t).view.emb (ix2 r d) = (ix2 (rowIn (tOf t) r) d : S16384x512.Idx) := emb_1 t r d

theorem emb_3 (k : Fin 512) (n : Fin 1024) : ((cfg0.win 3).blk t).view.emb (ix2 k n) = (ix2 k n : S512x1024.Idx) := by
  have e : win0_3.index t = ![0, 0] := place_none (grid0.coords t)
  have h : ∀ a : Fin 2, win0_3.index t a * win0_3.size a + ((ix2 k n : S512x1024.Idx) a).val = ((ix2 k n : S512x1024.Idx) a).val := by
    intro a; rw [e]
    match a with
    | 0 => show 0 * 512 + k.val = k.val; omega
    | 1 => show 0 * 1024 + n.val = n.val; omega
  funext a
  refine Fin.ext ?_
  blk_simp
  exact h a

theorem emb_4 (k : Fin 512) (n : Fin 1024) : ((cfg0.win 4).blk t).view.emb (ix2 k n) = (ix2 k n : S512x1024.Idx) := emb_3 t k n

end Place

/-! ## The staged blocks, at one element -/

theorem x_block (c : Dev nD) (t : Fin cfg0.N) (r : Fin 256) (d : Fin 1024) : iblk m c 0 t (ix2 r d) = aX m c (atFlat (rowIn (tOf t) r) d) :=
  (congrArg (V m c main_v1) (emb_0 t r d)).trans ((congrFun (V_x m c) _).trans (cast_flat _ _ _ _))

theorem h_block (c : Dev nD) (t : Fin cfg0.N) (r : Fin 256) (d : Fin 512) : iblk m c 1 t (ix2 r d) = aH m c (atHalf (rowIn (tOf t) r) d) :=
  (congrArg (V m c main_v2) (emb_1 t r d)).trans ((congrFun (V_h m c) _).trans (cast_half _ _ _))

theorem o_block (c : Dev nD) (t : Fin cfg0.N) (r : Fin 256) (d : Fin 512) : iblk m c 2 t (ix2 r d) = aO m c (atHalf (rowIn (tOf t) r) d) :=
  (congrArg (V m c main_v3) (emb_2 t r d)).trans ((congrFun (V_o m c) _).trans (cast_half _ _ _))

theorem top_block (c : Dev nD) (t : Fin cfg0.N) (k : Fin 512) (n : Fin 1024) : iblk m c 3 t (ix2 k n) = aW m c (ix2 (low k) n) :=
  (congrArg (V m c main_v4) (emb_3 t k n)).trans ((congrFun (V_top m c) _).trans (slice_rows _ 0 _ k n (low k) (by show k.val = 0 + k.val; omega)))

theorem bot_block (c : Dev nD) (t : Fin cfg0.N) (k : Fin 512) (n : Fin 1024) : iblk m c 4 t (ix2 k n) = aW m c (ix2 (high k) n) :=
  (congrArg (V m c main_v5) (emb_4 t k n)).trans ((congrFun (V_bot m c) _).trans (slice_rows _ 512 _ k n (high k) rfl))

/-! ## The whole array -/

/-- The residual stream after the out-projection, at one element. -/
def sumAt (x : S4x4096x1024.Idx → EReal) (h o : S4x4096x512.Idx → EReal) (w : S1024x1024.Idx → EReal) (R : Fin 16384) (n : Fin 1024) : EReal :=
  x (atFlat R n) + (∑ k : Fin 512, h (atHalf R k) * w (ix2 (low k) n) + ∑ k : Fin 512, o (atHalf R k) * w (ix2 (high k) n))

def out (c : Dev nD) : S16384x1024.Idx → EReal := fun j => sumAt (aX m c) (aH m c) (aO m c) (aW m c) (j 0) (j 1)

theorem zeros : (![0, 0] : Fin 2 → ℕ) = fun _ => 0 := by funext a; match a with | 0 => rfl | 1 => rfl

theorem point (c : Dev nD) (t : Fin cfg0.N) (r : Fin 256) (n : Fin 1024) :
    out0_5 (iblk m c 0 t) (iblk m c 1 t) (iblk m c 2 t) (iblk m c 3 t) (iblk m c 4 t) (ix2 r n) = out m c (ix2 (rowIn (tOf t) r) n) := by
  unfold out0_5
  rw [View.canon_unit_zero zeros, View.ld_unit_zero zeros, View.ld_unit_zero zeros, View.ld_unit_zero zeros, View.ld_unit_zero zeros, View.ld_unit_zero zeros]
  refine (pay_apply _ _ _ _ _ r n).trans ?_
  show _ = sumAt (aX m c) (aH m c) (aO m c) (aW m c) (rowIn (tOf t) r) n
  rw [x_block]
  unfold sumAt
  congr 2
  · exact Finset.sum_congr rfl fun k _ => by rw [h_block, top_block]
  · exact Finset.sum_congr rfl fun k _ => by rw [o_block, bot_block]

theorem array_eq (c : Dev nD) : (dats m 0 c).arrAt 5 cfg0.N = out m c := by
  refine (dats m 0 c).arrAt_eq_of_covers 5 (out m c)
    ((cfg0.win 5).covers_of_indexMap_surj rfl (by decide) fun β => ⟨fun | 0 => β 0, fun a => ?_⟩) fun t ht y => ?_
  · have e := place_row (fun | 0 => β 0 : grid0.Coords)
    refine (congrFun e a).trans ?_
    match a with
    | 0 => rfl
    | 1 => exact (Nat.lt_one_iff.mp (β 1).isLt).symm
  · obtain ⟨r, n, rfl⟩ : ∃ (r : Fin 256) (n : Fin 1024), y = ix2 r n := ⟨y 0, y 1, eq_ix2 y⟩
    refine (congrFun (Cert.Kernel5Ideal.Value.flushed5 m c t) (ix2 r n)).trans ?_
    refine Eq.trans ?_ ((point m c t r n).trans (congrArg (out m c) (emb_5 t r n).symm))
    rfl

end Cert.Kernel5Ideal.Hand

namespace Cert.Agree5

open Idealize.ShloMosaic Idealize.ShloMosaic.TcCoe
open Idealize.SL Idealize.SL.Sem
open Cert.Dense Cert.Reference5Ideal Cert.Reference5Ideal.Read Cert.Kernel5Ideal.Hand

/-! ## The reference -/

theorem cat_low (x1 x2 : S4x4096x512.Idx → EReal) (R : Fin 16384) (k : Fin 512) :
    val_main_v2 (F := Ideal) x1 x2 (atFlat R (low k)) = x1 (atHalf R k) :=
  concatenate_apply_piece (t := S4x4096x1024) 2 _ _ (atFlat R (low k)) 0 (by show 0 < 2; decide) S4x4096x512 _ rfl rfl 0 rfl (atHalf R k)
    (fun e he => match e with | 0 => rfl | 1 => rfl | 2 => absurd rfl he) (Nat.zero_add _)

theorem cat_high (x1 x2 : S4x4096x512.Idx → EReal) (R : Fin 16384) (k : Fin 512) :
    val_main_v2 (F := Ideal) x1 x2 (atFlat R (high k)) = x2 (atHalf R k) :=
  concatenate_apply_piece (t := S4x4096x1024) 2 _ _ (atFlat R (high k)) 1 (by show 1 < 2; decide) S4x4096x512 _ rfl rfl 512 rfl (atHalf R k)
    (fun e he => match e with | 0 => rfl | 1 => rfl | 2 => absurd rfl he) rfl

theorem sum_at (x0 : S4x4096x1024.Idx → EReal) (x1 x2 : S4x4096x512.Idx → EReal) (x3 : S1024x1024.Idx → EReal) (R : Fin 16384) (n : Fin 1024) :
    val_main_v4 (F := Ideal) x0 x1 x2 x3 (atFlat R n) = sumAt x0 x1 x2 x3 R n := by
  have hl : ∀ k : Fin 1024, lidx_main_v3 (atFlat R n) k = atFlat R k := fun k => funext fun a => by match a with | 0 => rfl | 1 => rfl | 2 => rfl
  have hr : ∀ k : Fin 1024, ridx_main_v3 (atFlat R n) k = ix2 k n := fun k => funext fun a => by match a with | 0 => rfl | 1 => rfl
  rw [val_main_v4_apply, val_main_v3_apply]
  unfold sumAt
  refine congrArg (x0 (atFlat R n) + ·) ?_
  refine (Finset.sum_congr rfl fun k _ => by rw [hl, hr]).trans
    ((Fin.sum_univ_add (a := 512) (b := 512) fun k : Fin (512 + 512) => val_main_v2 (F := Ideal) x1 x2 (atFlat R k) * x3 (ix2 k n)).trans ?_)
  exact congrArg₂ (· + ·) (Finset.sum_congr rfl fun k _ => congrArg (· * x3 (ix2 (low k) n)) (cat_low x1 x2 R k))
    (Finset.sum_congr rfl fun k _ => congrArg (· * x3 (ix2 (high k) n)) (cat_high x1 x2 R k))

theorem val_at (x0 : S4x4096x1024.Idx → EReal) (x1 x2 : S4x4096x512.Idx → EReal) (x3 : S1024x1024.Idx → EReal) :
    val_main_v5 (F := Ideal) x0 x1 x2 x3 = fun j => sumAt x0 x1 x2 x3 (j 0) (j 1) := by
  funext j
  obtain ⟨R, n, rfl⟩ : ∃ (R : Fin 16384) (n : Fin 1024), j = ix2 R n := ⟨j 0, j 1, eq_ix2 j⟩
  have ej : idx_main_v5 (ix2 R n) = atFlat R n := by
    funext a; refine Fin.ext ?_
    match a with
    | 0 => show (R.val * 1024 + n.val) / 4194304 = R.val / 4096; omega
    | 1 => show (R.val * 1024 + n.val) / 1024 % 4096 = R.val % 4096; omega
    | 2 => show (R.val * 1024 + n.val) % 1024 = n.val; omega
  rw [val_main_v5_apply, ej]
  exact sum_at x0 x1 x2 x3 R n

theorem algebraic : Cert.algebraic_Kernel5Ideal_Reference5Ideal := by
  intro m g m' g' _ hm
  refine ⟨fun c => out m c, (θ_run Cert.Kernel5Ideal.defs _ _).mono
      (fun r h c => ⟨(h c).1.trans (array_eq m c), (h c).2⟩) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  obtain ⟨e0, e1, e2, e3⟩ := hm c
  refine (Cert.Reference5Ideal.Read.val_main_v5_eq _ _ _ _).trans ?_
  rw [e0, e1, e2, e3]
  exact val_at (aX m c) (aH m c) (aO m c) (aW m c)

end Cert.Agree5

end
-- ==== Proof.OutProjMid.lean ====
/-
  The out-projection inside the stack, of a layer with one attention: the kernel's array and the reference's, read at one
  element, and their equality.
-/
module

public import proofs.«01_k».proof.Proof.Dense
public import proofs.«01_k».proof.Proof.Gen.Kernel6Ideal.Value
public import proofs.«01_k».proof.Proof.Gen.Reference6Ideal.Run
public import proofs.«01_k».proof.Proof.Gen.Reference6Ideal.Read
public import proofs.«01_k».proof.Defs

@[expose] public section

set_option maxRecDepth 16384

noncomputable section

namespace Cert.Kernel6Ideal.Hand

open Idealize.ShloMosaic Idealize.ShloMosaic.TcCoe
open Idealize.SL Idealize.SL.Sem
open Cert.Kernel6Ideal Cert.Kernel6Ideal.Gen Cert.Dense

/-! ## One block -/

theorem pay_apply (a : Vec Ideal S256x1024 .bf16) (w : Vec Ideal S1024x1024 .bf16) (x : Vec Ideal S256x1024 .f32) (r : Fin 256) (n : Fin 1024) :
    k0_pay1 a w x (ix2 r n) = x (ix2 r n) + ∑ k : Fin 1024, a (ix2 r k) * w (ix2 k n) := by
  pointwise [k0_pay1]

variable (m : (ℓ : Loc nD τ sig) → Buf (Elt Ideal) ℓ) (ρ : Dev nD → PrngReg)

/-! ## What the host prepares -/

/-- The arguments, as arrays of extended reals. -/
def aX (c : Dev nD) : S4x4096x1024.Idx → EReal := m ((c : Thread nD τ).loc main_arg0)
def aO (c : Dev nD) : S4x4096x1024.Idx → EReal := m ((c : Thread nD τ).loc main_arg1)
def aW (c : Dev nD) : S1024x1024.Idx → EReal := m ((c : Thread nD τ).loc main_arg2)

theorem V_x (c : Dev nD) : V m c main_v0 = shapeCast S16384x1024 (aX m c) shapeCasts_S4x4096x1024_S16384x1024 := by
  unfold_abbrev_sides
  after_results
  rfl

theorem V_o (c : Dev nD) : V m c main_v1 = shapeCast S16384x1024 (aO m c) shapeCasts_S4x4096x1024_S16384x1024 := by
  unfold_abbrev_sides
  after_results
  rfl

theorem V_w (c : Dev nD) : V m c main_v2 = aW m c := by
  unfold_abbrev_sides
  after_results
  rfl

/-! ## The windows' places -/

theorem place_row (i : grid0.Coords) : cc0_transform_0 i = ![(i 0).val, 0] := by
  revert i; decide +kernel

theorem place_none (i : grid0.Coords) : cc0_transform_2 i = ![0, 0] := by
  revert i; decide +kernel

section Place

variable (t : Fin cfg0.N)

/-- The block of rows of a grid point. -/
def tOf : Fin 64 := (grid0.coords t) 0

theorem emb_0 (r : Fin 256) (d : Fin 1024) : ((cfg0.win 0).blk t).view.emb (ix2 r d) = (ix2 (rowIn (tOf t) r) d : S16384x1024.Idx) := by
  have e : win0_0.index t = ![(tOf t).val, 0] := place_row (grid0.coords t)
  have h : ∀ a : Fin 2, win0_0.index t a * win0_0.size a + ((ix2 r d : S256x1024.Idx) a).val = ((ix2 (rowIn (tOf t) r) d : S16384x1024.Idx) a).val := by
    intro a; rw [e]
    match a with
    | 0 => show (tOf t).val * 256 + r.val = 256 * (tOf t).val + r.val; omega
    | 1 => show 0 * 1024 + d.val = d.val; omega
  funext a
  refine Fin.ext ?_
  blk_simp
  exact h a

theorem emb_1 (r : Fin 256) (d : Fin 1024) : ((cfg0.win 1).blk t).view.emb (ix2 r d) = (ix2 (rowIn (tOf t) r) d : S16384x1024.Idx) := emb_0 t r d

theorem emb_3 (r : Fin 256) (d : Fin 1024) : ((cfg0.win 3).blk t).view.emb (ix2 r d) = (ix2 (rowIn (tOf t) r) d : S16384x1024.Idx) := emb_0 t r d

theorem emb_2 (k : Fin 1024) (n : Fin 1024) : ((cfg0.win 2).blk t).view.emb (ix2 k n) = (ix2 k n : S1024x1024.Idx) := by
  have e : win0_2.index t = ![0, 0] := place_none (grid0.coords t)
  have h : ∀ a : Fin 2, win0_2.index t a * win0_2.size a + ((ix2 k n : S1024x1024.Idx) a).val = ((ix2 k n : S1024x1024.Idx) a).val := by
    intro a; rw [e]
    match a with
    | 0 => show 0 * 1024 + k.val = k.val; omega
    | 1 => show 0 * 1024 + n.val = n.val; omega
  funext a
  refine Fin.ext ?_
  blk_simp
  exact h a

end Place

/-! ## The staged blocks, at one element -/

theorem x_block (c : Dev nD) (t : Fin cfg0.N) (r : Fin 256) (d : Fin 1024) : iblk m c 0 t (ix2 r d) = aX m c (atFlat (rowIn (tOf t) r) d) :=
  (congrArg (V m c main_v0) (emb_0 t r d)).trans ((congrFun (V_x m c) _).trans (cast_flat _ _ _ _))

theorem o_block (c : Dev nD) (t : Fin cfg0.N) (r : Fin 256) (d : Fin 1024) : iblk m c 1 t (ix2 r d) = aO m c (atFlat (rowIn (tOf t) r) d) :=
  (congrArg (V m c main_v1) (emb_1 t r d)).trans ((congrFun (V_o m c) _).trans (cast_flat _ _ _ _))

theorem w_block (c : Dev nD) (t : Fin cfg0.N) (k n : Fin 1024) : iblk m c 2 t (ix2 k n) = aW m c (ix2 k n) :=
  (congrArg (V m c main_v2) (emb_2 t k n)).trans (congrFun (V_w m c) _)

/-! ## The whole array -/

/-- The residual stream after the out-projection, at one element. -/
def sumAt (x o : S4x4096x1024.Idx → EReal) (w : S1024x1024.Idx → EReal) (R : Fin 16384) (n : Fin 1024) : EReal :=
  x (atFlat R n) + ∑ k : Fin 1024, o (atFlat R k) * w (ix2 k n)

def out (c : Dev nD) : S16384x1024.Idx → EReal := fun j => sumAt (aX m c) (aO m c) (aW m c) (j 0) (j 1)

theorem zeros : (![0, 0] : Fin 2 → ℕ) = fun _ => 0 := by funext a; match a with | 0 => rfl | 1 => rfl

theorem point (c : Dev nD) (t : Fin cfg0.N) (r : Fin 256) (n : Fin 1024) :
    out0_3 (iblk m c 0 t) (iblk m c 1 t) (iblk m c 2 t) (ix2 r n) = out m c (ix2 (rowIn (tOf t) r) n) := by
  unfold out0_3
  rw [View.canon_unit_zero zeros, View.ld_unit_zero zeros, View.ld_unit_zero zeros, View.ld_unit_zero zeros]
  refine (pay_apply _ _ _ r n).trans ?_
  show _ = sumAt (aX m c) (aO m c) (aW m c) (rowIn (tOf t) r) n
  rw [x_block]
  unfold sumAt
  congr 1
  exact Finset.sum_congr rfl fun k _ => by rw [o_block, w_block]

theorem array_eq (c : Dev nD) : (dats m 0 c).arrAt 3 cfg0.N = out m c := by
  refine (dats m 0 c).arrAt_eq_of_covers 3 (out m c)
    ((cfg0.win 3).covers_of_indexMap_surj rfl (by decide) fun β => ⟨fun | 0 => β 0, fun a => ?_⟩) fun t ht y => ?_
  · have e := place_row (fun | 0 => β 0 : grid0.Coords)
    refine (congrFun e a).trans ?_
    match a with
    | 0 => rfl
    | 1 => exact (Nat.lt_one_iff.mp (β 1).isLt).symm
  · obtain ⟨r, n, rfl⟩ : ∃ (r : Fin 256) (n : Fin 1024), y = ix2 r n := ⟨y 0, y 1, eq_ix2 y⟩
    refine (congrFun (Cert.Kernel6Ideal.Value.flushed3 m c t) (ix2 r n)).trans ?_
    refine Eq.trans ?_ ((point m c t r n).trans (congrArg (out m c) (emb_3 t r n).symm))
    rfl

end Cert.Kernel6Ideal.Hand

namespace Cert.Agree6

open Idealize.ShloMosaic Idealize.ShloMosaic.TcCoe
open Idealize.SL Idealize.SL.Sem
open Cert.Dense Cert.Reference6Ideal Cert.Reference6Ideal.Read Cert.Kernel6Ideal.Hand

/-! ## The reference -/

theorem sum_at (x0 x1 : S4x4096x1024.Idx → EReal) (x2 : S1024x1024.Idx → EReal) (R : Fin 16384) (n : Fin 1024) :
    val_main_v2 (F := Ideal) x0 x1 x2 (atFlat R n) = sumAt x0 x1 x2 R n := by
  have hl : ∀ k : Fin 1024, lidx_main_v1 (atFlat R n) k = atFlat R k := fun k => funext fun a => by match a with | 0 => rfl | 1 => rfl | 2 => rfl
  have hr : ∀ k : Fin 1024, ridx_main_v1 (atFlat R n) k = ix2 k n := fun k => funext fun a => by match a with | 0 => rfl | 1 => rfl
  rw [val_main_v2_apply, val_main_v1_apply]
  unfold sumAt
  exact congrArg (x0 (atFlat R n) + ·) (Finset.sum_congr rfl fun k _ => by rw [val_main_v0_apply, hl, hr]; rfl)

theorem val_at (x0 x1 : S4x4096x1024.Idx → EReal) (x2 : S1024x1024.Idx → EReal) :
    val_main_v3 (F := Ideal) x0 x1 x2 = fun j => sumAt x0 x1 x2 (j 0) (j 1) := by
  funext j
  obtain ⟨R, n, rfl⟩ : ∃ (R : Fin 16384) (n : Fin 1024), j = ix2 R n := ⟨j 0, j 1, eq_ix2 j⟩
  have ej : idx_main_v3 (ix2 R n) = atFlat R n := by
    funext a; refine Fin.ext ?_
    match a with
    | 0 => show (R.val * 1024 + n.val) / 4194304 = R.val / 4096; omega
    | 1 => show (R.val * 1024 + n.val) / 1024 % 4096 = R.val % 4096; omega
    | 2 => show (R.val * 1024 + n.val) % 1024 = n.val; omega
  rw [val_main_v3_apply, ej]
  exact sum_at x0 x1 x2 R n

theorem algebraic : Cert.algebraic_Kernel6Ideal_Reference6Ideal := by
  intro m g m' g' _ hm
  refine ⟨fun c => out m c, (θ_run Cert.Kernel6Ideal.defs _ _).mono
      (fun r h c => ⟨(h c).1.trans (array_eq m c), (h c).2⟩) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  obtain ⟨e0, e1, e2⟩ := hm c
  refine (Cert.Reference6Ideal.Read.val_main_v3_eq _ _ _).trans ?_
  rw [e0, e1, e2]
  exact val_at (aX m c) (aO m c) (aW m c)

end Cert.Agree6

end
-- ==== Proof.LogGates.lean ====
/-
  The logarithms of the forget gates: the kernel's array and the reference's, read at one element, and their equality.
-/
module

public import proofs.«01_k».proof.Proof.Dense
public import proofs.«01_k».proof.Proof.Gen.Kernel7Ideal.Value
public import proofs.«01_k».proof.Proof.Gen.Reference7Ideal.Run
public import proofs.«01_k».proof.Proof.Gen.Reference7Ideal.Read
public import proofs.«01_k».proof.Defs

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI Idealize.SL.Sem
open Cert.Kernel7Ideal Cert.Kernel7Ideal.Gen Cert.Dense

/-! ## One gate -/

/-- The logarithm of the logistic function, as the kernel writes it. -/
def logGate (x : EReal) : EReal := min x 0 - Ideal.log (1 + Ideal.exp (0 - max x (-x)))

/-- The logarithm of a number above one is not the bottom. -/
theorem log_one_add_exp (z : EReal) : Ideal.log (1 + Ideal.exp z) ≠ ⊥ := by
  induction z with
  | bot =>
    show Ideal.log (1 + ((0 : ℝ) : EReal)) ≠ ⊥
    rw [← EReal.coe_one, ← EReal.coe_add]
    show (if (1 + 0 : ℝ) ≤ 0 then (⊥ : EReal) else (Real.log (1 + 0) : EReal)) ≠ ⊥
    rw [if_neg (by norm_num)]
    exact EReal.coe_ne_bot _
  | top =>
    show Ideal.log (1 + ⊤) ≠ ⊥
    rw [← EReal.coe_one, EReal.coe_add_top]
    exact top_ne_bot
  | coe r =>
    show Ideal.log (1 + (Real.exp r : EReal)) ≠ ⊥
    rw [← EReal.coe_one, ← EReal.coe_add]
    show (if (1 + Real.exp r : ℝ) ≤ 0 then (⊥ : EReal) else (Real.log (1 + Real.exp r) : EReal)) ≠ ⊥
    rw [if_neg (by have := Real.exp_pos r; linarith)]
    exact EReal.coe_ne_bot _

/-- The same number, as the reference writes it. -/
theorem logGate_eq (x : EReal) : logGate x = -(max (-x) 0 + Ideal.log (1 + Ideal.exp (-(max (-x) (- -x))))) := by
  have h1 : max (-x) 0 ≠ ⊥ := (lt_of_lt_of_le EReal.bot_lt_zero (le_max_right _ _)).ne'
  rw [EReal.neg_add (.inl h1) (.inr (log_one_add_exp _)), neg_neg, max_comm (-x) x]
  unfold logGate
  rw [zero_sub]
  congr 1
  have := EReal.neg_strictAnti.antitone.map_max (a := -x) (b := 0)
  rw [this, neg_neg, neg_zero]

theorem pay_apply (v : Vec Ideal S1x128x128 .f32) (r : Fin 128) (l : Fin 128) : k0_pay16 v (ix3 0 r l) = logGate (v (ix3 0 r l)) := by
  unfold logGate
  pointwise [k0_pay16, k0_pay15]
  rfl

variable (c : Dev nD) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x32x8x128 .f32) (harg3 : arg3.IsWhole)
  (X1 : BufTy.Contents (Elt Ideal) arg1.view.ty)

/-- Every piece a trip writes is the logarithms of the gates where it writes them. -/
theorem trip_pieces (𝒱 : Variants) (bd : Option 𝒱.V) (k : Fin k0_t1_loop.trips)
    (acc : FVec Ideal S1x1 .f32 × FVec Ideal S1x1 .f32 × FVec Ideal S1x1 .f32 × FVec Ideal S1x1 .f32 × FVec Ideal S1x1 .f32 × FVec Ideal S1x1 .f32 × FVec Ideal S1x1 .f32 × FVec Ideal S1x1 .f32) :
    ∀ p ∈ (tripL_k0_t1 (F := Ideal) 𝒱 c bd i arg1 harg1 arg2 harg2 arg3 harg3 X1 k acc).1, ∀ x : p.1.shape.Idx,
      p.2 x = (fun y : S1x4096x128.Idx => logGate (arg1.view.read (Elt Ideal) X1 y)) (p.1.emb x) := by
  unfold tripL_k0_t1 trip_k0_t1
  refine List.forall_mem_cons.2 ⟨fun x => ?_, fun p hp => absurd hp List.not_mem_nil⟩
  obtain ⟨a, r, l, rfl⟩ : ∃ (a : Fin 1) (r l : Fin 128), x = (ix3 a r l : S1x128x128.Idx) := ⟨x 0, x 1, x 2, eq_ix3 x⟩
  obtain rfl : a = 0 := Subsingleton.elim _ _
  exact pay_apply _ r l

/-- So is every piece of the trips before any one. -/
theorem state_pieces (𝒱 : Variants) (bd : Option 𝒱.V)
    (init : FVec Ideal S1x1 .f32 × FVec Ideal S1x1 .f32 × FVec Ideal S1x1 .f32 × FVec Ideal S1x1 .f32 × FVec Ideal S1x1 .f32 × FVec Ideal S1x1 .f32 × FVec Ideal S1x1 .f32 × FVec Ideal S1x1 .f32)
    (n : ℕ) (hn : n ≤ k0_t1_loop.trips) :
    ∀ p ∈ (st_k0_t1 (F := Ideal) 𝒱 c bd i arg1 harg1 arg2 harg2 arg3 harg3 X1 init n).2.1, ∀ x : p.1.shape.Idx,
      p.2 x = (fun y : S1x4096x128.Idx => logGate (arg1.view.read (Elt Ideal) X1 y)) (p.1.emb x) := by
  induction n with
  | zero => exact fun p hp => absurd hp List.not_mem_nil
  | succ n ih =>
    have e := congrArg (fun s => s.2.1) (st_k0_t1_succ (F := Ideal) 𝒱 c bd i arg1 harg1 arg2 harg2 arg3 harg3 X1 init ⟨n, hn⟩)
    intro p hp
    rcases List.mem_append.1 (e ▸ hp) with h | h
    · exact trip_pieces c i arg1 harg1 arg2 harg2 arg3 harg3 X1 𝒱 bd ⟨n, hn⟩ _ p h
    · exact ih (Nat.le_of_succ_le hn) p h

/-- What the run leaves in the block of logarithms. -/
theorem out_apply (x0 : Vec Ideal S1x4096x128 .f32) (y : S1x4096x128.Idx) :
    out0_A_1 c i arg1 harg1 arg2 harg2 arg3 harg3 x0 y = logGate (x0 y) := by
  unfold out0_A_1
  refine (View.read_writes_apply_of_pieces (Val := Elt Ideal) (s := S1x4096x128) (e := .f32) _ _ (fun y : S1x4096x128.Idx => logGate (x0 y)) _ ?_ y
    (cover0_A_1 c i arg1 harg1 arg2 harg2 arg3 harg3 x0 y))
  have hr : arg1.view.read (Elt Ideal) (harg1.unread x0) = x0 := harg1.read_unread _
  unfold kernelRun0_A
  refine Eq.mp ?_ (state_pieces c i arg1 harg1 arg2 harg2 arg3 harg3 (harg1.unread x0) Variants.none none
    (k0_pay2, k0_pay3, k0_pay4, k0_pay5, k0_pay6, k0_pay7, k0_pay8, k0_pay9) k0_t1_loop.trips le_rfl)
  rw [hr]

variable (m : (ℓ : Loc nD τ sig) → Buf (Elt Ideal) ℓ) (ρ : Dev nD → PrngReg)

/-! ## The whole array -/

/-- The gates, as an array of extended reals. -/
def aG (c : Dev nD) : S4x4096x128.Idx → EReal := m ((c : Thread nD τ).loc main_arg0)

def out (c : Dev nD) : S4x4096x128.Idx → EReal := fun j => logGate (aG m c j)

theorem place_batch (i : grid0.Coords) : cc0_transform_0 i = ![(i 0).val, 0, 0] := by
  revert i; decide +kernel

theorem array_eq (c : Dev nD) : (dats m 0 c).arrAt 1 cfg0.N = out m c := by
  refine (dats m 0 c).arrAt_eq_of_covers 1 (out m c)
    ((cfg0.win 1).covers_of_indexMap_surj rfl (by decide) fun β => ⟨fun | 0 => β 0, fun a => ?_⟩) fun t ht y => ?_
  · have e := place_batch (fun | 0 => β 0 : grid0.Coords)
    refine (congrFun e a).trans ?_
    match a with
    | 0 => rfl
    | 1 => exact (Nat.lt_one_iff.mp (β 1).isLt).symm
    | 2 => exact (Nat.lt_one_iff.mp (β 2).isLt).symm
  · refine (congrFun (Cert.Kernel7Ideal.Value.flushed1_A m c t) y).trans ?_
    refine Eq.trans ?_ ((out_apply c (grid0.coords t) (ms0_0 t) (hs0_0 t) (ms0_1 t) (hs0_1 t) (ms0_2 t) (hs0_2 t) (iblk m c 0 t) y).trans ?_)
    · rfl
    · rfl

end Cert.Kernel7Ideal.Hand

namespace Cert.Agree7

open Idealize.ShloMosaic Idealize.ShloMosaic.TcCoe
open Idealize.SL Idealize.SL.Sem
open Cert.Dense Cert.Reference7Ideal Cert.Reference7Ideal.Read Cert.Kernel7Ideal.Hand

/-! ## The reference -/

theorem val_at (x0 : S4x4096x128.Idx → EReal) : val_main_v0 (F := Ideal) x0 = fun j => logGate (x0 j) := by
  funext j
  rw [logGate_eq, ← val_main_v0_eq]
  pointwise
  rw [if_neg (fun h => h rfl)]
  rfl

theorem algebraic : Cert.algebraic_Kernel7Ideal_Reference7Ideal := by
  intro m g m' g' _ hm
  refine ⟨fun c => out m c, (θ_run Cert.Kernel7Ideal.defs _ _).mono
      (fun r h c => ⟨(h c).1.trans (array_eq m c), (h c).2.2⟩) (Cert.Kernel7Ideal.Value.run_blocks (F := Ideal) m g),
    (θ_run Cert.Reference7Ideal.defs _ _).mono (fun r h c => ⟨(h c).1.trans ?_, (h c).2⟩) (Cert.Reference7Ideal.Value.run (F := Ideal) m' g')⟩
  have e0 := hm c
  refine (Cert.Reference7Ideal.Read.val_main_v0_eq _).trans ?_
  rw [e0]
  exact val_at (aG m c)

end Cert.Agree7

end
-- ==== Proof.ProjOdd.lean ====
/-
  The projections of an attention layer with values of one width: the kernel's arrays and the reference's, read at one
  element, and their equality.
-/
module

public import proofs.«01_k».proof.Proof.Dense
public import proofs.«01_k».proof.Proof.Gen.Kernel3Ideal.Value
public import proofs.«01_k».proof.Proof.Gen.Reference3Ideal.Run
public import proofs.«01_k».proof.Proof.Gen.Reference3Ideal.Read
public import proofs.«01_k».proof.Defs

@[expose] public section

set_option maxRecDepth 16384

noncomputable section

namespace Cert.Kernel3Ideal.Hand

open Idealize.ShloMosaic Idealize.ShloMosaic.TcCoe
open Idealize.SL Idealize.SL.Sem
open Cert.Kernel3Ideal Cert.Kernel3Ideal.Gen Cert.Dense

/-! ## One block -/

theorem norm_apply (x : Vec Ideal S256x1024 .f32) (g : Vec Ideal S1x1024 .f32) (r : Fin 256) (n : Fin 1024) :
    k0_pay5 x g (ix2 r n) = normed (fun n => x (ix2 r n)) (fun n => g (ix2 0 n)) n := by
  unfold normed rootOf
  pointwise [k0_pay5]

/-- A column of the product with one of the four parts of the weights. -/
theorem dot_apply (x : FVec Ideal S256x1024 .bf16) (w : FVec Ideal S1024x1024 .bf16) (r : Fin 256) (n : Fin 1024) :
    k0_pay1 x w (ix2 r n) = ∑ k : Fin 1024, x (ix2 r k) * w (ix2 k n) := by
  pointwise [k0_pay1]

/-- The heads of a block of the stacked keys or values are slices of the product's columns. -/
theorem heads_apply (f : FVec Ideal S256x1024 .f32) (r : Fin 256) (h : Fin 8) (d : Fin 128) :
    shapeCast S1x256x8x128 (shapeCast S256x8x128 f shapeCasts_S256x1024_S256x8x128) shapeCasts_S256x8x128_S1x256x8x128 (ix4 0 r h d)
      = f (ix2 r (⟨128 * h.val + d.val, by omega⟩ : Fin 1024)) := by
  refine (shapeCast_apply _ _ (ix4 0 r h d) (ix3 r h d) ?_).trans (shapeCast_apply _ _ (ix3 r h d) _ ?_)
  · rw [Shape.rowMajor_val_three, Shape.rowMajor_val_four]
    show (r.val * 8 + h.val) * 128 + d.val = ((0 * 256 + r.val) * 8 + h.val) * 128 + d.val
    omega
  · rw [Shape.rowMajor_val_two, Shape.rowMajor_val_three]
    show r.val * 1024 + (128 * h.val + d.val) = (r.val * 8 + h.val) * 128 + d.val
    omega

theorem z2 : (![0, 0] : Fin 2 → ℕ) = fun _ => 0 := by funext a; match a with | 0 => rfl | 1 => rfl
theorem z4 : (![0, 0, 0, 0] : Fin 4 → ℕ) = fun _ => 0 := by funext a; match a with | 0 => rfl | 1 => rfl | 2 => rfl | 3 => rfl

section Outs
variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x4096 .bf16) (h3 : a3.IsWhole)
  (a6 : Memref sig .tc .vmem S256x1024 .bf16) (h6 : a6.IsWhole) (a7 : Memref sig .tc .vmem S1x256x8x128 .f32) (h7 : a7.IsWhole) (a8 : Memref sig .tc .vmem S256x1024 .bf16) (h8 : a8.IsWhole)
  (a9 : Memref sig .tc .vmem S1x256x8x128 .f32) (h9 : a9.IsWhole) (a10 : Memref sig .tc .vmem S256x1024 .bf16) (h10 : a10.IsWhole) (a11 : Memref sig .tc .vmem S256x1024 .f32) (h11 : a11.IsWhole)
  (x : Vec Ideal S256x1024 .f32) (g : Vec Ideal S1x1024 .f32) (w : Vec Ideal S1024x4096 .bf16)

theorem out3_eq : out0_A_3 c i a1 h1 a2 h2 a3 h3 a6 h6 a7 h7 a8 h8 a9 h9 a10 h10 a11 h11 x g w = k0_pay6 x g (View.ld w (Rect.unit ![0, 0] S1024x1024.size inb_S1024x4096_S1024x1024_0_0)) := by
  unfold out0_A_3
  rw [View.read_writes_eq_canon _ _ _ (cover0_A_3 c i a1 h1 a2 h2 a3 h3 a6 h6 a7 h7 a8 h8 a9 h9 a10 h10 a11 h11 x g w)]
  unfold kernelRun0_A
  dsimp only
  rw [View.canon_unit_zero z2]
  sl_unfold_words
  simp only [View.readAt_eq_ld, h1.read_unread, h2.read_unread, h3.read_unread, View.ld_unit_zero (S := S256x1024) z2, View.ld_unit_zero (S := S1x1024) z2]

theorem out4_eq : out0_A_4 c i a1 h1 a2 h2 a3 h3 a6 h6 a7 h7 a8 h8 a9 h9 a10 h10 a11 h11 x g w = k0_pay8 x g (View.ld w (Rect.unit ![0, 1024] S1024x1024.size inb_S1024x4096_S1024x1024_0_1024)) := by
  unfold out0_A_4
  rw [View.read_writes_eq_canon _ _ _ (cover0_A_4 c i a1 h1 a2 h2 a3 h3 a6 h6 a7 h7 a8 h8 a9 h9 a10 h10 a11 h11 x g w)]
  unfold kernelRun0_A
  dsimp only
  rw [View.canon_unit_zero z4]
  sl_unfold_words
  simp only [View.readAt_eq_ld, h1.read_unread, h2.read_unread, h3.read_unread, View.ld_unit_zero (S := S256x1024) z2, View.ld_unit_zero (S := S1x1024) z2]

theorem out5_eq : out0_A_5 c i a1 h1 a2 h2 a3 h3 a6 h6 a7 h7 a8 h8 a9 h9 a10 h10 a11 h11 x g w = k0_pay9 x g (View.ld w (Rect.unit ![0, 1024] S1024x1024.size inb_S1024x4096_S1024x1024_0_1024)) := by
  unfold out0_A_5
  rw [View.read_writes_eq_canon _ _ _ (cover0_A_5 c i a1 h1 a2 h2 a3 h3 a6 h6 a7 h7 a8 h8 a9 h9 a10 h10 a11 h11 x g w)]
  unfold kernelRun0_A
  dsimp only
  rw [View.canon_unit_zero z2]
  sl_unfold_words
  simp only [View.readAt_eq_ld, h1.read_unread, h2.read_unread, h3.read_unread, View.ld_unit_zero (S := S256x1024) z2, View.ld_unit_zero (S := S1x1024) z2]

theorem out6_eq : out0_A_6 c i a1 h1 a2 h2 a3 h3 a6 h6 a7 h7 a8 h8 a9 h9 a10 h10 a11 h11 x g w = k0_pay2 (k0_pay5 x g) (k0_pay10 (View.ld w (Rect.unit ![0, 2048] S1024x1024.size inb_S1024x4096_S1024x1024_0_2048))) := by
  unfold out0_A_6
  rw [View.read_writes_eq_canon _ _ _ (cover0_A_6 c i a1 h1 a2 h2 a3 h3 a6 h6 a7 h7 a8 h8 a9 h9 a10 h10 a11 h11 x g w)]
  unfold kernelRun0_A
  dsimp only
  rw [View.canon_unit_zero z4]
  sl_unfold_words
  simp only [View.readAt_eq_ld, h1.read_unread, h2.read_unread, h3.read_unread, View.ld_unit_zero (S := S256x1024) z2, View.ld_unit_zero (S := S1x1024) z2]

theorem out7_eq : out0_A_7 c i a1 h1 a2 h2 a3 h3 a6 h6 a7 h7 a8 h8 a9 h9 a10 h10 a11 h11 x g w = k0_pay3 (k0_pay5 x g) (k0_pay10 (View.ld w (Rect.unit ![0, 2048] S1024x1024.size inb_S1024x4096_S1024x1024_0_2048))) := by
  unfold out0_A_7
  rw [View.read_writes_eq_canon _ _ _ (cover0_A_7 c i a1 h1 a2 h2 a3 h3 a6 h6 a7 h7 a8 h8 a9 h9 a10 h10 a11 h11 x g w)]
  unfold kernelRun0_A
  dsimp only
  rw [View.canon_unit_zero z2]
  sl_unfold_words
  simp only [View.readAt_eq_ld, h1.read_unread, h2.read_unread, h3.read_unread, View.ld_unit_zero (S := S256x1024) z2, View.ld_unit_zero (S := S1x1024) z2]

theorem out8_eq : out0_A_8 c i a1 h1 a2 h2 a3 h3 a6 h6 a7 h7 a8 h8 a9 h9 a10 h10 a11 h11 x g w = k0_pay4 (k0_pay5 x g) (View.ld w (Rect.unit ![0, 3072] S1024x1024.size inb_S1024x4096_S1024x1024_0_3072)) := by
  unfold out0_A_8
  rw [View.read_writes_eq_canon _ _ _ (cover0_A_8 c i a1 h1 a2 h2 a3 h3 a6 h6 a7 h7 a8 h8 a9 h9 a10 h10 a11 h11 x g w)]
  unfold kernelRun0_A
  dsimp only
  rw [View.canon_unit_zero z2]
  sl_unfold_words
  simp only [View.readAt_eq_ld, h1.read_unread, h2.read_unread, h3.read_unread, View.ld_unit_zero (S := S256x1024) z2, View.ld_unit_zero (S := S1x1024) z2]

/-- A column of the product of the normed rows with the weights. -/
def colOf (r : Fin 256) (n : Fin 4096) : EReal :=
  ∑ k : Fin 1024, normed (fun d => x (ix2 r d)) (fun d => g (ix2 0 d)) k * w (ix2 k n)

/-- Column `n` of the `j`-th part of the weights. -/
def colIn (j : Fin 4) (n : Fin 1024) : Fin 4096 := ⟨1024 * j.val + n.val, by omega⟩

theorem part_dot (j : Fin 4) (off : Fin 2 → ℕ) (ho : off = ![0, 1024 * j.val]) (inb) (r : Fin 256) (n : Fin 1024) :
    k0_pay1 (k0_pay5 x g) (View.ld w (Rect.unit off S1024x1024.size inb)) (ix2 r n) = colOf x g w r (colIn j n) := by
  refine (dot_apply _ _ r n).trans (Finset.sum_congr rfl fun k _ => congrArg₂ (· * ·) (norm_apply x g r k) ?_)
  refine View.ld_unit_apply_of w off _ inb (ix2 k n) (ix2 k (colIn j n)) fun a => ?_
  subst ho
  match a with
  | 0 => show k.val = 0 + k.val; omega
  | 1 => rfl

theorem out3_at (r : Fin 256) (n : Fin 1024) : out0_A_3 c i a1 h1 a2 h2 a3 h3 a6 h6 a7 h7 a8 h8 a9 h9 a10 h10 a11 h11 x g w (ix2 r n) = colOf x g w r (colIn 0 n) := by
  rw [out3_eq]
  refine Eq.trans ?_ (part_dot x g w 0 _ rfl inb_S1024x4096_S1024x1024_0_0 r n)
  unfold k0_pay6 k0_pay1; simp only [shapeCast_self]; rfl

theorem out4_at (r : Fin 256) (h : Fin 8) (d : Fin 128) :
    out0_A_4 c i a1 h1 a2 h2 a3 h3 a6 h6 a7 h7 a8 h8 a9 h9 a10 h10 a11 h11 x g w (ix4 0 r h d) = colOf x g w r (colIn 1 ⟨128 * h.val + d.val, by omega⟩) := by
  rw [out4_eq]
  refine Eq.trans ?_ ((heads_apply _ r h d).trans (part_dot x g w 1 _ rfl inb_S1024x4096_S1024x1024_0_1024 r _))
  unfold k0_pay8 k0_pay7 k0_pay1; simp only [shapeCast_self]; rfl

theorem out5_at (r : Fin 256) (n : Fin 1024) : out0_A_5 c i a1 h1 a2 h2 a3 h3 a6 h6 a7 h7 a8 h8 a9 h9 a10 h10 a11 h11 x g w (ix2 r n) = colOf x g w r (colIn 1 n) := by
  rw [out5_eq]
  refine Eq.trans ?_ (part_dot x g w 1 _ rfl inb_S1024x4096_S1024x1024_0_1024 r n)
  unfold k0_pay9 k0_pay7 k0_pay1; simp only [shapeCast_self]; rfl

theorem out6_at (r : Fin 256) (h : Fin 8) (d : Fin 128) :
    out0_A_6 c i a1 h1 a2 h2 a3 h3 a6 h6 a7 h7 a8 h8 a9 h9 a10 h10 a11 h11 x g w (ix4 0 r h d) = colOf x g w r (colIn 2 ⟨128 * h.val + d.val, by omega⟩) := by
  rw [out6_eq]
  refine Eq.trans ?_ ((heads_apply _ r h d).trans (part_dot x g w 2 _ rfl inb_S1024x4096_S1024x1024_0_2048 r _))
  unfold k0_pay2 k0_pay10; simp only [shapeCast_self]; rfl

theorem out7_at (r : Fin 256) (n : Fin 1024) : out0_A_7 c i a1 h1 a2 h2 a3 h3 a6 h6 a7 h7 a8 h8 a9 h9 a10 h10 a11 h11 x g w (ix2 r n) = colOf x g w r (colIn 2 n) := by
  rw [out7_eq]
  refine Eq.trans ?_ (part_dot x g w 2 _ rfl inb_S1024x4096_S1024x1024_0_2048 r n)
  unfold k0_pay3 k0_pay10; simp only [shapeCast_self]; rfl

theorem out8_at (r : Fin 256) (n : Fin 1024) : out0_A_8 c i a1 h1 a2 h2 a3 h3 a6 h6 a7 h7 a8 h8 a9 h9 a10 h10 a11 h11 x g w (ix2 r n) = colOf x g w r (colIn 3 n) := by
  rw [out8_eq]
  refine Eq.trans ?_ (part_dot x g w 3 _ rfl inb_S1024x4096_S1024x1024_0_3072 r n)
  unfold k0_pay4 k0_pay1; simp only [shapeCast_self]; rfl

end Outs

variable (m : (ℓ : Loc nD τ sig) → Buf (Elt Ideal) ℓ) (ρ : Dev nD → PrngReg)

/-! ## What the host prepares -/

/-- The arguments, as arrays of extended reals. -/
def aX (c : Dev nD) : S4x4096x1024.Idx → EReal := m ((c : Thread nD τ).loc main_arg0)
def aG (c : Dev nD) : S1024.Idx → EReal := m ((c : Thread nD τ).loc main_arg1)
def aW (c : Dev nD) : S1024x4096.Idx → EReal := m ((c : Thread nD τ).loc main_arg2)
def aK (c : Dev nD) : S2x16384x8x128.Idx → EReal := m ((c : Thread nD τ).loc main_arg3)
def aV (c : Dev nD) : S2x16384x8x128.Idx → EReal := m ((c : Thread nD τ).loc main_arg4)

theorem V_x (c : Dev nD) : V m c main_v0 = shapeCast S16384x1024 (aX m c) shapeCasts_S4x4096x1024_S16384x1024 := by
  unfold_abbrev_sides
  after_results
  rfl

theorem V_w (c : Dev nD) : V m c main_v1 = aW m c := by
  unfold_abbrev_sides
  after_results
  rfl

theorem V_g (c : Dev nD) : V m c main_v2 = shapeCast S1x1024 (aG m c) shapeCasts_S1024_S1x1024 := by
  unfold_abbrev_sides
  after_results
  rfl

theorem V_ks (c : Dev nD) : V m c main_v3_1 = aK m c := by
  unfold_abbrev_sides
  after_results
  rfl

theorem V_vs (c : Dev nD) : V m c main_v3_3 = aV m c := by
  unfold_abbrev_sides
  after_results
  rfl

/-! ## The windows' places -/

theorem place_row (i : grid0.Coords) : cc0_transform_0 i = ![(i 0).val, 0] := by
  revert i; decide +kernel

theorem place_none (i : grid0.Coords) : cc0_transform_1 i = ![0, 0] := by
  revert i; decide +kernel

theorem place_stack (i : grid0.Coords) : cc0_transform_6 i = ![1, (i 0).val, 0, 0] := by
  revert i; decide +kernel

section Place

variable (t : Fin cfg0.N)

/-- The block of rows of a grid point. -/
def tOf : Fin 64 := (grid0.coords t) 0

theorem emb_0 (r : Fin 256) (d : Fin 1024) : ((cfg0.win 0).blk t).view.emb (ix2 r d) = (ix2 (rowIn (tOf t) r) d : S16384x1024.Idx) := by
  have e : win0_0.index t = ![(tOf t).val, 0] := place_row (grid0.coords t)
  have h : ∀ a : Fin 2, win0_0.index t a * win0_0.size a + ((ix2 r d : S256x1024.Idx) a).val = ((ix2 (rowIn (tOf t) r) d : S16384x1024.Idx) a).val := by
    intro a; rw [e]
    match a with
    | 0 => show (tOf t).val * 256 + r.val = 256 * (tOf t).val + r.val; omega
    | 1 => show 0 * 1024 + d.val = d.val; omega
  funext a
  refine Fin.ext ?_
  blk_simp
  exact h a

theorem emb_1 (d : Fin 1024) : ((cfg0.win 1).blk t).view.emb (ix2 0 d) = (ix2 0 d : S1x1024.Idx) := by
  have e : win0_1.index t = ![0, 0] := place_none (grid0.coords t)
  have h : ∀ a : Fin 2, win0_1.index t a * win0_1.size a + ((ix2 0 d : S1x1024.Idx) a).val = ((ix2 0 d : S1x1024.Idx) a).val := by
    intro a; rw [e]
    match a with
    | 0 => show 0 * 1 + 0 = 0; omega
    | 1 => show 0 * 1024 + d.val = d.val; omega
  funext a
  refine Fin.ext ?_
  blk_simp
  exact h a

theorem emb_2 (k : Fin 1024) (n : Fin 4096) : ((cfg0.win 2).blk t).view.emb (ix2 k n) = (ix2 k n : S1024x4096.Idx) := by
  have e : win0_2.index t = ![0, 0] := place_none (grid0.coords t)
  have h : ∀ a : Fin 2, win0_2.index t a * win0_2.size a + ((ix2 k n : S1024x4096.Idx) a).val = ((ix2 k n : S1024x4096.Idx) a).val := by
    intro a; rw [e]
    match a with
    | 0 => show 0 * 1024 + k.val = k.val; omega
    | 1 => show 0 * 4096 + n.val = n.val; omega
  funext a
  refine Fin.ext ?_
  blk_simp
  exact h a

theorem emb_4 (r : Fin 256) (h : Fin 8) (d : Fin 128) :
    ((cfg0.win 4).blk t).view.emb (ix4 0 r h d) = (ix4 1 (rowIn (tOf t) r) h d : S2x16384x8x128.Idx) := by
  have e : win0_4.index t = ![1, (tOf t).val, 0, 0] := place_stack (grid0.coords t)
  have h : ∀ a : Fin 4, win0_4.index t a * win0_4.size a + ((ix4 0 r h d : S1x256x8x128.Idx) a).val = ((ix4 1 (rowIn (tOf t) r) h d : S2x16384x8x128.Idx) a).val := by
    intro a; rw [e]
    match a with
    | 0 => show 1 * 1 + 0 = 1; omega
    | 1 => show (tOf t).val * 256 + r.val = 256 * (tOf t).val + r.val; omega
    | 2 => show 0 * 8 + h.val = h.val; omega
    | 3 => show 0 * 128 + d.val = d.val; omega
  funext a
  refine Fin.ext ?_
  blk_simp
  exact h a

end Place

/-! ## The staged blocks, at one element -/

theorem x_block (c : Dev nD) (t : Fin cfg0.N) (r : Fin 256) (d : Fin 1024) : iblk m c 0 t (ix2 r d) = aX m c (atFlat (rowIn (tOf t) r) d) :=
  (congrArg (V m c main_v0) (emb_0 t r d)).trans ((congrFun (V_x m c) _).trans (cast_flat _ _ _ _))

theorem g_block (c : Dev nD) (t : Fin cfg0.N) (d : Fin 1024) : iblk m c 1 t (ix2 0 d) = aG m c (ix1 d) :=
  (congrArg (V m c main_v2) (emb_1 t d)).trans ((congrFun (V_g m c) _).trans (cast_line _ _ d))

theorem w_block (c : Dev nD) (t : Fin cfg0.N) (k : Fin 1024) (n : Fin 4096) : iblk m c 2 t (ix2 k n) = aW m c (ix2 k n) :=
  (congrArg (V m c main_v1) (emb_2 t k n)).trans (congrFun (V_w m c) _)

/-! ## The whole arrays -/

/-- Column `n` of the projection of row `R`. -/
def projAt (x : S4x4096x1024.Idx → EReal) (g : S1024.Idx → EReal) (w : S1024x4096.Idx → EReal) (R : Fin 16384) (n : Fin 4096) : EReal :=
  ∑ k : Fin 1024, normed (fun d => x (atFlat R d)) (fun d => g (ix1 d)) k * w (ix2 k n)

/-- The `j`-th part of the projection, as an array. -/
def flatOf (x : S4x4096x1024.Idx → EReal) (g : S1024.Idx → EReal) (w : S1024x4096.Idx → EReal) (j : Fin 4) : S16384x1024.Idx → EReal :=
  fun i => projAt x g w (i 0) (colIn j (i 1))

/-- The stack of an earlier layer's heads and the `j`-th part's. -/
def stackOf (x : S4x4096x1024.Idx → EReal) (g : S1024.Idx → EReal) (w : S1024x4096.Idx → EReal) (p : S2x16384x8x128.Idx → EReal) (j : Fin 4) :
    S2x16384x8x128.Idx → EReal :=
  fun i => if (i 0).val / 1 = 1 then
    projAt x g w (i 1) (colIn j ⟨128 * (i 2).val + (i 3).val, by have h2 : (i 2).val < 8 := (i 2).isLt; have h3 : (i 3).val < 128 := (i 3).isLt; omega⟩) else p i

theorem stackOf_one (x : S4x4096x1024.Idx → EReal) (g : S1024.Idx → EReal) (w : S1024x4096.Idx → EReal) (p : S2x16384x8x128.Idx → EReal) (j : Fin 4)
    (R : Fin 16384) (h : Fin 8) (d : Fin 128) :
    stackOf x g w p j (ix4 1 R h d) = projAt x g w R (colIn j ⟨128 * h.val + d.val, by omega⟩) := by
  unfold stackOf; exact if_pos (Nat.div_one 1)

theorem stackOf_zero (x : S4x4096x1024.Idx → EReal) (g : S1024.Idx → EReal) (w : S1024x4096.Idx → EReal) (p : S2x16384x8x128.Idx → EReal) (j : Fin 4)
    (R : Fin 16384) (h : Fin 8) (d : Fin 128) : stackOf x g w p j (ix4 0 R h d) = p (ix4 0 R h d) := by
  unfold stackOf; exact if_neg (show ¬ (0 / 1 = 1) by decide)

theorem col_block (c : Dev nD) (t : Fin cfg0.N) (r : Fin 256) (n : Fin 4096) :
    colOf (iblk m c 0 t) (iblk m c 1 t) (iblk m c 2 t) r n = projAt (aX m c) (aG m c) (aW m c) (rowIn (tOf t) r) n := by
  unfold colOf projAt
  have hx : (fun d => iblk m c 0 t (ix2 r d)) = fun d => aX m c (atFlat (rowIn (tOf t) r) d) := funext fun d => x_block m c t r d
  have hg : (fun d => iblk m c 1 t (ix2 0 d)) = fun d => aG m c (ix1 d) := funext fun d => g_block m c t d
  refine Finset.sum_congr rfl fun k _ => congrArg₂ (· * ·) ?_ (w_block m c t k n)
  exact congrArg₂ (fun u v => normed u v k) hx hg

theorem covers3 : (cfg0.win 3).Covers :=
  (cfg0.win 3).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers5 : (cfg0.win 5).Covers :=
  (cfg0.win 5).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers7 : (cfg0.win 7).Covers :=
  (cfg0.win 7).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers8 : (cfg0.win 8).Covers :=
  (cfg0.win 8).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem arr3 (c : Dev nD) : (dats m 0 c).arrAt 3 cfg0.N = flatOf (aX m c) (aG m c) (aW m c) 0 := by
  refine (dats m 0 c).arrAt_eq_of_covers 3 (flatOf (aX m c) (aG m c) (aW m c) 0) covers3 fun t ht y => ?_
  obtain ⟨r, n, rfl⟩ : ∃ (r : Fin 256) (n : Fin 1024), y = ix2 r n := ⟨y 0, y 1, eq_ix2 y⟩
  refine (congrFun (Cert.Kernel3Ideal.Value.flushed3_A m c t) (ix2 r n)).trans ?_
  refine Eq.trans ?_ (congrArg (flatOf (aX m c) (aG m c) (aW m c) 0) (emb_0 t r n).symm)
  exact (out3_at c _ _ _ _ _ _ _ _ _ _ _ _ _ _ _ _ _ _ _ _ _ _ r n).trans (col_block m c t r _)

theorem arr4 (c : Dev nD) : (dats m 0 c).arrAt 4 cfg0.N = stackOf (aX m c) (aG m c) (aW m c) (aK m c) 1 := by
  refine ((dats m 0 c).arrAt_eq_of_coversWhere 4 (stackOf (aX m c) (aG m c) (aW m c) (aK m c) 1) (fun β => β (0 : Fin 4) = 1) (by decide +kernel)
    (fun t hf y => ?_) (fun j => Iff.rfl)).trans (?_ : (fun i : S2x16384x8x128.Idx => if (i 0).val / 1 = 1 then stackOf (aX m c) (aG m c) (aW m c) (aK m c) 1 i else V m c main_v3_1 i) = _)
  · obtain ⟨a, r, h, d, rfl⟩ : ∃ (a : Fin 1) (r : Fin 256) (h : Fin 8) (d : Fin 128), y = ix4 a r h d := ⟨y 0, y 1, y 2, y 3, eq_ix4 y⟩
    obtain rfl : a = 0 := Subsingleton.elim _ _
    refine (congrFun (Cert.Kernel3Ideal.Value.flushed4_A m c t) (ix4 0 r h d)).trans ?_
    refine Eq.trans ?_ (congrArg (stackOf (aX m c) (aG m c) (aW m c) (aK m c) 1) (emb_4 t r h d).symm)
    refine ((out4_at c _ _ _ _ _ _ _ _ _ _ _ _ _ _ _ _ _ _ _ _ _ _ r h d).trans (col_block m c t r _)).trans ?_
    exact (stackOf_one _ _ _ _ _ _ _ _).symm
  · funext i
    unfold stackOf
    split
    · rfl
    · exact congrFun (V_ks m c) i

theorem arr5 (c : Dev nD) : (dats m 0 c).arrAt 5 cfg0.N = flatOf (aX m c) (aG m c) (aW m c) 1 := by
  refine (dats m 0 c).arrAt_eq_of_covers 5 (flatOf (aX m c) (aG m c) (aW m c) 1) covers5 fun t ht y => ?_
  obtain ⟨r, n, rfl⟩ : ∃ (r : Fin 256) (n : Fin 1024), y = ix2 r n := ⟨y 0, y 1, eq_ix2 y⟩
  refine (congrFun (Cert.Kernel3Ideal.Value.flushed5_A m c t) (ix2 r n)).trans ?_
  refine Eq.trans ?_ (congrArg (flatOf (aX m c) (aG m c) (aW m c) 1) (emb_0 t r n).symm)
  exact (out5_at c _ _ _ _ _ _ _ _ _ _ _ _ _ _ _ _ _ _ _ _ _ _ r n).trans (col_block m c t r _)

theorem arr6 (c : Dev nD) : (dats m 0 c).arrAt 6 cfg0.N = stackOf (aX m c) (aG m c) (aW m c) (aV m c) 2 := by
  refine ((dats m 0 c).arrAt_eq_of_coversWhere 6 (stackOf (aX m c) (aG m c) (aW m c) (aV m c) 2) (fun β => β (0 : Fin 4) = 1) (by decide +kernel)
    (fun t hf y => ?_) (fun j => Iff.rfl)).trans (?_ : (fun i : S2x16384x8x128.Idx => if (i 0).val / 1 = 1 then stackOf (aX m c) (aG m c) (aW m c) (aV m c) 2 i else V m c main_v3_3 i) = _)
  · obtain ⟨a, r, h, d, rfl⟩ : ∃ (a : Fin 1) (r : Fin 256) (h : Fin 8) (d : Fin 128), y = ix4 a r h d := ⟨y 0, y 1, y 2, y 3, eq_ix4 y⟩
    obtain rfl : a = 0 := Subsingleton.elim _ _
    refine (congrFun (Cert.Kernel3Ideal.Value.flushed6_A m c t) (ix4 0 r h d)).trans ?_
    refine Eq.trans ?_ (congrArg (stackOf (aX m c) (aG m c) (aW m c) (aV m c) 2) (emb_4 t r h d).symm)
    refine ((out6_at c _ _ _ _ _ _ _ _ _ _ _ _ _ _ _ _ _ _ _ _ _ _ r h d).trans (col_block m c t r _)).trans ?_
    exact (stackOf_one _ _ _ _ _ _ _ _).symm
  · funext i
    unfold stackOf
    split
    · rfl
    · exact congrFun (V_vs m c) i

theorem arr7 (c : Dev nD) : (dats m 0 c).arrAt 7 cfg0.N = flatOf (aX m c) (aG m c) (aW m c) 2 := by
  refine (dats m 0 c).arrAt_eq_of_covers 7 (flatOf (aX m c) (aG m c) (aW m c) 2) covers7 fun t ht y => ?_
  obtain ⟨r, n, rfl⟩ : ∃ (r : Fin 256) (n : Fin 1024), y = ix2 r n := ⟨y 0, y 1, eq_ix2 y⟩
  refine (congrFun (Cert.Kernel3Ideal.Value.flushed7_A m c t) (ix2 r n)).trans ?_
  refine Eq.trans ?_ (congrArg (flatOf (aX m c) (aG m c) (aW m c) 2) (emb_0 t r n).symm)
  exact (out7_at c _ _ _ _ _ _ _ _ _ _ _ _ _ _ _ _ _ _ _ _ _ _ r n).trans (col_block m c t r _)

theorem arr8 (c : Dev nD) : (dats m 0 c).arrAt 8 cfg0.N = flatOf (aX m c) (aG m c) (aW m c) 3 := by
  refine (dats m 0 c).arrAt_eq_of_covers 8 (flatOf (aX m c) (aG m c) (aW m c) 3) covers8 fun t ht y => ?_
  obtain ⟨r, n, rfl⟩ : ∃ (r : Fin 256) (n : Fin 1024), y = ix2 r n := ⟨y 0, y 1, eq_ix2 y⟩
  refine (congrFun (Cert.Kernel3Ideal.Value.flushed8_A m c t) (ix2 r n)).trans ?_
  refine Eq.trans ?_ (congrArg (flatOf (aX m c) (aG m c) (aW m c) 3) (emb_0 t r n).symm)
  exact (out8_at c _ _ _ _ _ _ _ _ _ _ _ _ _ _ _ _ _ _ _ _ _ _ r n).trans (col_block m c t r _)

end Cert.Kernel3Ideal.Hand

namespace Cert.Agree3

open Idealize.ShloMosaic Idealize.ShloMosaic.TcCoe
open Idealize.SL Idealize.SL.Sem
open Cert.Dense Cert.Reference3Ideal Cert.Reference3Ideal.Read Cert.Kernel3Ideal.Hand

/-! ## The reference -/

section Ref

variable (x0 : S4x4096x1024.Idx → EReal) (x1 : S1024.Idx → EReal) (x2 : S1024x4096.Idx → EReal)

theorem root_at (R : Fin 16384) (n : Fin 1024) :
    val_main_v8 (F := Ideal) x0 (atFlat R n) = rootOf fun d => x0 (atFlat R d) := by
  have e : val_main_v1 (F := Ideal) x0 (ix2 (batchOf R) (stepOf R)) = ∑ d : Fin 1024, x0 (atFlat R d) * x0 (atFlat R d) := by
    rw [val_main_v1_apply, val_main_cst_apply]
    refine (zero_bits_add _).trans (Finset.sum_congr rfl fun d _ => ?_)
    have hi : idx_main_v1 (ix2 (batchOf R) (stepOf R)) d = atFlat R d := funext fun a => by match a with | 0 => rfl | 1 => rfl | 2 => rfl
    rw [hi, val_main_v0_apply]
    rfl
  have hi : idx_main_v2 (idx_main_v8 (atFlat R n)) = ix2 (batchOf R) (stepOf R) := funext fun a => by match a with | 0 => rfl | 1 => rfl
  rw [val_main_v8_apply, val_main_v7_apply, val_main_v6_apply, val_main_v4_apply, val_main_v2_apply, val_main_v5_apply, val_main_v3_apply,
    val_main_cst_0_apply, val_main_cst_1_apply, hi]
  exact congrArg (fun u => Ideal.rsqrt (Ideal.div u (Ideal.ofBits .f32 0x44800000#32) + Ideal.ofBits .f32 0x358637BD#32)) e

theorem norm_at (R : Fin 16384) (n : Fin 1024) :
    val_main_v12 (F := Ideal) x0 x1 (atFlat R n) = normed (fun d => x0 (atFlat R d)) (fun d => x1 (ix1 d)) n := by
  have eg : idx_main_v10 (idx_main_v11 (atFlat R n)) = ix1 n := funext fun a => by match a with | 0 => rfl
  rw [val_main_v12_apply, val_main_v9_apply, val_main_v11_apply, val_main_v10_apply, eg, root_at]
  rfl

theorem proj_at (R : Fin 16384) (n : Fin 4096) : val_main_v14 (F := Ideal) x0 x1 x2 (ix2 R n) = projAt x0 x1 x2 R n := by
  have ej : idx_main_v14 (ix2 R n) = ix3 (batchOf R) (stepOf R) n := by
    funext a; refine Fin.ext ?_
    match a with
    | 0 => show (R.val * 4096 + n.val) / 16777216 = R.val / 4096; omega
    | 1 => show (R.val * 4096 + n.val) / 4096 % 4096 = R.val % 4096; omega
    | 2 => show (R.val * 4096 + n.val) % 4096 = n.val; omega
  have hl : ∀ k : Fin 1024, lidx_main_v13 (ix3 (batchOf R) (stepOf R) n) k = atFlat R k := fun k => funext fun a => by match a with | 0 => rfl | 1 => rfl | 2 => rfl
  have hr : ∀ k : Fin 1024, ridx_main_v13 (ix3 (batchOf R) (stepOf R) n) k = ix2 k n := fun k => funext fun a => by match a with | 0 => rfl | 1 => rfl
  rw [val_main_v14_apply, ej, val_main_v13_apply]
  unfold projAt
  exact Finset.sum_congr rfl fun k _ => by rw [hl, hr, norm_at]

theorem v15_eq : val_main_v15 (F := Ideal) x0 x1 x2 = flatOf x0 x1 x2 0 := by
  funext i
  have e : idx_main_v15 i = ix2 (i 0) (colIn 0 (i 1)) := funext fun a => by match a with | 0 => rfl | 1 => exact Fin.ext (by show (i 1).val = 1024 * 0 + (i 1).val; omega)
  rw [val_main_v15_apply, e]; exact proj_at x0 x1 x2 (i 0) _

theorem v16_eq : val_main_v16 (F := Ideal) x0 x1 x2 = flatOf x0 x1 x2 1 := by
  funext i
  have e : idx_main_v16 i = ix2 (i 0) (colIn 1 (i 1)) := funext fun a => by match a with | 0 => rfl | 1 => rfl
  rw [val_main_v16_apply, e]; exact proj_at x0 x1 x2 (i 0) _

theorem v17_eq : val_main_v17 (F := Ideal) x0 x1 x2 = flatOf x0 x1 x2 2 := by
  funext i
  have e : idx_main_v17 i = ix2 (i 0) (colIn 2 (i 1)) := funext fun a => by match a with | 0 => rfl | 1 => rfl
  rw [val_main_v17_apply, e]; exact proj_at x0 x1 x2 (i 0) _

theorem v18_eq : val_main_v18 (F := Ideal) x0 x1 x2 = flatOf x0 x1 x2 3 := by
  funext i
  have e : idx_main_v18 i = ix2 (i 0) (colIn 3 (i 1)) := funext fun a => by match a with | 0 => rfl | 1 => rfl
  rw [val_main_v18_apply, e]; exact proj_at x0 x1 x2 (i 0) _

/-- A head's column in the flat projection. -/
theorem head_idx (R : Fin 16384) (h : Fin 8) (d : Fin 128) : idx_main_v21 (ix3 R h d) = ix2 R (⟨128 * h.val + d.val, by omega⟩ : Fin 1024) := by
  funext a; refine Fin.ext ?_
  match a with
  | 0 => show ((R.val * 8 + h.val) * 128 + d.val) / 1024 = R.val; omega
  | 1 => show ((R.val * 8 + h.val) * 128 + d.val) % 1024 = 128 * h.val + d.val; omega

/-- A head's place in the earlier layer's part of the stack. -/
theorem prev_idx (R : Fin 16384) (h : Fin 8) (d : Fin 128) : idx_main_v19 (idx_main_v20 (ix3 R h d)) = ix4 0 R h d := by
  funext a; refine Fin.ext ?_
  match a with
  | 0 => rfl
  | 1 => show ((R.val * 8 + h.val) * 128 + d.val) / 1024 % 16384 = R.val; omega
  | 2 => show ((R.val * 8 + h.val) * 128 + d.val) / 128 % 8 = h.val; omega
  | 3 => show ((R.val * 8 + h.val) * 128 + d.val) % 128 = d.val; omega

theorem v24_eq (x3 : S2x16384x8x128.Idx → EReal) : val_main_v24 (F := Ideal) x0 x1 x2 x3 = stackOf x0 x1 x2 x3 1 := by
  funext i
  obtain ⟨l, R, h, d, rfl⟩ : ∃ (l : Fin 2) (R : Fin 16384) (h : Fin 8) (d : Fin 128), i = ix4 l R h d := ⟨i 0, i 1, i 2, i 3, eq_ix4 i⟩
  unfold val_main_v24
  match l with
  | 0 =>
    refine (concatenate_pair_apply_left (t := S2x16384x8x128) (s₁ := S1x16384x8x128) (s₂ := S1x16384x8x128) (0 : Fin 4) _ _ _ _ rfl (ix4 0 R h d) fun b => by match b with | 0 => rfl | 1 => rfl | 2 => rfl | 3 => rfl).trans ?_
    have e : idx_main_v22 (ix4 0 R h d) = ix3 R h d := funext fun a => by match a with | 0 => rfl | 1 => rfl | 2 => rfl
    rw [val_main_v22_apply, e, val_main_v20_apply, val_main_v19_apply, prev_idx]
    exact (stackOf_zero _ _ _ _ _ _ _ _).symm
  | 1 =>
    refine (concatenate_pair_apply_right (t := S2x16384x8x128) (s₁ := S1x16384x8x128) (s₂ := S1x16384x8x128) (0 : Fin 4) _ _ _ _ rfl rfl (ix4 0 R h d) (fun b hb => by
      match b with | 0 => exact absurd rfl hb | 1 => rfl | 2 => rfl | 3 => rfl) rfl).trans ?_
    have e : idx_main_v23 (ix4 0 R h d) = ix3 R h d := funext fun a => by match a with | 0 => rfl | 1 => rfl | 2 => rfl
    rw [val_main_v23_apply, e, val_main_v21_apply, head_idx, v16_eq]
    exact (stackOf_one _ _ _ _ _ _ _ _).symm

theorem v30_eq (x4 : S2x16384x8x128.Idx → EReal) : val_main_v30 (F := Ideal) x0 x1 x2 x4 = stackOf x0 x1 x2 x4 2 := by
  funext i
  obtain ⟨l, R, h, d, rfl⟩ : ∃ (l : Fin 2) (R : Fin 16384) (h : Fin 8) (d : Fin 128), i = ix4 l R h d := ⟨i 0, i 1, i 2, i 3, eq_ix4 i⟩
  unfold val_main_v30
  match l with
  | 0 =>
    refine (concatenate_pair_apply_left (t := S2x16384x8x128) (s₁ := S1x16384x8x128) (s₂ := S1x16384x8x128) (0 : Fin 4) _ _ _ _ rfl (ix4 0 R h d) fun b => by match b with | 0 => rfl | 1 => rfl | 2 => rfl | 3 => rfl).trans ?_
    have e : idx_main_v28 (ix4 0 R h d) = ix3 R h d := funext fun a => by match a with | 0 => rfl | 1 => rfl | 2 => rfl
    rw [val_main_v28_apply, e, val_main_v26_apply, val_main_v25_apply]
    exact (congrArg x4 (prev_idx R h d)).trans (stackOf_zero _ _ _ _ _ _ _ _).symm
  | 1 =>
    refine (concatenate_pair_apply_right (t := S2x16384x8x128) (s₁ := S1x16384x8x128) (s₂ := S1x16384x8x128) (0 : Fin 4) _ _ _ _ rfl rfl (ix4 0 R h d) (fun b hb => by
      match b with | 0 => exact absurd rfl hb | 1 => rfl | 2 => rfl | 3 => rfl) rfl).trans ?_
    have e : idx_main_v29 (ix4 0 R h d) = ix3 R h d := funext fun a => by match a with | 0 => rfl | 1 => rfl | 2 => rfl
    rw [val_main_v29_apply, e, val_main_v27_apply, v17_eq]
    exact (congrArg (flatOf x0 x1 x2 2) (head_idx R h d)).trans (stackOf_one _ _ _ _ _ _ _ _).symm

end Ref

theorem algebraic : Cert.algebraic_Kernel3Ideal_Reference3Ideal := by
  intro m g m' g' _ hm
  refine ⟨fun c => flatOf (aX m c) (aG m c) (aW m c) 0, fun c => stackOf (aX m c) (aG m c) (aW m c) (aK m c) 1, fun c => flatOf (aX m c) (aG m c) (aW m c) 1,
    fun c => stackOf (aX m c) (aG m c) (aW m c) (aV m c) 2, fun c => flatOf (aX m c) (aG m c) (aW m c) 2, fun c => flatOf (aX m c) (aG m c) (aW m c) 3,
    (θ_run Cert.Kernel3Ideal.defs _ _).mono (fun r h c => ?_) (Cert.Kernel3Ideal.Value.run_blocks (F := Ideal) m g),
    (θ_run Cert.Reference3Ideal.defs _ _).mono (fun r h c => ?_) (Cert.Reference3Ideal.Value.run (F := Ideal) m' g')⟩
  · obtain ⟨h0, h1, h2, h3, h4, h5, hk⟩ := h c
    exact ⟨h0.trans (arr3 m c), h1.trans (arr4 m c), h2.trans (arr5 m c), h3.trans (arr6 m c), h4.trans (arr7 m c), h5.trans (arr8 m c), hk⟩
  · obtain ⟨e0, e1, e2, e3, e4⟩ := hm c
    obtain ⟨h0, h1, h2, h3, h4, h5, hk⟩ := h c
    refine ⟨h0.trans ?_, h1.trans ?_, h2.trans ?_, h3.trans ?_, h4.trans ?_, h5.trans ?_, hk⟩
    · refine (val_main_v31_eq _ _ _).trans ?_; rw [e0, e1, e2]; exact v15_eq (aX m c) (aG m c) (aW m c)
    · refine (val_main_v24_eq _ _ _ _).trans ?_; rw [e0, e1, e2, e3]; exact v24_eq (aX m c) (aG m c) (aW m c) (aK m c)
    · refine (val_main_v32_eq _ _ _).trans ?_; rw [e0, e1, e2]; exact v16_eq (aX m c) (aG m c) (aW m c)
    · refine (val_main_v30_eq _ _ _ _).trans ?_; rw [e0, e1, e2, e4]; exact v30_eq (aX m c) (aG m c) (aW m c) (aV m c)
    · refine (val_main_v33_eq _ _ _).trans ?_; rw [e0, e1, e2]; exact v17_eq (aX m c) (aG m c) (aW m c)
    · refine (val_main_v18_eq _ _ _).trans ?_; rw [e0, e1, e2]; exact v18_eq (aX m c) (aG m c) (aW m c)

end Cert.Agree3

end
-- ==== Proof.ProjEven.lean ====
/-
  The projections of a layer with a gated recurrence beside its attention: the kernel's arrays and the reference's, read
  at one element, and their equality.
-/
module

public import proofs.«01_k».proof.Proof.Dense
public import proofs.«01_k».proof.Proof.Gen.Kernel4Ideal.Value
public import proofs.«01_k».proof.Proof.Gen.Reference4Ideal.Run
public import proofs.«01_k».proof.Proof.Gen.Reference4Ideal.Read
public import proofs.«01_k».proof.Defs

@[expose] public section

set_option maxRecDepth 16384

noncomputable section

namespace Cert.Kernel4Ideal.Hand

open Idealize.ShloMosaic Idealize.ShloMosaic.TcCoe
open Idealize.SL Idealize.SL.Sem
open Cert.Kernel4Ideal Cert.Kernel4Ideal.Gen Cert.Dense

/-! ## One block -/

theorem norm_apply (x : Vec Ideal S256x1024 .f32) (g : Vec Ideal S1x1024 .f32) (r : Fin 256) (n : Fin 1024) :
    k0_pay4 x g (ix2 r n) = normed (fun n => x (ix2 r n)) (fun n => g (ix2 0 n)) n := by
  unfold normed rootOf
  pointwise [k0_pay4]

/-- A column of the product with one part of the weights, and its bias. -/
theorem dot_wide (x : Vec Ideal S256x1024 .f32) (g : Vec Ideal S1x1024 .f32) (w : Vec Ideal S1024x1536 .bf16) (b : Vec Ideal S1x1536 .f32) (r : Fin 256) (n : Fin 1536) :
    k0_pay5 x g w b (ix2 r n) = (∑ k : Fin 1024, k0_pay4 x g (ix2 r k) * w (ix2 k n)) + b (ix2 0 n) := by
  unfold k0_pay5
  generalize k0_pay4 x g = y
  pointwise

theorem dot_full (x : Vec Ideal S256x1024 .f32) (g : Vec Ideal S1x1024 .f32) (w : Vec Ideal S1024x1024 .bf16) (b : Vec Ideal S1x1024 .f32) (r : Fin 256) (n : Fin 1024) :
    k0_pay6 x g w b (ix2 r n) = (∑ k : Fin 1024, k0_pay4 x g (ix2 r k) * w (ix2 k n)) + b (ix2 0 n) := by
  unfold k0_pay6
  generalize k0_pay4 x g = y
  pointwise

theorem dot_half (y : FVec Ideal S256x1024 .bf16) (w : Vec Ideal S1024x512 .bf16) (b : Vec Ideal S1x512 .f32) (r : Fin 256) (n : Fin 512) :
    k0_pay8 y w b (ix2 r n) = (∑ k : Fin 1024, y (ix2 r k) * w (ix2 k n)) + b (ix2 0 n) := by
  pointwise [k0_pay8]

theorem dot_thin (y : FVec Ideal S256x1024 .bf16) (w : Vec Ideal S1024x128 .bf16) (b : Vec Ideal S1x128 .f32) (r : Fin 256) (n : Fin 128) :
    k0_pay3 y w b (ix2 r n) = (∑ k : Fin 1024, y (ix2 r k) * w (ix2 k n)) + b (ix2 0 n) := by
  pointwise [k0_pay3]

/-- A block of the stacked keys or values holds the product's columns as rows. -/
theorem turned_apply (f : FVec Ideal S256x512 .f32) (r : Fin 256) (d : Fin 512) :
    shapeCast S1x1x512x256 (transpose S512x256 [1, 0] f transposes_S256x512_p1_0_S512x256) shapeCasts_S512x256_S1x1x512x256 (ix4 0 0 d r) = f (ix2 r d) := by
  refine (shapeCast_apply _ _ (ix4 0 0 d r) (ix2 d r) ?_).trans (transpose_apply _ f _ _ _ fun e => match e with | ⟨0, _⟩ => rfl | ⟨1, _⟩ => rfl)
  rw [Shape.rowMajor_val_two, Shape.rowMajor_val_four]
  show d.val * 256 + r.val = ((0 * 1 + 0) * 512 + d.val) * 256 + r.val
  omega

theorem z2 : (![0, 0] : Fin 2 → ℕ) = fun _ => 0 := by funext a; match a with | 0 => rfl | 1 => rfl
theorem z4 : (![0, 0, 0, 0] : Fin 4 → ℕ) = fun _ => 0 := by funext a; match a with | 0 => rfl | 1 => rfl | 2 => rfl | 3 => rfl

section Outs
variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x4736 .bf16) (h3 : a3.IsWhole)
  (a4 : Memref sig .tc .vmem S1x4736 .f32) (h4 : a4.IsWhole) (a7 : Memref sig .tc .vmem S256x1536 .f32) (h7 : a7.IsWhole) (a8 : Memref sig .tc .vmem S256x1024 .f32) (h8 : a8.IsWhole)
  (a9 : Memref sig .tc .vmem S256x512 .bf16) (h9 : a9.IsWhole) (a10 : Memref sig .tc .vmem S1x1x512x256 .f32) (h10 : a10.IsWhole) (a11 : Memref sig .tc .vmem S256x512 .bf16) (h11 : a11.IsWhole)
  (a12 : Memref sig .tc .vmem S1x1x512x256 .f32) (h12 : a12.IsWhole) (a13 : Memref sig .tc .vmem S256x512 .bf16) (h13 : a13.IsWhole) (a14 : Memref sig .tc .vmem S256x512 .f32) (h14 : a14.IsWhole)
  (a15 : Memref sig .tc .vmem S256x128 .f32) (h15 : a15.IsWhole)
  (x : Vec Ideal S256x1024 .f32) (g : Vec Ideal S1x1024 .f32) (w : Vec Ideal S1024x4736 .bf16) (b : Vec Ideal S1x4736 .f32)

theorem out4_eq : out0_A_4 c i a1 h1 a2 h2 a3 h3 a4 h4 a7 h7 a8 h8 a9 h9 a10 h10 a11 h11 a12 h12 a13 h13 a14 h14 a15 h15 x g w b = k0_pay5 x g (View.ld w (Rect.unit ![0, 0] S1024x1536.size inb_S1024x4736_S1024x1536_0_0)) (View.ld b (Rect.unit ![0, 0] S1x1536.size inb_S1x4736_S1x1536_0_0)) := by
  unfold out0_A_4
  rw [View.read_writes_eq_canon _ _ _ (cover0_A_4 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out5_eq : out0_A_5 c i a1 h1 a2 h2 a3 h3 a4 h4 a7 h7 a8 h8 a9 h9 a10 h10 a11 h11 a12 h12 a13 h13 a14 h14 a15 h15 x g w b = k0_pay6 x g (View.ld w (Rect.unit ![0, 1536] S1024x1024.size inb_S1024x4736_S1024x1024_0_1536)) (View.ld b (Rect.unit ![0, 1536] S1x1024.size inb_S1x4736_S1x1024_0_1536)) := by
  unfold out0_A_5
  rw [View.read_writes_eq_canon _ _ _ (cover0_A_5 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out6_eq : out0_A_6 c i a1 h1 a2 h2 a3 h3 a4 h4 a7 h7 a8 h8 a9 h9 a10 h10 a11 h11 a12 h12 a13 h13 a14 h14 a15 h15 x g w b = k0_pay7 (k0_pay4 x g) (View.ld w (Rect.unit ![0, 2560] S1024x512.size inb_S1024x4736_S1024x512_0_2560)) (View.ld b (Rect.unit ![0, 2560] S1x512.size inb_S1x4736_S1x512_0_2560)) := by
  unfold out0_A_6
  rw [View.read_writes_eq_canon _ _ _ (cover0_A_6 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out7_eq : out0_A_7 c i a1 h1 a2 h2 a3 h3 a4 h4 a7 h7 a8 h8 a9 h9 a10 h10 a11 h11 a12 h12 a13 h13 a14 h14 a15 h15 x g w b = k0_pay9 (k0_pay4 x g) (View.ld w (Rect.unit ![0, 3072] S1024x512.size inb_S1024x4736_S1024x512_0_3072)) (View.ld b (Rect.unit ![0, 3072] S1x512.size inb_S1x4736_S1x512_0_3072)) := by
  unfold out0_A_7
  rw [View.read_writes_eq_canon _ _ _ (cover0_A_7 c i a1 h1 a2 h2 a3 h3 a4 h4 a7 h7 a8 h8 a9 h9 a10 h10 a11 h11 a12 h12 a13 h13 a14 h14 a15 h15 x g w b)]
  unfold kernelRun0_A
  dsimp only
  rw [View.canon_unit_zero z4]
  sl_unfold_words
  simp only [View.readAt_eq_ld, h1.read_unread, h2.read_unread, h3.read_unread, h4.read_unread, View.ld_unit_zero (S := S256x1024) z2, View.ld_unit_zero (S := S1x1024) z2]

theorem out8_eq : out0_A_8 c i a1 h1 a2 h2 a3 h3 a4 h4 a7 h7 a8 h8 a9 h9 a10 h10 a11 h11 a12 h12 a13 h13 a14 h14 a15 h15 x g w b = k0_pay10 (k0_pay4 x g) (View.ld w (Rect.unit ![0, 3072] S1024x512.size inb_S1024x4736_S1024x512_0_3072)) (View.ld b (Rect.unit ![0, 3072] S1x512.size inb_S1x4736_S1x512_0_3072)) := by
  unfold out0_A_8
  rw [View.read_writes_eq_canon _ _ _ (cover0_A_8 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out9_eq : out0_A_9 c i a1 h1 a2 h2 a3 h3 a4 h4 a7 h7 a8 h8 a9 h9 a10 h10 a11 h11 a12 h12 a13 h13 a14 h14 a15 h15 x g w b = k0_pay12 (k0_pay4 x g) (View.ld w (Rect.unit ![0, 3584] S1024x512.size inb_S1024x4736_S1024x512_0_3584)) (View.ld b (Rect.unit ![0, 3584] S1x512.size inb_S1x4736_S1x512_0_3584)) := by
  unfold out0_A_9
  rw [View.read_writes_eq_canon _ _ _ (cover0_A_9 c i a1 h1 a2 h2 a3 h3 a4 h4 a7 h7 a8 h8 a9 h9 a10 h10 a11 h11 a12 h12 a13 h13 a14 h14 a15 h15 x g w b)]
  unfold kernelRun0_A
  dsimp only
  rw [View.canon_unit_zero z4]
  sl_unfold_words
  simp only [View.readAt_eq_ld, h1.read_unread, h2.read_unread, h3.read_unread, h4.read_unread, View.ld_unit_zero (S := S256x1024) z2, View.ld_unit_zero (S := S1x1024) z2]

theorem out10_eq : out0_A_10 c i a1 h1 a2 h2 a3 h3 a4 h4 a7 h7 a8 h8 a9 h9 a10 h10 a11 h11 a12 h12 a13 h13 a14 h14 a15 h15 x g w b = k0_pay1 (k0_pay11 (k0_pay4 x g) (View.ld w (Rect.unit ![0, 3584] S1024x512.size inb_S1024x4736_S1024x512_0_3584)) (View.ld b (Rect.unit ![0, 3584] S1x512.size inb_S1x4736_S1x512_0_3584))) := by
  unfold out0_A_10
  rw [View.read_writes_eq_canon _ _ _ (cover0_A_10 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out11_eq : out0_A_11 c i a1 h1 a2 h2 a3 h3 a4 h4 a7 h7 a8 h8 a9 h9 a10 h10 a11 h11 a12 h12 a13 h13 a14 h14 a15 h15 x g w b = k0_pay2 (k0_pay4 x g) (View.ld w (Rect.unit ![0, 4096] S1024x512.size inb_S1024x4736_S1024x512_0_4096)) (View.ld b (Rect.unit ![0, 4096] S1x512.size inb_S1x4736_S1x512_0_4096)) := by
  unfold out0_A_11
  rw [View.read_writes_eq_canon _ _ _ (cover0_A_11 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

theorem out12_eq : out0_A_12 c i a1 h1 a2 h2 a3 h3 a4 h4 a7 h7 a8 h8 a9 h9 a10 h10 a11 h11 a12 h12 a13 h13 a14 h14 a15 h15 x g w b = k0_pay3 (k0_pay4 x g) (View.ld w (Rect.unit ![0, 4608] S1024x128.size inb_S1024x4736_S1024x128_0_4608)) (View.ld b (Rect.unit ![0, 4608] S1x128.size inb_S1x4736_S1x128_0_4608)) := by
  unfold out0_A_12
  rw [View.read_writes_eq_canon _ _ _ (cover0_A_12 c i a1 h1 a2 h2 a3 h3 a4 h4 a7 h7 a8 h8 a9 h9 a10 h10 a11 h11 a12 h12 a13 h13 a14 h14 a15 h15 x g w b)]
  unfold kernelRun0_A
  dsimp only
  rw [View.canon_unit_zero z2]
  sl_unfold_words
  simp only [View.readAt_eq_ld, h1.read_unread, h2.read_unread, h3.read_unread, h4.read_unread, View.ld_unit_zero (S := S256x1024) z2, View.ld_unit_zero (S := S1x1024) z2]

/-- A column of the product of the normed rows with the padded weights, and its bias. -/
def colOf (r : Fin 256) (n : Fin 4736) : EReal :=
  (∑ k : Fin 1024, normed (fun d => x (ix2 r d)) (fun d => g (ix2 0 d)) k * w (ix2 k n)) + b (ix2 0 n)

/-- What a part of the weights and of the bias, read out of the whole, gives for one column. -/
theorem part_col {W : ℕ} (off : ℕ) (hW : off + W ≤ 4736) (inb) (inb') (r : Fin 256) (n : Fin W) :
    (∑ k : Fin 1024, k0_pay4 x g (ix2 r k) * View.ld w (Rect.unit ![0, off] (⟨2, ![1024, W]⟩ : Shape).size inb) (ix2 k n))
      + View.ld b (Rect.unit ![0, off] (⟨2, ![1, W]⟩ : Shape).size inb') (ix2 0 n) = colOf x g w b r ⟨off + n.val, by omega⟩ := by
  refine congrArg₂ (· + ·) (Finset.sum_congr rfl fun k _ => congrArg₂ (· * ·) (norm_apply x g r k) ?_) ?_
  · refine View.ld_unit_apply_of w _ _ inb (ix2 k n) (ix2 k ⟨off + n.val, by omega⟩) fun a => ?_
    match a with
    | 0 => show k.val = 0 + k.val; omega
    | 1 => rfl
  · refine View.ld_unit_apply_of b _ _ inb' (ix2 0 n) (ix2 0 ⟨off + n.val, by omega⟩) fun a => ?_
    match a with
    | 0 => rfl
    | 1 => rfl

theorem out4_at (r : Fin 256) (n : Fin 1536) : out0_A_4 c i a1 h1 a2 h2 a3 h3 a4 h4 a7 h7 a8 h8 a9 h9 a10 h10 a11 h11 a12 h12 a13 h13 a14 h14 a15 h15 x g w b (ix2 r n) = colOf x g w b r ⟨0 + n.val, by omega⟩ := by
  rw [out4_eq]
  exact ((dot_wide _ _ _ _ r n).trans (part_col x g w b 0 (by decide) _ _ r n))

theorem out5_at (r : Fin 256) (n : Fin 1024) : out0_A_5 c i a1 h1 a2 h2 a3 h3 a4 h4 a7 h7 a8 h8 a9 h9 a10 h10 a11 h11 a12 h12 a13 h13 a14 h14 a15 h15 x g w b (ix2 r n) = colOf x g w b r ⟨1536 + n.val, by omega⟩ := by
  rw [out5_eq]
  exact ((dot_full _ _ _ _ r n).trans (part_col x g w b 1536 (by decide) _ _ r n))

theorem out6_at (r : Fin 256) (n : Fin 512) : out0_A_6 c i a1 h1 a2 h2 a3 h3 a4 h4 a7 h7 a8 h8 a9 h9 a10 h10 a11 h11 a12 h12 a13 h13 a14 h14 a15 h15 x g w b (ix2 r n) = colOf x g w b r ⟨2560 + n.val, by omega⟩ := by
  rw [out6_eq]
  exact ((dot_half _ _ _ r n).trans (part_col x g w b 2560 (by decide) _ _ r n))

theorem out7_at (r : Fin 256) (n : Fin 512) : out0_A_7 c i a1 h1 a2 h2 a3 h3 a4 h4 a7 h7 a8 h8 a9 h9 a10 h10 a11 h11 a12 h12 a13 h13 a14 h14 a15 h15 x g w b (ix4 0 0 n r) = colOf x g w b r ⟨3072 + n.val, by omega⟩ := by
  rw [out7_eq]
  exact (turned_apply _ r n).trans ((dot_half _ _ _ r n).trans (part_col x g w b 3072 (by decide) _ _ r n))

theorem out8_at (r : Fin 256) (n : Fin 512) : out0_A_8 c i a1 h1 a2 h2 a3 h3 a4 h4 a7 h7 a8 h8 a9 h9 a10 h10 a11 h11 a12 h12 a13 h13 a14 h14 a15 h15 x g w b (ix2 r n) = colOf x g w b r ⟨3072 + n.val, by omega⟩ := by
  rw [out8_eq]
  exact ((dot_half _ _ _ r n).trans (part_col x g w b 3072 (by decide) _ _ r n))

theorem out9_at (r : Fin 256) (n : Fin 512) : out0_A_9 c i a1 h1 a2 h2 a3 h3 a4 h4 a7 h7 a8 h8 a9 h9 a10 h10 a11 h11 a12 h12 a13 h13 a14 h14 a15 h15 x g w b (ix4 0 0 n r) = colOf x g w b r ⟨3584 + n.val, by omega⟩ := by
  rw [out9_eq]
  exact (turned_apply _ r n).trans ((dot_half _ _ _ r n).trans (part_col x g w b 3584 (by decide) _ _ r n))

theorem out10_at (r : Fin 256) (n : Fin 512) : out0_A_10 c i a1 h1 a2 h2 a3 h3 a4 h4 a7 h7 a8 h8 a9 h9 a10 h10 a11 h11 a12 h12 a13 h13 a14 h14 a15 h15 x g w b (ix2 r n) = colOf x g w b r ⟨3584 + n.val, by omega⟩ := by
  rw [out10_eq]
  exact ((dot_half _ _ _ r n).trans (part_col x g w b 3584 (by decide) _ _ r n))

theorem out11_at (r : Fin 256) (n : Fin 512) : out0_A_11 c i a1 h1 a2 h2 a3 h3 a4 h4 a7 h7 a8 h8 a9 h9 a10 h10 a11 h11 a12 h12 a13 h13 a14 h14 a15 h15 x g w b (ix2 r n) = colOf x g w b r ⟨4096 + n.val, by omega⟩ := by
  rw [out11_eq]
  exact ((dot_half _ _ _ r n).trans (part_col x g w b 4096 (by decide) _ _ r n))

theorem out12_at (r : Fin 256) (n : Fin 128) : out0_A_12 c i a1 h1 a2 h2 a3 h3 a4 h4 a7 h7 a8 h8 a9 h9 a10 h10 a11 h11 a12 h12 a13 h13 a14 h14 a15 h15 x g w b (ix2 r n) = colOf x g w b r ⟨4608 + n.val, by omega⟩ := by
  rw [out12_eq]
  exact ((dot_thin _ _ _ r n).trans (part_col x g w b 4608 (by decide) _ _ r n))

end Outs

variable (m : (ℓ : Loc nD τ sig) → Buf (Elt Ideal) ℓ) (ρ : Dev nD → PrngReg)

/-! ## What the host prepares -/

/-- The arguments, as arrays of extended reals. -/
def aX (c : Dev nD) : S4x4096x1024.Idx → EReal := m ((c : Thread nD τ).loc main_arg0)
def aG (c : Dev nD) : S1024.Idx → EReal := m ((c : Thread nD τ).loc main_arg1)
def aW (c : Dev nD) : S1024x4624.Idx → EReal := m ((c : Thread nD τ).loc main_arg2)
def aB (c : Dev nD) : S4624.Idx → EReal := m ((c : Thread nD τ).loc main_arg3)
def aK (c : Dev nD) : S2x4x512x4096.Idx → EReal := m ((c : Thread nD τ).loc main_arg4)
def aV (c : Dev nD) : S2x4x512x4096.Idx → EReal := m ((c : Thread nD τ).loc main_arg5)

/-- The weights with their columns reordered and padded. -/
def wCat (w : S1024x4624.Idx → EReal) : S1024x4736.Idx → EReal :=
  concatenate S1024x4736 1 [⟨S1024x2560, extractStridedSlice S1024x2560 ![0, 0] w slices_S1024x4624_S1024x2560_0_0⟩,
    ⟨S1024x2048, extractStridedSlice S1024x2048 ![0, 2568] w slices_S1024x4624_S1024x2048_0_2568⟩,
    ⟨S1024x8, extractStridedSlice S1024x8 ![0, 2560] w slices_S1024x4624_S1024x8_0_2560⟩,
    ⟨S1024x8, extractStridedSlice S1024x8 ![0, 4616] w slices_S1024x4624_S1024x8_0_4616⟩,
    ⟨S1024x112, broadcastInDim S1024x112 ![] bcast_S_S1024x112 (constant (F := Ideal) S_ .f32 0x00000000#32)⟩] concatenates_S1024x2560_S1024x2048_S1024x8_S1024x8_S1024x112_S1024x4736_d1

/-- The bias likewise. -/
def bCat (b : S4624.Idx → EReal) : S4736.Idx → EReal :=
  concatenate S4736 0 [⟨S2560, extractStridedSlice S2560 ![0] b slices_S4624_S2560_0⟩,
    ⟨S2048, extractStridedSlice S2048 ![2568] b slices_S4624_S2048_2568⟩,
    ⟨S8, extractStridedSlice S8 ![2560] b slices_S4624_S8_2560⟩,
    ⟨S8, extractStridedSlice S8 ![4616] b slices_S4624_S8_4616⟩,
    ⟨S112, broadcastInDim S112 ![] bcast_S_S112 (constant (F := Ideal) S_ .f32 0x00000000#32)⟩] concatenates_S2560_S2048_S8_S8_S112_S4736_d0

theorem V_x (c : Dev nD) : V m c main_v13 = shapeCast S16384x1024 (aX m c) shapeCasts_S4x4096x1024_S16384x1024 := by
  unfold_abbrev_sides
  after_results
  rfl

theorem V_w (c : Dev nD) : V m c main_v12 = wCat (aW m c) := by
  unfold_abbrev_sides
  after_results
  rfl

theorem V_g (c : Dev nD) : V m c main_v14 = shapeCast S1x1024 (aG m c) shapeCasts_S1024_S1x1024 := by
  unfold_abbrev_sides
  after_results
  rfl

theorem V_b (c : Dev nD) : V m c main_v15 = shapeCast S1x4736 (bCat (aB m c)) shapeCasts_S4736_S1x4736 := by
  unfold_abbrev_sides
  after_results
  rfl

theorem V_ks (c : Dev nD) : V m c main_v16_3 = aK m c := by
  unfold_abbrev_sides
  after_results
  rfl

theorem V_vs (c : Dev nD) : V m c main_v16_5 = aV m c := by
  unfold_abbrev_sides
  after_results
  rfl

/-- A row of columns, reordered and padded. -/
def padOf (f : Fin 4624 → EReal) (n : Fin 4736) : EReal :=
  if h : n.val < 2560 then f ⟨n.val, by omega⟩ else if h : n.val < 4608 then f ⟨n.val + 8, by omega⟩
  else if h : n.val < 4616 then f ⟨n.val - 2048, by omega⟩ else if h : n.val < 4624 then f ⟨n.val, h⟩ else 0

theorem wCat_apply (w : S1024x4624.Idx → EReal) (k : Fin 1024) (n : Fin 4736) : wCat w (ix2 k n) = padOf (fun n => w (ix2 k n)) n := by
  unfold wCat padOf
  have piece : ∀ (W off : ℕ) (hs : S1024x4624.Slices ![0, off] (⟨2, ![1024, W]⟩ : Shape)) (q : Fin W) (n' : Fin 4624) (hn : n'.val = off + q.val),
      extractStridedSlice (⟨2, ![1024, W]⟩ : Shape) ![0, off] w hs (ix2 k q) = w (ix2 k n') := fun W off hs q n' hn =>
    extractStridedSlice_apply ![0, off] w hs (ix2 k q) (ix2 k n') fun a => match a with
      | ⟨0, _⟩ => by show k.val = 0 + k.val; omega
      | ⟨1, _⟩ => by show n'.val = off + q.val; exact hn
  have off_axis : ∀ (W : ℕ) (q : Fin W) (e : Fin 2), e ≠ 1 → ((ix2 k q : (⟨2, ![1024, W]⟩ : Shape).Idx) e).val = ((ix2 k n : S1024x4736.Idx) e).val := fun W q e he =>
    match e with | 0 => rfl | 1 => absurd rfl he
  split
  · next h =>
    refine (concatenate_apply_piece (t := S1024x4736) 1 _ _ (ix2 k n) 0 (by show 0 < 5; decide) S1024x2560 _ rfl rfl 0 rfl (ix2 k ⟨n.val, h⟩) (off_axis _ _) (Nat.zero_add _)).trans ?_
    exact piece 2560 0 _ _ _ (Nat.zero_add _).symm
  split
  · next h0 h =>
    refine (concatenate_apply_piece (t := S1024x4736) 1 _ _ (ix2 k n) 1 (by show 1 < 5; decide) S1024x2048 _ rfl rfl 2560 rfl (ix2 k ⟨n.val - 2560, by omega⟩) (off_axis _ _) (by show 2560 + (n.val - 2560) = n.val; omega)).trans ?_
    exact piece 2048 2568 _ _ _ (by show n.val + 8 = 2568 + (n.val - 2560); omega)
  split
  · next h0 h1 h =>
    refine (concatenate_apply_piece (t := S1024x4736) 1 _ _ (ix2 k n) 2 (by show 2 < 5; decide) S1024x8 _ rfl rfl 4608 rfl (ix2 k ⟨n.val - 4608, by omega⟩) (off_axis _ _) (by show 4608 + (n.val - 4608) = n.val; omega)).trans ?_
    exact piece 8 2560 _ _ _ (by show n.val - 2048 = 2560 + (n.val - 4608); omega)
  split
  · next h0 h1 h2 h =>
    refine (concatenate_apply_piece (t := S1024x4736) 1 _ _ (ix2 k n) 3 (by show 3 < 5; decide) S1024x8 _ rfl rfl 4616 rfl (ix2 k ⟨n.val - 4616, by omega⟩) (off_axis _ _) (by show 4616 + (n.val - 4616) = n.val; omega)).trans ?_
    exact piece 8 4616 _ _ _ (by show n.val = 4616 + (n.val - 4616); omega)
  · next h0 h1 h2 h3 =>
    refine (concatenate_apply_piece (t := S1024x4736) 1 _ _ (ix2 k n) 4 (by show 4 < 5; decide) S1024x112 _ rfl rfl 4624 rfl (ix2 k ⟨n.val - 4624, by omega⟩) (off_axis _ _) (by show 4624 + (n.val - 4624) = n.val; omega)).trans ?_
    exact Ideal.ofBits_zero_f32

theorem bCat_apply (b : S4624.Idx → EReal) (n : Fin 4736) : bCat b (ix1 n) = padOf (fun n => b (ix1 n)) n := by
  unfold bCat padOf
  have piece : ∀ (W off : ℕ) (hs : S4624.Slices ![off] (⟨1, ![W]⟩ : Shape)) (q : Fin W) (n' : Fin 4624) (hn : n'.val = off + q.val),
      extractStridedSlice (⟨1, ![W]⟩ : Shape) ![off] b hs (ix1 q) = b (ix1 n') := fun W off hs q n' hn =>
    extractStridedSlice_apply ![off] b hs (ix1 q) (ix1 n') fun a => match a with
      | ⟨0, _⟩ => by show n'.val = off + q.val; exact hn
  have off_axis : ∀ (W : ℕ) (q : Fin W) (e : Fin 1), e ≠ 0 → ((ix1 q : (⟨1, ![W]⟩ : Shape).Idx) e).val = ((ix1 n : S4736.Idx) e).val := fun W q e he =>
    absurd (Subsingleton.elim _ _) he
  split
  · next h =>
    refine (concatenate_apply_piece (t := S4736) 0 _ _ (ix1 n) 0 (by show 0 < 5; decide) S2560 _ rfl rfl 0 rfl (ix1 ⟨n.val, h⟩) (off_axis _ _) (Nat.zero_add _)).trans ?_
    exact piece 2560 0 _ _ _ (Nat.zero_add _).symm
  split
  · next h0 h =>
    refine (concatenate_apply_piece (t := S4736) 0 _ _ (ix1 n) 1 (by show 1 < 5; decide) S2048 _ rfl rfl 2560 rfl (ix1 ⟨n.val - 2560, by omega⟩) (off_axis _ _) (by show 2560 + (n.val - 2560) = n.val; omega)).trans ?_
    exact piece 2048 2568 _ _ _ (by show n.val + 8 = 2568 + (n.val - 2560); omega)
  split
  · next h0 h1 h =>
    refine (concatenate_apply_piece (t := S4736) 0 _ _ (ix1 n) 2 (by show 2 < 5; decide) S8 _ rfl rfl 4608 rfl (ix1 ⟨n.val - 4608, by omega⟩) (off_axis _ _) (by show 4608 + (n.val - 4608) = n.val; omega)).trans ?_
    exact piece 8 2560 _ _ _ (by show n.val - 2048 = 2560 + (n.val - 4608); omega)
  split
  · next h0 h1 h2 h =>
    refine (concatenate_apply_piece (t := S4736) 0 _ _ (ix1 n) 3 (by show 3 < 5; decide) S8 _ rfl rfl 4616 rfl (ix1 ⟨n.val - 4616, by omega⟩) (off_axis _ _) (by show 4616 + (n.val - 4616) = n.val; omega)).trans ?_
    exact piece 8 4616 _ _ _ (by show n.val = 4616 + (n.val - 4616); omega)
  · next h0 h1 h2 h3 =>
    refine (concatenate_apply_piece (t := S4736) 0 _ _ (ix1 n) 4 (by show 4 < 5; decide) S112 _ rfl rfl 4624 rfl (ix1 ⟨n.val - 4624, by omega⟩) (off_axis _ _) (by show 4624 + (n.val - 4624) = n.val; omega)).trans ?_
    exact Ideal.ofBits_zero_f32

/-! ## The windows' places -/

theorem place_row (i : grid0.Coords) : cc0_transform_0 i = ![(i 0).val, 0] := by
  revert i; decide +kernel

theorem place_none (i : grid0.Coords) : cc0_transform_1 i = ![0, 0] := by
  revert i; decide +kernel

theorem place_stack (i : grid0.Coords) : cc0_transform_9 i = ![1, (i 0).val / 16, 0, (i 0).val % 16] := by
  revert i; decide +kernel

section Place

variable (t : Fin cfg0.N)

/-- The block of rows of a grid point. -/
def tOf : Fin 64 := (grid0.coords t) 0

theorem emb_0 (r : Fin 256) (d : Fin 1024) : ((cfg0.win 0).blk t).view.emb (ix2 r d) = (ix2 (rowIn (tOf t) r) d : S16384x1024.Idx) := by
  have e : win0_0.index t = ![(tOf t).val, 0] := place_row (grid0.coords t)
  have h : ∀ a : Fin 2, win0_0.index t a * win0_0.size a + ((ix2 r d : S256x1024.Idx) a).val = ((ix2 (rowIn (tOf t) r) d : S16384x1024.Idx) a).val := by
    intro a; rw [e]
    match a with
    | 0 => show (tOf t).val * 256 + r.val = 256 * (tOf t).val + r.val; omega
    | 1 => show 0 * 1024 + d.val = d.val; omega
  funext a
  refine Fin.ext ?_
  blk_simp
  exact h a

theorem emb_1 (k : Fin 1) (n : Fin 1024) : ((cfg0.win 1).blk t).view.emb (ix2 k n) = (ix2 k n : S1x1024.Idx) := by
  have e : win0_1.index t = ![0, 0] := place_none (grid0.coords t)
  have h : ∀ a : Fin 2, win0_1.index t a * win0_1.size a + ((ix2 k n : S1x1024.Idx) a).val = ((ix2 k n : S1x1024.Idx) a).val := by
    intro a; rw [e]
    match a with
    | 0 => show 0 * 1 + k.val = k.val; omega
    | 1 => show 0 * 1024 + n.val = n.val; omega
  funext a
  refine Fin.ext ?_
  blk_simp
  exact h a

theorem emb_2 (k : Fin 1024) (n : Fin 4736) : ((cfg0.win 2).blk t).view.emb (ix2 k n) = (ix2 k n : S1024x4736.Idx) := by
  have e : win0_2.index t = ![0, 0] := place_none (grid0.coords t)
  have h : ∀ a : Fin 2, win0_2.index t a * win0_2.size a + ((ix2 k n : S1024x4736.Idx) a).val = ((ix2 k n : S1024x4736.Idx) a).val := by
    intro a; rw [e]
    match a with
    | 0 => show 0 * 1024 + k.val = k.val; omega
    | 1 => show 0 * 4736 + n.val = n.val; omega
  funext a
  refine Fin.ext ?_
  blk_simp
  exact h a

theorem emb_3 (k : Fin 1) (n : Fin 4736) : ((cfg0.win 3).blk t).view.emb (ix2 k n) = (ix2 k n : S1x4736.Idx) := by
  have e : win0_3.index t = ![0, 0] := place_none (grid0.coords t)
  have h : ∀ a : Fin 2, win0_3.index t a * win0_3.size a + ((ix2 k n : S1x4736.Idx) a).val = ((ix2 k n : S1x4736.Idx) a).val := by
    intro a; rw [e]
    match a with
    | 0 => show 0 * 1 + k.val = k.val; omega
    | 1 => show 0 * 4736 + n.val = n.val; omega
  funext a
  refine Fin.ext ?_
  blk_simp
  exact h a

theorem emb_4 (r : Fin 256) (d : Fin 1536) : ((cfg0.win 4).blk t).view.emb (ix2 r d) = (ix2 (rowIn (tOf t) r) d : S16384x1536.Idx) := by
  have e : win0_4.index t = ![(tOf t).val, 0] := place_row (grid0.coords t)
  have h : ∀ a : Fin 2, win0_4.index t a * win0_4.size a + ((ix2 r d : S256x1536.Idx) a).val = ((ix2 (rowIn (tOf t) r) d : S16384x1536.Idx) a).val := by
    intro a; rw [e]
    match a with
    | 0 => show (tOf t).val * 256 + r.val = 256 * (tOf t).val + r.val; omega
    | 1 => show 0 * 1536 + d.val = d.val; omega
  funext a
  refine Fin.ext ?_
  blk_simp
  exact h a

theorem emb_6 (r : Fin 256) (d : Fin 512) : ((cfg0.win 6).blk t).view.emb (ix2 r d) = (ix2 (rowIn (tOf t) r) d : S16384x512.Idx) := by
  have e : win0_6.index t = ![(tOf t).val, 0] := place_row (grid0.coords t)
  have h : ∀ a : Fin 2, win0_6.index t a * win0_6.size a + ((ix2 r d : S256x512.Idx) a).val = ((ix2 (rowIn (tOf t) r) d : S16384x512.Idx) a).val := by
    intro a; rw [e]
    match a with
    | 0 => show (tOf t).val * 256 + r.val = 256 * (tOf t).val + r.val; omega
    | 1 => show 0 * 512 + d.val = d.val; omega
  funext a
  refine Fin.ext ?_
  blk_simp
  exact h a

theorem emb_12 (r : Fin 256) (d : Fin 128) : ((cfg0.win 12).blk t).view.emb (ix2 r d) = (ix2 (rowIn (tOf t) r) d : S16384x128.Idx) := by
  have e : win0_12.index t = ![(tOf t).val, 0] := place_row (grid0.coords t)
  have h : ∀ a : Fin 2, win0_12.index t a * win0_12.size a + ((ix2 r d : S256x128.Idx) a).val = ((ix2 (rowIn (tOf t) r) d : S16384x128.Idx) a).val := by
    intro a; rw [e]
    match a with
    | 0 => show (tOf t).val * 256 + r.val = 256 * (tOf t).val + r.val; omega
    | 1 => show 0 * 128 + d.val = d.val; omega
  funext a
  refine Fin.ext ?_
  blk_simp
  exact h a

theorem emb_7 (r : Fin 256) (d : Fin 512) :
    ((cfg0.win 7).blk t).view.emb (ix4 0 0 d r) = (ix4 1 (batchOf (rowIn (tOf t) r)) d (stepOf (rowIn (tOf t) r)) : S2x4x512x4096.Idx) := by
  have e : win0_7.index t = ![1, (tOf t).val / 16, 0, (tOf t).val % 16] := place_stack (grid0.coords t)
  have h : ∀ a : Fin 4, win0_7.index t a * win0_7.size a + ((ix4 0 0 d r : S1x1x512x256.Idx) a).val
      = ((ix4 1 (batchOf (rowIn (tOf t) r)) d (stepOf (rowIn (tOf t) r)) : S2x4x512x4096.Idx) a).val := by
    intro a; rw [e]
    match a with
    | 0 => show 1 * 1 + 0 = 1; omega
    | 1 => show (tOf t).val / 16 * 1 + 0 = (256 * (tOf t).val + r.val) / 4096; omega
    | 2 => show 0 * 512 + d.val = d.val; omega
    | 3 => show (tOf t).val % 16 * 256 + r.val = (256 * (tOf t).val + r.val) % 4096; omega
  funext a
  refine Fin.ext ?_
  blk_simp
  exact h a

end Place

/-! ## The staged blocks, at one element -/

theorem x_block (c : Dev nD) (t : Fin cfg0.N) (r : Fin 256) (d : Fin 1024) : iblk m c 0 t (ix2 r d) = aX m c (atFlat (rowIn (tOf t) r) d) :=
  (congrArg (V m c main_v13) (emb_0 t r d)).trans ((congrFun (V_x m c) _).trans (cast_flat _ _ _ _))

theorem g_block (c : Dev nD) (t : Fin cfg0.N) (d : Fin 1024) : iblk m c 1 t (ix2 0 d) = aG m c (ix1 d) :=
  (congrArg (V m c main_v14) (emb_1 t 0 d)).trans ((congrFun (V_g m c) _).trans (cast_line _ _ d))

theorem w_block (c : Dev nD) (t : Fin cfg0.N) (k : Fin 1024) (n : Fin 4736) : iblk m c 2 t (ix2 k n) = padOf (fun n => aW m c (ix2 k n)) n :=
  (congrArg (V m c main_v12) (emb_2 t k n)).trans ((congrFun (V_w m c) _).trans (wCat_apply _ k n))

theorem b_block (c : Dev nD) (t : Fin cfg0.N) (n : Fin 4736) : iblk m c 3 t (ix2 0 n) = padOf (fun n => aB m c (ix1 n)) n :=
  (congrArg (V m c main_v15) (emb_3 t 0 n)).trans ((congrFun (V_b m c) _).trans ((cast_line _ _ n).trans (bCat_apply _ n)))

/-! ## The whole arrays -/

section Spec

variable (x : S4x4096x1024.Idx → EReal) (g : S1024.Idx → EReal) (w : S1024x4624.Idx → EReal) (b : S4624.Idx → EReal)

/-- Column `n` of the projection of row `R`, with its bias. -/
def evenAt (R : Fin 16384) (n : Fin 4624) : EReal :=
  (∑ k : Fin 1024, normed (fun d => x (atFlat R d)) (fun d => g (ix1 d)) k * w (ix2 k n)) + b (ix1 n)

/-- The same over the reordered and padded columns. -/
def padAt (R : Fin 16384) (n : Fin 4736) : EReal :=
  (∑ k : Fin 1024, normed (fun d => x (atFlat R d)) (fun d => g (ix1 d)) k * padOf (fun n => w (ix2 k n)) n) + padOf (fun n => b (ix1 n)) n

theorem padAt_of (R : Fin 16384) (n : Fin 4736) (n' : Fin 4624) (h : ∀ f, padOf f n = f n') : padAt x g w b R n = evenAt x g w b R n' := by
  unfold padAt evenAt
  simp only [h]

theorem padOf_low (f : Fin 4624 → EReal) (n : Fin 4736) (n' : Fin 4624) (h : n.val < 2560) (hn : n.val = n'.val) : padOf f n = f n' := by
  unfold padOf; rw [dif_pos h]; exact congrArg f (Fin.ext hn)

theorem padOf_mid (f : Fin 4624 → EReal) (n : Fin 4736) (n' : Fin 4624) (h : 2560 ≤ n.val) (h' : n.val < 4608) (hn : n.val + 8 = n'.val) : padOf f n = f n' := by
  unfold padOf; rw [dif_neg (by omega), dif_pos h']; exact congrArg f (Fin.ext hn)

theorem padOf_in (f : Fin 4624 → EReal) (n : Fin 4736) (n' : Fin 4624) (h : 4608 ≤ n.val) (h' : n.val < 4616) (hn : n.val - 2048 = n'.val) : padOf f n = f n' := by
  unfold padOf; rw [dif_neg (by omega), dif_neg (by omega), dif_pos h']; exact congrArg f (Fin.ext hn)

theorem padOf_out (f : Fin 4624 → EReal) (n : Fin 4736) (n' : Fin 4624) (h : 4616 ≤ n.val) (h' : n.val < 4624) (hn : n.val = n'.val) : padOf f n = f n' := by
  unfold padOf; rw [dif_neg (by omega), dif_neg (by omega), dif_neg (by omega), dif_pos h']; exact congrArg f (Fin.ext hn)

theorem padOf_zero (f : Fin 4624 → EReal) (n : Fin 4736) (h : 4624 ≤ n.val) : padOf f n = 0 := by
  unfold padOf; rw [dif_neg (by omega), dif_neg (by omega), dif_neg (by omega), dif_neg (by omega)]

theorem padAt_zero (R : Fin 16384) (n : Fin 4736) (h : 4624 ≤ n.val) : padAt x g w b R n = 0 := by
  unfold padAt
  simp only [padOf_zero _ n h, mul_zero, Finset.sum_const_zero, add_zero]

/-- The columns from `off` on, as an array. -/
def flatOf (off W : ℕ) (h : off + W ≤ 4624) : (⟨2, ![16384, W]⟩ : Shape).Idx → EReal :=
  fun i => evenAt x g w b (i 0) ⟨off + (i 1).val, by have h1 : (i 1).val < W := (i 1).isLt; omega⟩

/-- The gates: two groups of eight columns, then zeros. -/
def gateAt (R : Fin 16384) (n : Fin 128) : EReal :=
  if h : n.val < 8 then evenAt x g w b R ⟨2560 + n.val, by omega⟩ else if h : n.val < 16 then evenAt x g w b R ⟨4608 + n.val, by omega⟩ else 0

def gatesOf : S16384x128.Idx → EReal := fun i => gateAt x g w b (i 0) (i 1)

theorem gate_pad (R : Fin 16384) (n : Fin 128) : padAt x g w b R ⟨4608 + n.val, by omega⟩ = gateAt x g w b R n := by
  unfold gateAt
  split
  · next h => exact padAt_of x g w b R _ _ fun f => padOf_in f _ _ (by show 4608 ≤ 4608 + n.val; omega) (by show 4608 + n.val < 4616; omega) (by show 4608 + n.val - 2048 = 2560 + n.val; omega)
  split
  · next h0 h => exact padAt_of x g w b R _ _ fun f => padOf_out f _ _ (by show 4616 ≤ 4608 + n.val; omega) (by show 4608 + n.val < 4624; omega) rfl
  · next h0 h => exact padAt_zero x g w b R _ (by show 4624 ≤ 4608 + n.val; omega)

/-- The row of a batch's step. -/
def rowOf (e : Fin 4) (s : Fin 4096) : Fin 16384 := ⟨4096 * e.val + s.val, by omega⟩

theorem rowOf_split (R : Fin 16384) : rowOf (batchOf R) (stepOf R) = R := Fin.ext (by show 4096 * (R.val / 4096) + R.val % 4096 = R.val; omega)

/-- The stack of an earlier layer's columns and this layer's, from `off` on, steps last. -/
def stackOf (p : S2x4x512x4096.Idx → EReal) (off : ℕ) (h : off + 512 ≤ 4624) : S2x4x512x4096.Idx → EReal :=
  fun i => if (i 0).val / 1 = 1 then
    evenAt x g w b (rowOf (i 1) (i 3)) ⟨off + (i 2).val, by have h2 : (i 2).val < 512 := (i 2).isLt; omega⟩ else p i

theorem stackOf_one (p : S2x4x512x4096.Idx → EReal) (off : ℕ) (h : off + 512 ≤ 4624) (e : Fin 4) (d : Fin 512) (s : Fin 4096) :
    stackOf x g w b p off h (ix4 1 e d s) = evenAt x g w b (rowOf e s) ⟨off + d.val, by omega⟩ := by
  unfold stackOf; exact if_pos (Nat.div_one 1)

theorem stackOf_zero (p : S2x4x512x4096.Idx → EReal) (off : ℕ) (h : off + 512 ≤ 4624) (e : Fin 4) (d : Fin 512) (s : Fin 4096) :
    stackOf x g w b p off h (ix4 0 e d s) = p (ix4 0 e d s) := by
  unfold stackOf; exact if_neg (show ¬ (0 / 1 = 1) by decide)

end Spec

theorem col_block (c : Dev nD) (t : Fin cfg0.N) (r : Fin 256) (n : Fin 4736) :
    colOf (iblk m c 0 t) (iblk m c 1 t) (iblk m c 2 t) (iblk m c 3 t) r n = padAt (aX m c) (aG m c) (aW m c) (aB m c) (rowIn (tOf t) r) n := by
  unfold colOf padAt
  have hx : (fun d => iblk m c 0 t (ix2 r d)) = fun d => aX m c (atFlat (rowIn (tOf t) r) d) := funext fun d => x_block m c t r d
  have hg : (fun d => iblk m c 1 t (ix2 0 d)) = fun d => aG m c (ix1 d) := funext fun d => g_block m c t d
  refine congrArg₂ (· + ·) (Finset.sum_congr rfl fun k _ => congrArg₂ (· * ·) ?_ (w_block m c t k n)) (b_block m c t n)
  exact congrArg₂ (fun u v => normed u v k) hx hg

/-- A column of a block that lies before the gates. -/
theorem col_even (c : Dev nD) (t : Fin cfg0.N) (r : Fin 256) (n : Fin 4736) (n' : Fin 4624) (h : ∀ f, padOf f n = f n') :
    colOf (iblk m c 0 t) (iblk m c 1 t) (iblk m c 2 t) (iblk m c 3 t) r n = evenAt (aX m c) (aG m c) (aW m c) (aB m c) (rowIn (tOf t) r) n' :=
  (col_block m c t r n).trans (padAt_of _ _ _ _ _ _ _ h)

theorem covers4 : (cfg0.win 4).Covers :=
  (cfg0.win 4).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers5 : (cfg0.win 5).Covers :=
  (cfg0.win 5).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers6 : (cfg0.win 6).Covers :=
  (cfg0.win 6).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers8 : (cfg0.win 8).Covers :=
  (cfg0.win 8).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers10 : (cfg0.win 10).Covers :=
  (cfg0.win 10).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers11 : (cfg0.win 11).Covers :=
  (cfg0.win 11).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem covers12 : (cfg0.win 12).Covers :=
  (cfg0.win 12).covers_of_indexMap_surj rfl (by decide) fun β => ⟨fun | 0 => β 0, fun a => (congrFun (place_row (fun | 0 => β 0 : grid0.Coords)) a).trans
    (by match a with | 0 => rfl | 1 => exact (Nat.lt_one_iff.mp (β 1).isLt).symm)⟩

theorem arr4 (c : Dev nD) : (dats m 0 c).arrAt 4 cfg0.N = flatOf (aX m c) (aG m c) (aW m c) (aB m c) 0 1536 (by decide) := by
  refine (dats m 0 c).arrAt_eq_of_covers 4 (flatOf (aX m c) (aG m c) (aW m c) (aB m c) 0 1536 (by decide)) covers4 fun t ht y => ?_
  obtain ⟨r, n, rfl⟩ : ∃ (r : Fin 256) (n : Fin 1536), y = ix2 r n := ⟨y 0, y 1, eq_ix2 y⟩
  refine (congrFun (Cert.Kernel4Ideal.Value.flushed4_A m c t) (ix2 r n)).trans ?_
  refine Eq.trans ?_ (congrArg (flatOf (aX m c) (aG m c) (aW m c) (aB m c) 0 1536 (by decide)) (emb_4 t r n).symm)
  exact (out4_at c _ _ _ _ _ _ _ _ _ _ _ _ _ _ _ _ _ _ _ _ _ _ _ _ _ _ _ _ _ _ _ r n).trans (col_even m c t r _ ⟨0 + n.val, by omega⟩ fun f => padOf_low f _ _ (by show 0 + n.val < 2560; omega) rfl)

theorem arr5 (c : Dev nD) : (dats m 0 c).arrAt 5 cfg0.N = flatOf (aX m c) (aG m c) (aW m c) (aB m c) 1536 1024 (by decide) := by
  refine (dats m 0 c).arrAt_eq_of_covers 5 (flatOf (aX m c) (aG m c) (aW m c) (aB m c) 1536 1024 (by decide)) covers5 fun t ht y => ?_
  obtain ⟨r, n, rfl⟩ : ∃ (r : Fin 256) (n : Fin 1024), y = ix2 r n := ⟨y 0, y 1, eq_ix2 y⟩
  refine (congrFun (Cert.Kernel4Ideal.Value.flushed5_A m c t) (ix2 r n)).trans ?_
  refine Eq.trans ?_ (congrArg (flatOf (aX m c) (aG m c) (aW m c) (aB m c) 1536 1024 (by decide)) (emb_0 t r n).symm)
  exact (out5_at c _ _ _ _ _ _ _ _ _ _ _ _ _ _ _ _ _ _ _ _ _ _ _ _ _ _ _ _ _ _ _ r n).trans (col_even m c t r _ ⟨1536 + n.val, by omega⟩ fun f => padOf_low f _ _ (by show 1536 + n.val < 2560; omega) rfl)

theorem arr6 (c : Dev nD) : (dats m 0 c).arrAt 6 cfg0.N = flatOf (aX m c) (aG m c) (aW m c) (aB m c) 2568 512 (by decide) := by
  refine (dats m 0 c).arrAt_eq_of_covers 6 (flatOf (aX m c) (aG m c) (aW m c) (aB m c) 2568 512 (by decide)) covers6 fun t ht y => ?_
  obtain ⟨r, n, rfl⟩ : ∃ (r : Fin 256) (n : Fin 512), y = ix2 r n := ⟨y 0, y 1, eq_ix2 y⟩
  refine (congrFun (Cert.Kernel4Ideal.Value.flushed6_A m c t) (ix2 r n)).trans ?_
  refine Eq.trans ?_ (congrArg (flatOf (aX m c) (aG m c) (aW m c) (aB m c) 2568 512 (by decide)) (emb_6 t r n).symm)
  exact (out6_at c _ _ _ _ _ _ _ _ _ _ _ _ _ _ _ _ _ _ _ _ _ _ _ _ _ _ _ _ _ _ _ r n).trans (col_even m c t r _ ⟨2568 + n.val, by omega⟩ fun f => padOf_mid f _ _ (by show 2560 ≤ 2560 + n.val; omega) (by show 2560 + n.val < 4608; omega) (by show 2560 + n.val + 8 = 2568 + n.val; omega))

theorem arr7 (c : Dev nD) : (dats m 0 c).arrAt 7 cfg0.N = stackOf (aX m c) (aG m c) (aW m c) (aB m c) (aK m c) 3080 (by decide) := by
  refine ((dats m 0 c).arrAt_eq_of_coversWhere 7 (stackOf (aX m c) (aG m c) (aW m c) (aB m c) (aK m c) 3080 (by decide)) (fun β => β (0 : Fin 4) = 1) (by decide +kernel)
    (fun t hf y => ?_) (fun j => Iff.rfl)).trans (?_ : (fun i : S2x4x512x4096.Idx => if (i 0).val / 1 = 1 then stackOf (aX m c) (aG m c) (aW m c) (aB m c) (aK m c) 3080 (by decide) i else V m c main_v16_3 i) = _)
  · obtain ⟨a, a', n, r, rfl⟩ : ∃ (a : Fin 1) (a' : Fin 1) (n : Fin 512) (r : Fin 256), y = ix4 a a' n r := ⟨y 0, y 1, y 2, y 3, eq_ix4 y⟩
    obtain rfl : a = 0 := Subsingleton.elim _ _
    obtain rfl : a' = 0 := Subsingleton.elim _ _
    refine (congrFun (Cert.Kernel4Ideal.Value.flushed7_A m c t) (ix4 0 0 n r)).trans ?_
    refine Eq.trans ?_ (congrArg (stackOf (aX m c) (aG m c) (aW m c) (aB m c) (aK m c) 3080 (by decide)) (emb_7 t r n).symm)
    refine ((out7_at c _ _ _ _ _ _ _ _ _ _ _ _ _ _ _ _ _ _ _ _ _ _ _ _ _ _ _ _ _ _ _ r n).trans (col_even m c t r _ ⟨3080 + n.val, by omega⟩ fun f => padOf_mid f _ _ (by show 2560 ≤ 3072 + n.val; omega) (by show 3072 + n.val < 4608; omega) (by show 3072 + n.val + 8 = 3080 + n.val; omega))).trans ?_
    rw [stackOf_one, rowOf_split]
  · funext i
    unfold stackOf
    split
    · rfl
    · exact congrFun (V_ks m c) i

theorem arr8 (c : Dev nD) : (dats m 0 c).arrAt 8 cfg0.N = flatOf (aX m c) (aG m c) (aW m c) (aB m c) 3080 512 (by decide) := by
  refine (dats m 0 c).arrAt_eq_of_covers 8 (flatOf (aX m c) (aG m c) (aW m c) (aB m c) 3080 512 (by decide)) covers8 fun t ht y => ?_
  obtain ⟨r, n, rfl⟩ : ∃ (r : Fin 256) (n : Fin 512), y = ix2 r n := ⟨y 0, y 1, eq_ix2 y⟩
  refine (congrFun (Cert.Kernel4Ideal.Value.flushed8_A m c t) (ix2 r n)).trans ?_
  refine Eq.trans ?_ (congrArg (flatOf (aX m c) (aG m c) (aW m c) (aB m c) 3080 512 (by decide)) (emb_6 t r n).symm)
  exact (out8_at c _ _ _ _ _ _ _ _ _ _ _ _ _ _ _ _ _ _ _ _ _ _ _ _ _ _ _ _ _ _ _ r n).trans (col_even m c t r _ ⟨3080 + n.val, by omega⟩ fun f => padOf_mid f _ _ (by show 2560 ≤ 3072 + n.val; omega) (by show 3072 + n.val < 4608; omega) (by show 3072 + n.val + 8 = 3080 + n.val; omega))

theorem arr9 (c : Dev nD) : (dats m 0 c).arrAt 9 cfg0.N = stackOf (aX m c) (aG m c) (aW m c) (aB m c) (aV m c) 3592 (by decide) := by
  refine ((dats m 0 c).arrAt_eq_of_coversWhere 9 (stackOf (aX m c) (aG m c) (aW m c) (aB m c) (aV m c) 3592 (by decide)) (fun β => β (0 : Fin 4) = 1) (by decide +kernel)
    (fun t hf y => ?_) (fun j => Iff.rfl)).trans (?_ : (fun i : S2x4x512x4096.Idx => if (i 0).val / 1 = 1 then stackOf (aX m c) (aG m c) (aW m c) (aB m c) (aV m c) 3592 (by decide) i else V m c main_v16_5 i) = _)
  · obtain ⟨a, a', n, r, rfl⟩ : ∃ (a : Fin 1) (a' : Fin 1) (n : Fin 512) (r : Fin 256), y = ix4 a a' n r := ⟨y 0, y 1, y 2, y 3, eq_ix4 y⟩
    obtain rfl : a = 0 := Subsingleton.elim _ _
    obtain rfl : a' = 0 := Subsingleton.elim _ _
    refine (congrFun (Cert.Kernel4Ideal.Value.flushed9_A m c t) (ix4 0 0 n r)).trans ?_
    refine Eq.trans ?_ (congrArg (stackOf (aX m c) (aG m c) (aW m c) (aB m c) (aV m c) 3592 (by decide)) (emb_7 t r n).symm)
    refine ((out9_at c _ _ _ _ _ _ _ _ _ _ _ _ _ _ _ _ _ _ _ _ _ _ _ _ _ _ _ _ _ _ _ r n).trans (col_even m c t r _ ⟨3592 + n.val, by omega⟩ fun f => padOf_mid f _ _ (by show 2560 ≤ 3584 + n.val; omega) (by show 3584 + n.val < 4608; omega) (by show 3584 + n.val + 8 = 3592 + n.val; omega))).trans ?_
    rw [stackOf_one, rowOf_split]
  · funext i
    unfold stackOf
    split
    · rfl
    · exact congrFun (V_vs m c) i

theorem arr10 (c : Dev nD) : (dats m 0 c).arrAt 10 cfg0.N = flatOf (aX m c) (aG m c) (aW m c) (aB m c) 3592 512 (by decide) := by
  refine (dats m 0 c).arrAt_eq_of_covers 10 (flatOf (aX m c) (aG m c) (aW m c) (aB m c) 3592 512 (by decide)) covers10 fun t ht y => ?_
  obtain ⟨r, n, rfl⟩ : ∃ (r : Fin 256) (n : Fin 512), y = ix2 r n := ⟨y 0, y 1, eq_ix2 y⟩
  refine (congrFun (Cert.Kernel4Ideal.Value.flushed10_A m c t) (ix2 r n)).trans ?_
  refine Eq.trans ?_ (congrArg (flatOf (aX m c) (aG m c) (aW m c) (aB m c) 3592 512 (by decide)) (emb_6 t r n).symm)
  exact (out10_at c _ _ _ _ _ _ _ _ _ _ _ _ _ _ _ _ _ _ _ _ _ _ _ _ _ _ _ _ _ _ _ r n).trans (col_even m c t r _ ⟨3592 + n.val, by omega⟩ fun f => padOf_mid f _ _ (by show 2560 ≤ 3584 + n.val; omega) (by show 3584 + n.val < 4608; omega) (by show 3584 + n.val + 8 = 3592 + n.val; omega))

theorem arr11 (c : Dev nD) : (dats m 0 c).arrAt 11 cfg0.N = flatOf (aX m c) (aG m c) (aW m c) (aB m c) 4104 512 (by decide) := by
  refine (dats m 0 c).arrAt_eq_of_covers 11 (flatOf (aX m c) (aG m c) (aW m c) (aB m c) 4104 512 (by decide)) covers11 fun t ht y => ?_
  obtain ⟨r, n, rfl⟩ : ∃ (r : Fin 256) (n : Fin 512), y = ix2 r n := ⟨y 0, y 1, eq_ix2 y⟩
  refine (congrFun (Cert.Kernel4Ideal.Value.flushed11_A m c t) (ix2 r n)).trans ?_
  refine Eq.trans ?_ (congrArg (flatOf (aX m c) (aG m c) (aW m c) (aB m c) 4104 512 (by decide)) (emb_6 t r n).symm)
  exact (out11_at c _ _ _ _ _ _ _ _ _ _ _ _ _ _ _ _ _ _ _ _ _ _ _ _ _ _ _ _ _ _ _ r n).trans (col_even m c t r _ ⟨4104 + n.val, by omega⟩ fun f => padOf_mid f _ _ (by show 2560 ≤ 4096 + n.val; omega) (by show 4096 + n.val < 4608; omega) (by show 4096 + n.val + 8 = 4104 + n.val; omega))

theorem arr12 (c : Dev nD) : (dats m 0 c).arrAt 12 cfg0.N = gatesOf (aX m c) (aG m c) (aW m c) (aB m c) := by
  refine (dats m 0 c).arrAt_eq_of_covers 12 (gatesOf (aX m c) (aG m c) (aW m c) (aB m c)) covers12 fun t ht y => ?_
  obtain ⟨r, n, rfl⟩ : ∃ (r : Fin 256) (n : Fin 128), y = ix2 r n := ⟨y 0, y 1, eq_ix2 y⟩
  refine (congrFun (Cert.Kernel4Ideal.Value.flushed12_A m c t) (ix2 r n)).trans ?_
  refine Eq.trans ?_ (congrArg (gatesOf (aX m c) (aG m c) (aW m c) (aB m c)) (emb_12 t r n).symm)
  exact (out12_at c _ _ _ _ _ _ _ _ _ _ _ _ _ _ _ _ _ _ _ _ _ _ _ _ _ _ _ _ _ _ _ r n).trans ((col_block m c t r _).trans (gate_pad _ _ _ _ _ n))

end Cert.Kernel4Ideal.Hand

namespace Cert.Agree4

open Idealize.ShloMosaic Idealize.ShloMosaic.TcCoe
open Idealize.SL Idealize.SL.Sem
open Cert.Dense Cert.Reference4Ideal Cert.Reference4Ideal.Read Cert.Kernel4Ideal.Hand

/-! ## The reference -/

section Ref

variable (x0 : S4x4096x1024.Idx → EReal) (x1 : S1024.Idx → EReal) (x2 : S1024x4624.Idx → EReal) (x3 : S4624.Idx → EReal)

theorem root_at (R : Fin 16384) (n : Fin 1024) :
    val_main_v8 (F := Ideal) x0 (atFlat R n) = rootOf fun d => x0 (atFlat R d) := by
  have e : val_main_v1 (F := Ideal) x0 (ix2 (batchOf R) (stepOf R)) = ∑ d : Fin 1024, x0 (atFlat R d) * x0 (atFlat R d) := by
    rw [val_main_v1_apply, val_main_cst_apply]
    refine (zero_bits_add _).trans (Finset.sum_congr rfl fun d _ => ?_)
    have hi : idx_main_v1 (ix2 (batchOf R) (stepOf R)) d = atFlat R d := funext fun a => by match a with | 0 => rfl | 1 => rfl | 2 => rfl
    rw [hi, val_main_v0_apply]
    rfl
  have hi : idx_main_v2 (idx_main_v8 (atFlat R n)) = ix2 (batchOf R) (stepOf R) := funext fun a => by match a with | 0 => rfl | 1 => rfl
  rw [val_main_v8_apply, val_main_v7_apply, val_main_v6_apply, val_main_v4_apply, val_main_v2_apply, val_main_v5_apply, val_main_v3_apply,
    val_main_cst_0_apply, val_main_cst_1_apply, hi]
  exact congrArg (fun u => Ideal.rsqrt (Ideal.div u (Ideal.ofBits .f32 0x44800000#32) + Ideal.ofBits .f32 0x358637BD#32)) e

theorem norm_at (R : Fin 16384) (n : Fin 1024) :
    val_main_v12 (F := Ideal) x0 x1 (atFlat R n) = normed (fun d => x0 (atFlat R d)) (fun d => x1 (ix1 d)) n := by
  have eg : idx_main_v10 (idx_main_v11 (atFlat R n)) = ix1 n := funext fun a => by match a with | 0 => rfl
  rw [val_main_v12_apply, val_main_v9_apply, val_main_v11_apply, val_main_v10_apply, eg, root_at]
  rfl

theorem proj_at (R : Fin 16384) (n : Fin 4624) : val_main_v17 (F := Ideal) x0 x1 x2 x3 (ix2 R n) = evenAt x0 x1 x2 x3 R n := by
  have ej : idx_main_v17 (ix2 R n) = ix3 (batchOf R) (stepOf R) n := by
    funext a; refine Fin.ext ?_
    match a with
    | 0 => show (R.val * 4624 + n.val) / 18939904 = R.val / 4096; omega
    | 1 => show (R.val * 4624 + n.val) / 4624 % 4096 = R.val % 4096; omega
    | 2 => show (R.val * 4624 + n.val) % 4624 = n.val; omega
  have hl : ∀ k : Fin 1024, lidx_main_v13 (ix3 (batchOf R) (stepOf R) n) k = atFlat R k := fun k => funext fun a => by match a with | 0 => rfl | 1 => rfl | 2 => rfl
  have hr : ∀ k : Fin 1024, ridx_main_v13 (ix3 (batchOf R) (stepOf R) n) k = ix2 k n := fun k => funext fun a => by match a with | 0 => rfl | 1 => rfl
  have hb : idx_main_v14 (idx_main_v15 (ix3 (batchOf R) (stepOf R) n)) = ix1 n := funext fun a => by match a with | 0 => rfl
  rw [val_main_v17_apply, ej, val_main_v16_apply, val_main_v13_apply, val_main_v15_apply, val_main_v14_apply, hb]
  unfold evenAt
  exact congrArg (· + x3 (ix1 n)) (Finset.sum_congr rfl fun k _ => by rw [hl, hr, norm_at])

theorem v18_eq : val_main_v18 (F := Ideal) x0 x1 x2 x3 = flatOf x0 x1 x2 x3 0 1536 (by decide) := by
  funext i
  have e : idx_main_v18 i = ix2 (i 0) ⟨0 + (i 1).val, by have h1 : (i 1).val < 1536 := (i 1).isLt; omega⟩ := funext fun a => by match a with | 0 => rfl | 1 => exact Fin.ext (by show (i 1).val = 0 + (i 1).val; omega)
  rw [val_main_v18_apply, e]; exact proj_at x0 x1 x2 x3 (i 0) _

theorem v19_eq : val_main_v19 (F := Ideal) x0 x1 x2 x3 = flatOf x0 x1 x2 x3 1536 1024 (by decide) := by
  funext i
  have e : idx_main_v19 i = ix2 (i 0) ⟨1536 + (i 1).val, by have h1 : (i 1).val < 1024 := (i 1).isLt; omega⟩ := funext fun a => by match a with | 0 => rfl | 1 => rfl
  rw [val_main_v19_apply, e]; exact proj_at x0 x1 x2 x3 (i 0) _

theorem v20_eq : val_main_v20 (F := Ideal) x0 x1 x2 x3 = flatOf x0 x1 x2 x3 2560 8 (by decide) := by
  funext i
  have e : idx_main_v20 i = ix2 (i 0) ⟨2560 + (i 1).val, by have h1 : (i 1).val < 8 := (i 1).isLt; omega⟩ := funext fun a => by match a with | 0 => rfl | 1 => rfl
  rw [val_main_v20_apply, e]; exact proj_at x0 x1 x2 x3 (i 0) _

theorem v21_eq : val_main_v21 (F := Ideal) x0 x1 x2 x3 = flatOf x0 x1 x2 x3 2568 512 (by decide) := by
  funext i
  have e : idx_main_v21 i = ix2 (i 0) ⟨2568 + (i 1).val, by have h1 : (i 1).val < 512 := (i 1).isLt; omega⟩ := funext fun a => by match a with | 0 => rfl | 1 => rfl
  rw [val_main_v21_apply, e]; exact proj_at x0 x1 x2 x3 (i 0) _

theorem v22_eq : val_main_v22 (F := Ideal) x0 x1 x2 x3 = flatOf x0 x1 x2 x3 3080 512 (by decide) := by
  funext i
  have e : idx_main_v22 i = ix2 (i 0) ⟨3080 + (i 1).val, by have h1 : (i 1).val < 512 := (i 1).isLt; omega⟩ := funext fun a => by match a with | 0 => rfl | 1 => rfl
  rw [val_main_v22_apply, e]; exact proj_at x0 x1 x2 x3 (i 0) _

theorem v23_eq : val_main_v23 (F := Ideal) x0 x1 x2 x3 = flatOf x0 x1 x2 x3 3592 512 (by decide) := by
  funext i
  have e : idx_main_v23 i = ix2 (i 0) ⟨3592 + (i 1).val, by have h1 : (i 1).val < 512 := (i 1).isLt; omega⟩ := funext fun a => by match a with | 0 => rfl | 1 => rfl
  rw [val_main_v23_apply, e]; exact proj_at x0 x1 x2 x3 (i 0) _

theorem v24_eq : val_main_v24 (F := Ideal) x0 x1 x2 x3 = flatOf x0 x1 x2 x3 4104 512 (by decide) := by
  funext i
  have e : idx_main_v24 i = ix2 (i 0) ⟨4104 + (i 1).val, by have h1 : (i 1).val < 512 := (i 1).isLt; omega⟩ := funext fun a => by match a with | 0 => rfl | 1 => rfl
  rw [val_main_v24_apply, e]; exact proj_at x0 x1 x2 x3 (i 0) _

theorem v25_eq : val_main_v25 (F := Ideal) x0 x1 x2 x3 = flatOf x0 x1 x2 x3 4616 8 (by decide) := by
  funext i
  have e : idx_main_v25 i = ix2 (i 0) ⟨4616 + (i 1).val, by have h1 : (i 1).val < 8 := (i 1).isLt; omega⟩ := funext fun a => by match a with | 0 => rfl | 1 => rfl
  rw [val_main_v25_apply, e]; exact proj_at x0 x1 x2 x3 (i 0) _

theorem v27_eq : val_main_v27 (F := Ideal) x0 x1 x2 x3 = gatesOf x0 x1 x2 x3 := by
  funext i
  obtain ⟨R, n, rfl⟩ : ∃ (R : Fin 16384) (n : Fin 128), i = ix2 R n := ⟨i 0, i 1, eq_ix2 i⟩
  refine Eq.trans ?_ (rfl : gateAt x0 x1 x2 x3 R n = gatesOf x0 x1 x2 x3 (ix2 R n))
  have off_axis : ∀ (W : ℕ) (q : Fin W) (e : Fin 2), e ≠ 1 → ((ix2 R q : (⟨2, ![16384, W]⟩ : Shape).Idx) e).val = ((ix2 R n : S16384x128.Idx) e).val := fun W q e he =>
    match e with | 0 => rfl | 1 => absurd rfl he
  unfold val_main_v27 gateAt
  split
  · next h =>
    refine (concatenate_apply_piece (t := S16384x128) 1 _ _ (ix2 R n) 0 (by show 0 < 3; decide) S16384x8 _ rfl rfl 0 rfl (ix2 R ⟨n.val, h⟩) (off_axis _ _) (Nat.zero_add _)).trans ?_
    exact congrFun (v20_eq x0 x1 x2 x3) _
  split
  · next h0 h =>
    refine (concatenate_apply_piece (t := S16384x128) 1 _ _ (ix2 R n) 1 (by show 1 < 3; decide) S16384x8 _ rfl rfl 8 rfl (ix2 R ⟨n.val - 8, by omega⟩) (off_axis _ _) (by show 8 + (n.val - 8) = n.val; omega)).trans ?_
    refine (congrFun (v25_eq x0 x1 x2 x3) _).trans (congrArg (evenAt x0 x1 x2 x3 R) (Fin.ext ?_))
    show 4616 + (n.val - 8) = 4608 + n.val
    omega
  · next h0 h =>
    refine (concatenate_apply_piece (t := S16384x128) 1 _ _ (ix2 R n) 2 (by show 2 < 3; decide) S16384x112 _ rfl rfl 16 rfl (ix2 R ⟨n.val - 16, by omega⟩) (off_axis _ _) (by show 16 + (n.val - 16) = n.val; omega)).trans ?_
    exact Ideal.ofBits_zero_f32

/-- A batch's column, step by step, in the flat projection. -/
theorem turn_idx (e : Fin 4) (d : Fin 512) (s : Fin 4096) : idx_main_v30 (idx_main_v31 (ix3 e d s)) = ix2 (rowOf e s) d := by
  funext a; refine Fin.ext ?_
  match a with
  | 0 => show ((e.val * 4096 + s.val) * 512 + d.val) / 512 = 4096 * e.val + s.val; omega
  | 1 => show ((e.val * 4096 + s.val) * 512 + d.val) % 512 = d.val; omega

/-- Its place in the earlier layer's part of the stack. -/
theorem prev_idx (e : Fin 4) (d : Fin 512) (s : Fin 4096) : idx_main_v28 (idx_main_v29 (ix3 e d s)) = ix4 0 e d s := by
  funext a; refine Fin.ext ?_
  match a with
  | 0 => rfl
  | 1 => show ((e.val * 512 + d.val) * 4096 + s.val) / 2097152 % 4 = e.val; omega
  | 2 => show ((e.val * 512 + d.val) * 4096 + s.val) / 4096 % 512 = d.val; omega
  | 3 => show ((e.val * 512 + d.val) * 4096 + s.val) % 4096 = s.val; omega

theorem v34_eq (x4 : S2x4x512x4096.Idx → EReal) : val_main_v34 (F := Ideal) x0 x1 x2 x3 x4 = stackOf x0 x1 x2 x3 x4 3080 (by decide) := by
  funext i
  obtain ⟨l, e, d, s, rfl⟩ : ∃ (l : Fin 2) (e : Fin 4) (d : Fin 512) (s : Fin 4096), i = ix4 l e d s := ⟨i 0, i 1, i 2, i 3, eq_ix4 i⟩
  unfold val_main_v34
  match l with
  | 0 =>
    refine (concatenate_pair_apply_left (t := S2x4x512x4096) (s₁ := S1x4x512x4096) (s₂ := S1x4x512x4096) (0 : Fin 4) _ _ _ _ rfl (ix4 0 e d s) fun b => by match b with | 0 => rfl | 1 => rfl | 2 => rfl | 3 => rfl).trans ?_
    have hi : idx_main_v32 (ix4 0 e d s) = ix3 e d s := funext fun a => by match a with | 0 => rfl | 1 => rfl | 2 => rfl
    rw [val_main_v32_apply, hi, val_main_v29_apply, val_main_v28_apply]
    exact (congrArg x4 (prev_idx e d s)).trans (stackOf_zero x0 x1 x2 x3 x4 3080 (by decide) e d s).symm
  | 1 =>
    refine (concatenate_pair_apply_right (t := S2x4x512x4096) (s₁ := S1x4x512x4096) (s₂ := S1x4x512x4096) (0 : Fin 4) _ _ _ _ rfl rfl (ix4 0 e d s) (fun b hb => by
      match b with | 0 => exact absurd rfl hb | 1 => rfl | 2 => rfl | 3 => rfl) rfl).trans ?_
    have hi : idx_main_v33 (ix4 0 e d s) = ix3 e d s := funext fun a => by match a with | 0 => rfl | 1 => rfl | 2 => rfl
    rw [val_main_v33_apply, hi, val_main_v31_apply, val_main_v30_apply, v22_eq]
    exact (congrArg (flatOf x0 x1 x2 x3 3080 512 (by decide)) (turn_idx e d s)).trans (stackOf_one x0 x1 x2 x3 x4 3080 (by decide) e d s).symm

theorem v41_eq (x5 : S2x4x512x4096.Idx → EReal) : val_main_v41 (F := Ideal) x0 x1 x2 x3 x5 = stackOf x0 x1 x2 x3 x5 3592 (by decide) := by
  funext i
  obtain ⟨l, e, d, s, rfl⟩ : ∃ (l : Fin 2) (e : Fin 4) (d : Fin 512) (s : Fin 4096), i = ix4 l e d s := ⟨i 0, i 1, i 2, i 3, eq_ix4 i⟩
  unfold val_main_v41
  match l with
  | 0 =>
    refine (concatenate_pair_apply_left (t := S2x4x512x4096) (s₁ := S1x4x512x4096) (s₂ := S1x4x512x4096) (0 : Fin 4) _ _ _ _ rfl (ix4 0 e d s) fun b => by match b with | 0 => rfl | 1 => rfl | 2 => rfl | 3 => rfl).trans ?_
    have hi : idx_main_v39 (ix4 0 e d s) = ix3 e d s := funext fun a => by match a with | 0 => rfl | 1 => rfl | 2 => rfl
    rw [val_main_v39_apply, hi, val_main_v36_apply, val_main_v35_apply]
    exact (congrArg x5 (prev_idx e d s)).trans (stackOf_zero x0 x1 x2 x3 x5 3592 (by decide) e d s).symm
  | 1 =>
    refine (concatenate_pair_apply_right (t := S2x4x512x4096) (s₁ := S1x4x512x4096) (s₂ := S1x4x512x4096) (0 : Fin 4) _ _ _ _ rfl rfl (ix4 0 e d s) (fun b hb => by
      match b with | 0 => exact absurd rfl hb | 1 => rfl | 2 => rfl | 3 => rfl) rfl).trans ?_
    have hi : idx_main_v40 (ix4 0 e d s) = ix3 e d s := funext fun a => by match a with | 0 => rfl | 1 => rfl | 2 => rfl
    rw [val_main_v40_apply, hi, val_main_v38_apply, val_main_v37_apply, v23_eq]
    exact (congrArg (flatOf x0 x1 x2 x3 3592 512 (by decide)) (turn_idx e d s)).trans (stackOf_one x0 x1 x2 x3 x5 3592 (by decide) e d s).symm

end Ref

theorem algebraic : Cert.algebraic_Kernel4Ideal_Reference4Ideal := by
  intro m g m' g' _ hm
  refine ⟨fun c => flatOf (aX m c) (aG m c) (aW m c) (aB m c) 0 1536 (by decide), fun c => flatOf (aX m c) (aG m c) (aW m c) (aB m c) 1536 1024 (by decide), fun c => flatOf (aX m c) (aG m c) (aW m c) (aB m c) 2568 512 (by decide), fun c => stackOf (aX m c) (aG m c) (aW m c) (aB m c) (aK m c) 3080 (by decide), fun c => flatOf (aX m c) (aG m c) (aW m c) (aB m c) 3080 512 (by decide), fun c => stackOf (aX m c) (aG m c) (aW m c) (aB m c) (aV m c) 3592 (by decide), fun c => flatOf (aX m c) (aG m c) (aW m c) (aB m c) 3592 512 (by decide), fun c => flatOf (aX m c) (aG m c) (aW m c) (aB m c) 4104 512 (by decide), fun c => gatesOf (aX m c) (aG m c) (aW m c) (aB m c),
    (θ_run Cert.Kernel4Ideal.defs _ _).mono (fun r h c => ?_) (Cert.Kernel4Ideal.Value.run_blocks (F := Ideal) m g),
    (θ_run Cert.Reference4Ideal.defs _ _).mono (fun r h c => ?_) (Cert.Reference4Ideal.Value.run (F := Ideal) m' g')⟩
  · obtain ⟨h0, h1, h2, h3, h4, h5, h6, h7, h8, hk⟩ := h c
    exact ⟨h0.trans (arr4 m c), h1.trans (arr5 m c), h2.trans (arr6 m c), h3.trans (arr7 m c), h4.trans (arr8 m c), h5.trans (arr9 m c), h6.trans (arr10 m c), h7.trans (arr11 m c), h8.trans (arr12 m c), hk⟩
  · obtain ⟨e0, e1, e2, e3, e4, e5⟩ := hm c
    obtain ⟨h0, h1, h2, h3, h4, h5, h6, h7, h8, hk⟩ := h c
    refine ⟨h0.trans ?_, h1.trans ?_, h2.trans ?_, h3.trans ?_, h4.trans ?_, h5.trans ?_, h6.trans ?_, h7.trans ?_, h8.trans ?_, hk⟩
    · refine (val_main_v18_eq _ _ _ _).trans ?_; rw [e0, e1, e2, e3]; exact v18_eq (aX m c) (aG m c) (aW m c) (aB m c)
    · refine (val_main_v19_eq _ _ _ _).trans ?_; rw [e0, e1, e2, e3]; exact v19_eq (aX m c) (aG m c) (aW m c) (aB m c)
    · refine (val_main_v42_eq _ _ _ _).trans ?_; rw [e0, e1, e2, e3]; exact v21_eq (aX m c) (aG m c) (aW m c) (aB m c)
    · refine (val_main_v34_eq _ _ _ _ _).trans ?_; rw [e0, e1, e2, e3, e4]; exact v34_eq (aX m c) (aG m c) (aW m c) (aB m c) (aK m c)
    · refine (val_main_v43_eq _ _ _ _).trans ?_; rw [e0, e1, e2, e3]; exact v22_eq (aX m c) (aG m c) (aW m c) (aB m c)
    · refine (val_main_v41_eq _ _ _ _ _).trans ?_; rw [e0, e1, e2, e3, e5]; exact v41_eq (aX m c) (aG m c) (aW m c) (aB m c) (aV m c)
    · refine (val_main_v44_eq _ _ _ _).trans ?_; rw [e0, e1, e2, e3]; exact v23_eq (aX m c) (aG m c) (aW m c) (aB m c)
    · refine (val_main_v24_eq _ _ _ _).trans ?_; rw [e0, e1, e2, e3]; exact v24_eq (aX m c) (aG m c) (aW m c) (aB m c)
    · refine (val_main_v27_eq _ _ _ _).trans ?_; rw [e0, e1, e2, e3]; exact v27_eq (aX m c) (aG m c) (aW m c) (aB m c)

end Cert.Agree4

end
-- ==== Proof.Sample.lean ====
/-
  The rows of the sample batch: the batch's 32 sequences of 4 steps, flattened to 128 rows, and what a reshape of them
  reads.
-/
module

public import proofs.«01_k».proof.Proof.Dense

@[expose] public section

noncomputable section

namespace Cert.Sample

open Idealize Idealize.ShloMosaic

/-- The sequence and the step of a row. -/
def batchOf (R : Fin 128) : Fin 32 := ⟨R.val / 4, by omega⟩
def stepOf (R : Fin 128) : Fin 4 := ⟨R.val % 4, by omega⟩

/-- Where column `d` of row `R` lies in the batch. -/
def atFlat (R : Fin 128) (d : Fin 1024) : (⟨3, ![32, 4, 1024]⟩ : Shape).Idx := ix3 (batchOf R) (stepOf R) d

/-- The flattened batch, at one element. -/
theorem cast_flat (f : (⟨3, ![32, 4, 1024]⟩ : Shape).Idx → EReal)
    (h : (⟨3, ![32, 4, 1024]⟩ : Shape).ShapeCasts ⟨2, ![128, 1024]⟩) (R : Fin 128) (d : Fin 1024) :
    shapeCast ⟨2, ![128, 1024]⟩ f h (ix2 R d) = f (atFlat R d) :=
  shapeCast_apply f h (ix2 R d) (atFlat R d) (by
    rw [Shape.rowMajor_val_three, Shape.rowMajor_val_two]
    show (R.val / 4 * 4 + R.val % 4) * 1024 + d.val = R.val * 1024 + d.val
    omega)

end Cert.Sample

end
-- ==== Proof.OutProjSample.lean ====
/-
  The last out-projection of the sample batch: the kernel's array and the reference's, read at one element, and their equality.
-/
module

public import proofs.«01_k».proof.Proof.Sample
public import proofs.«01_k».proof.Proof.Gen.Kernel8Ideal.Value
public import proofs.«01_k».proof.Proof.Gen.Reference8Ideal.Run
public import proofs.«01_k».proof.Proof.Gen.Reference8Ideal.Read
public import proofs.«01_k».proof.Defs

@[expose] public section

set_option maxRecDepth 16384

noncomputable section

namespace Cert.Kernel8Ideal.Hand

open Idealize.ShloMosaic Idealize.ShloMosaic.TcCoe
open Idealize.SL Idealize.SL.Sem
open Cert.Kernel8Ideal Cert.Kernel8Ideal.Gen Cert.Sample
open Cert.Dense (normed rootOf cast_line)

/-! ## One block -/

theorem pay_apply (a : Vec Ideal S128x1024 .f32) (w : Vec Ideal S1024x1024 .bf16) (x : Vec Ideal S128x1024 .f32) (g : Vec Ideal S1x1024 .f32)
    (r : Fin 128) (n : Fin 1024) :
    k0_pay1 a w x g (ix2 r n)
      = normed (fun n => x (ix2 r n) + ∑ k : Fin 1024, a (ix2 r k) * w (ix2 k n)) (fun n => g (ix2 0 n)) n := by
  unfold normed rootOf
  pointwise [k0_pay1]

variable (m : (ℓ : Loc nD τ sig) → Buf (Elt Ideal) ℓ) (ρ : Dev nD → PrngReg)

/-! ## What the host prepares -/

/-- The arguments, as arrays of extended reals. -/
def aX (c : Dev nD) : S32x4x1024.Idx → EReal := m ((c : Thread nD τ).loc main_arg0)
def aO (c : Dev nD) : S32x4x1024.Idx → EReal := m ((c : Thread nD τ).loc main_arg1)
def aW (c : Dev nD) : S1024x1024.Idx → EReal := m ((c : Thread nD τ).loc main_arg2)
def aG (c : Dev nD) : S1024.Idx → EReal := m ((c : Thread nD τ).loc main_arg3)

theorem V_x (c : Dev nD) : V m c main_v0 = shapeCast S128x1024 (aX m c) shapeCasts_S32x4x1024_S128x1024 := by
  unfold_abbrev_sides
  after_results
  rfl

theorem V_o (c : Dev nD) : V m c main_v1 = shapeCast S128x1024 (aO m c) shapeCasts_S32x4x1024_S128x1024 := by
  unfold_abbrev_sides
  after_results
  rfl

theorem V_w (c : Dev nD) : V m c main_v2 = aW m c := by
  unfold_abbrev_sides
  after_results
  rfl

theorem V_g (c : Dev nD) : V m c main_v3 = shapeCast S1x1024 (aG m c) shapeCasts_S1024_S1x1024 := by
  unfold_abbrev_sides
  after_results
  rfl

/-! ## The windows' places -/

theorem place_row (i : grid0.Coords) : cc0_transform_0 i = ![0, 0] := by
  revert i; decide +kernel

theorem place_none (i : grid0.Coords) : cc0_transform_2 i = ![0, 0] := by
  revert i; decide +kernel

section Place

variable (t : Fin cfg0.N)

theorem emb_0 (r : Fin 128) (d : Fin 1024) : ((cfg0.win 0).blk t).view.emb (ix2 r d) = (ix2 r d : S128x1024.Idx) := by
  have e : win0_0.index t = ![0, 0] := place_row (grid0.coords t)
  have h : ∀ a : Fin 2, win0_0.index t a * win0_0.size a + ((ix2 r d : S128x1024.Idx) a).val = ((ix2 r d : S128x1024.Idx) a).val := by
    intro a; rw [e]
    match a with
    | 0 => show 0 * 128 + r.val = r.val; omega
    | 1 => show 0 * 1024 + d.val = d.val; omega
  funext a
  refine Fin.ext ?_
  blk_simp
  exact h a

theorem emb_1 (r : Fin 128) (d : Fin 1024) : ((cfg0.win 1).blk t).view.emb (ix2 r d) = (ix2 r d : S128x1024.Idx) := emb_0 t r d

theorem emb_4 (r : Fin 128) (d : Fin 1024) : ((cfg0.win 4).blk t).view.emb (ix2 r d) = (ix2 r d : S128x1024.Idx) := emb_0 t r d

theorem emb_2 (k n : Fin 1024) : ((cfg0.win 2).blk t).view.emb (ix2 k n) = (ix2 k n : S1024x1024.Idx) := by
  have e : win0_2.index t = ![0, 0] := place_none (grid0.coords t)
  have h : ∀ a : Fin 2, win0_2.index t a * win0_2.size a + ((ix2 k n : S1024x1024.Idx) a).val = ((ix2 k n : S1024x1024.Idx) a).val := by
    intro a; rw [e]
    match a with
    | 0 => show 0 * 1024 + k.val = k.val; omega
    | 1 => show 0 * 1024 + n.val = n.val; omega
  funext a
  refine Fin.ext ?_
  blk_simp
  exact h a

theorem emb_3 (d : Fin 1024) : ((cfg0.win 3).blk t).view.emb (ix2 0 d) = (ix2 0 d : S1x1024.Idx) := by
  have e : win0_3.index t = ![0, 0] := place_none (grid0.coords t)
  have h : ∀ a : Fin 2, win0_3.index t a * win0_3.size a + ((ix2 0 d : S1x1024.Idx) a).val = ((ix2 0 d : S1x1024.Idx) a).val := by
    intro a; rw [e]
    match a with
    | 0 => show 0 * 1 + 0 = 0; omega
    | 1 => show 0 * 1024 + d.val = d.val; omega
  funext a
  refine Fin.ext ?_
  blk_simp
  exact h a

end Place

/-! ## The staged blocks, at one element -/

theorem x_block (c : Dev nD) (t : Fin cfg0.N) (r : Fin 128) (d : Fin 1024) : iblk m c 0 t (ix2 r d) = aX m c (atFlat r d) :=
  (congrArg (V m c main_v0) (emb_0 t r d)).trans ((congrFun (V_x m c) _).trans (cast_flat _ _ _ _))

theorem o_block (c : Dev nD) (t : Fin cfg0.N) (r : Fin 128) (d : Fin 1024) : iblk m c 1 t (ix2 r d) = aO m c (atFlat r d) :=
  (congrArg (V m c main_v1) (emb_1 t r d)).trans ((congrFun (V_o m c) _).trans (cast_flat _ _ _ _))

theorem w_block (c : Dev nD) (t : Fin cfg0.N) (k n : Fin 1024) : iblk m c 2 t (ix2 k n) = aW m c (ix2 k n) :=
  (congrArg (V m c main_v2) (emb_2 t k n)).trans (congrFun (V_w m c) _)

theorem g_block (c : Dev nD) (t : Fin cfg0.N) (d : Fin 1024) : iblk m c 3 t (ix2 0 d) = aG m c (ix1 d) :=
  (congrArg (V m c main_v3) (emb_3 t d)).trans ((congrFun (V_g m c) _).trans (cast_line _ _ d))

/-! ## The whole array -/

/-- A row of the residual stream after the out-projection. -/
def sumRow (x o : S32x4x1024.Idx → EReal) (w : S1024x1024.Idx → EReal) (R : Fin 128) (n : Fin 1024) : EReal :=
  x (atFlat R n) + ∑ k : Fin 1024, o (atFlat R k) * w (ix2 k n)

/-- The result, at one element. -/
def outAt (x o : S32x4x1024.Idx → EReal) (w : S1024x1024.Idx → EReal) (g : S1024.Idx → EReal) (R : Fin 128) (n : Fin 1024) : EReal :=
  normed (sumRow x o w R) (fun d => g (ix1 d)) n

def out (c : Dev nD) : S128x1024.Idx → EReal := fun j => outAt (aX m c) (aO m c) (aW m c) (aG m c) (j 0) (j 1)

theorem zeros : (![0, 0] : Fin 2 → ℕ) = fun _ => 0 := by funext a; match a with | 0 => rfl | 1 => rfl

theorem point (c : Dev nD) (t : Fin cfg0.N) (r : Fin 128) (n : Fin 1024) :
    out0_4 (iblk m c 0 t) (iblk m c 1 t) (iblk m c 2 t) (iblk m c 3 t) (ix2 r n) = out m c (ix2 r n) := by
  unfold out0_4
  rw [View.canon_unit_zero zeros, View.ld_unit_zero zeros, View.ld_unit_zero zeros, View.ld_unit_zero zeros, View.ld_unit_zero zeros]
  refine (pay_apply _ _ _ _ r n).trans ?_
  show _ = outAt (aX m c) (aO m c) (aW m c) (aG m c) r n
  unfold outAt
  congr 1
  · funext n'
    rw [x_block]
    unfold sumRow
    congr 1
    exact Finset.sum_congr rfl fun k _ => by rw [o_block, w_block]
  · funext d
    exact g_block m c t d

theorem array_eq (c : Dev nD) : (dats m 0 c).arrAt 4 cfg0.N = out m c := by
  refine (dats m 0 c).arrAt_eq_of_covers 4 (out m c)
    ((cfg0.win 4).covers_of_indexMap_surj rfl (by decide) fun β => ⟨fun | 0 => β 0, fun a => ?_⟩) fun t ht y => ?_
  · have e := place_row (fun | 0 => β 0 : grid0.Coords)
    refine (congrFun e a).trans ?_
    match a with
    | 0 => exact (Nat.lt_one_iff.mp (β 0).isLt).symm
    | 1 => exact (Nat.lt_one_iff.mp (β 1).isLt).symm
  · obtain ⟨r, n, rfl⟩ : ∃ (r : Fin 128) (n : Fin 1024), y = ix2 r n := ⟨y 0, y 1, eq_ix2 y⟩
    refine (congrFun (Cert.Kernel8Ideal.Value.flushed4 m c t) (ix2 r n)).trans ?_
    refine Eq.trans ?_ ((point m c t r n).trans (congrArg (out m c) (emb_4 t r n).symm))
    rfl

end Cert.Kernel8Ideal.Hand

namespace Cert.Agree8

open Idealize.ShloMosaic Idealize.ShloMosaic.TcCoe
open Idealize.SL Idealize.SL.Sem
open Cert.Dense (normed rootOf zero_bits_add)
open Cert.Sample Cert.Reference8Ideal Cert.Reference8Ideal.Read Cert.Kernel8Ideal.Hand

/-! ## The reference -/

theorem sum_at (x0 x1 : S32x4x1024.Idx → EReal) (x2 : S1024x1024.Idx → EReal) (R : Fin 128) (n : Fin 1024) :
    val_main_v1 (F := Ideal) x0 x1 x2 (atFlat R n) = sumRow x0 x1 x2 R n := by
  have hl : ∀ k : Fin 1024, lidx_main_v0 (atFlat R n) k = atFlat R k := fun k => funext fun a => by match a with | 0 => rfl | 1 => rfl | 2 => rfl
  have hr : ∀ k : Fin 1024, ridx_main_v0 (atFlat R n) k = ix2 k n := fun k => funext fun a => by match a with | 0 => rfl | 1 => rfl
  rw [val_main_v1_apply, val_main_v0_apply]
  unfold sumRow
  exact congrArg (x0 (atFlat R n) + ·) (Finset.sum_congr rfl fun k _ => by rw [hl, hr])

theorem root_at (x0 x1 : S32x4x1024.Idx → EReal) (x2 : S1024x1024.Idx → EReal) (R : Fin 128) (n : Fin 1024) :
    val_main_v10 (F := Ideal) x0 x1 x2 (atFlat R n) = rootOf (sumRow x0 x1 x2 R) := by
  have e : val_main_v3 (F := Ideal) x0 x1 x2 (ix2 (batchOf R) (stepOf R)) = ∑ d : Fin 1024, sumRow x0 x1 x2 R d * sumRow x0 x1 x2 R d := by
    rw [val_main_v3_apply, val_main_cst_apply]
    refine (zero_bits_add _).trans (Finset.sum_congr rfl fun d _ => ?_)
    have hi : idx_main_v3 (ix2 (batchOf R) (stepOf R)) d = atFlat R d := funext fun a => by match a with | 0 => rfl | 1 => rfl | 2 => rfl
    rw [hi, val_main_v2_apply]
    exact congrArg₂ (· * ·) (sum_at x0 x1 x2 R d) (sum_at x0 x1 x2 R d)
  have hi : idx_main_v4 (idx_main_v10 (atFlat R n)) = ix2 (batchOf R) (stepOf R) := funext fun a => by match a with | 0 => rfl | 1 => rfl
  rw [val_main_v10_apply, val_main_v9_apply, val_main_v8_apply, val_main_v6_apply, val_main_v4_apply, val_main_v7_apply, val_main_v5_apply,
    val_main_cst_0_apply, val_main_cst_1_apply, hi]
  exact congrArg (fun u => Ideal.rsqrt (Ideal.div u (Ideal.ofBits .f32 0x44800000#32) + Ideal.ofBits .f32 0x358637BD#32)) e

theorem val_at (x0 x1 : S32x4x1024.Idx → EReal) (x2 : S1024x1024.Idx → EReal) (x3 : S1024.Idx → EReal) :
    val_main_v15 (F := Ideal) x0 x1 x2 x3 = fun j => outAt x0 x1 x2 x3 (j 0) (j 1) := by
  funext j
  obtain ⟨R, n, rfl⟩ : ∃ (R : Fin 128) (n : Fin 1024), j = ix2 R n := ⟨j 0, j 1, eq_ix2 j⟩
  have ej : idx_main_v15 (ix2 R n) = atFlat R n := by
    funext a; refine Fin.ext ?_
    match a with
    | 0 => show (R.val * 1024 + n.val) / 4096 = R.val / 4; omega
    | 1 => show (R.val * 1024 + n.val) / 1024 % 4 = R.val % 4; omega
    | 2 => show (R.val * 1024 + n.val) % 1024 = n.val; omega
  have eg : idx_main_v12 (idx_main_v13 (atFlat R n)) = ix1 n := funext fun a => by match a with | 0 => rfl
  rw [val_main_v15_apply, ej, val_main_v14_apply, val_main_v11_apply, val_main_v13_apply, val_main_v12_apply, eg]
  exact congrArg₂ (· * ·) (congrArg₂ (· * ·) (sum_at x0 x1 x2 R n) (root_at x0 x1 x2 R n)) rfl

theorem algebraic : Cert.algebraic_Kernel8Ideal_Reference8Ideal := by
  intro m g m' g' _ hm
  refine ⟨fun c => out m c, (θ_run Cert.Kernel8Ideal.defs _ _).mono
      (fun r h c => ⟨(h c).1.trans (array_eq m c), (h c).2⟩) (Cert.Kernel8Ideal.Value.run_blocks (F := Ideal) m g),
    (θ_run Cert.Reference8Ideal.defs _ _).mono (fun r h c => ⟨(h c).1.trans ?_, (h c).2⟩) (Cert.Reference8Ideal.Value.run (F := Ideal) m' g')⟩
  obtain ⟨e0, e1, e2, e3⟩ := hm c
  refine (Cert.Reference8Ideal.Read.val_main_v15_eq _ _ _ _).trans ?_
  rw [e0, e1, e2, e3]
  exact val_at (aX m c) (aO m c) (aW m c) (aG m c)

end Cert.Agree8

end
-- ==== Proof.ProjOddSample.lean ====
/-
  The projections of the differential-attention layers, on the sample batch: the kernel's arrays and the reference's, read
  at one element, and their equality.
-/
module

public import proofs.«01_k».proof.Proof.Sample
public import proofs.«01_k».proof.Proof.Gen.Kernel9Ideal.Value
public import proofs.«01_k».proof.Proof.Gen.Reference9Ideal.Run
public import proofs.«01_k».proof.Proof.Gen.Reference9Ideal.Read
public import proofs.«01_k».proof.Defs

@[expose] public section

set_option maxRecDepth 16384

noncomputable section

namespace Cert.Kernel9Ideal.Hand

open Idealize.ShloMosaic Idealize.ShloMosaic.TcCoe
open Idealize.SL Idealize.SL.Sem
open Cert.Kernel9Ideal Cert.Kernel9Ideal.Gen Cert.Sample
open Cert.Dense (normed rootOf cast_line)

/-! ## The block -/

theorem norm_apply (x : Vec Ideal S128x1024 .f32) (g : Vec Ideal S1x1024 .f32) (r : Fin 128) (n : Fin 1024) :
    k0_pay2 x g (ix2 r n) = normed (fun n => x (ix2 r n)) (fun n => g (ix2 0 n)) n := by
  unfold normed rootOf
  pointwise [k0_pay2]

/-- A column of the product with one of the four parts of the weights. -/
theorem dot_apply (x : FVec Ideal S128x1024 .bf16) (w : FVec Ideal S1024x1024 .bf16) (r : Fin 128) (n : Fin 1024) :
    k0_pay1 x w (constant S128x1024 .f32 0x00000000#32) (ix2 r n) = ∑ k : Fin 1024, x (ix2 r k) * w (ix2 k n) := by
  pointwise [k0_pay1]

theorem z2 : (![0, 0] : Fin 2 → ℕ) = fun _ => 0 := by funext a; match a with | 0 => rfl | 1 => rfl

section Outs
variable (x : Vec Ideal S128x1024 .f32) (g : Vec Ideal S1x1024 .f32) (w : Vec Ideal S1024x4096 .bf16)

/-- A column of the product of the normed rows with the weights. -/
def colOf (r : Fin 128) (n : Fin 4096) : EReal :=
  ∑ k : Fin 1024, normed (fun d => x (ix2 r d)) (fun d => g (ix2 0 d)) k * w (ix2 k n)

/-- Column `n` of the `j`-th part of the weights. -/
def colIn (j : Fin 4) (n : Fin 1024) : Fin 4096 := ⟨1024 * j.val + n.val, by omega⟩

theorem part_dot (j : Fin 4) (off : Fin 2 → ℕ) (ho : off = ![0, 1024 * j.val]) (inb) (r : Fin 128) (n : Fin 1024) :
    k0_pay1 (k0_pay2 x g) (View.ld w (Rect.unit off S1024x1024.size inb)) (constant S128x1024 .f32 0x00000000#32) (ix2 r n) = colOf x g w r (colIn j n) := by
  refine (dot_apply _ _ r n).trans (Finset.sum_congr rfl fun k _ => congrArg₂ (· * ·) (norm_apply x g r k) ?_)
  refine View.ld_unit_apply_of w off _ inb (ix2 k n) (ix2 k (colIn j n)) fun a => ?_
  subst ho
  match a with
  | 0 => show k.val = 0 + k.val; omega
  | 1 => rfl

theorem out3_at (r : Fin 128) (n : Fin 1024) : out0_3 x g w (ix2 r n) = colOf x g w r (colIn 0 n) := by
  unfold out0_3
  rw [View.canon_unit_zero z2, View.ld_unit_zero (S := S128x1024) z2, View.ld_unit_zero (S := S1x1024) z2]
  refine Eq.trans ?_ (part_dot x g w 0 _ rfl inb_S1024x4096_S1024x1024_0_0 r n)
  unfold k0_pay3 k0_pay1; simp only [shapeCast_self]; rfl

theorem out4_at (r : Fin 128) (n : Fin 1024) : out0_4 x g w (ix2 r n) = colOf x g w r (colIn 1 n) := by
  unfold out0_4
  rw [View.canon_unit_zero z2, View.ld_unit_zero (S := S128x1024) z2, View.ld_unit_zero (S := S1x1024) z2]
  refine Eq.trans ?_ (part_dot x g w 1 _ rfl inb_S1024x4096_S1024x1024_0_1024 r n)
  unfold k0_pay4 k0_pay1; simp only [shapeCast_self]; rfl

theorem out5_at (r : Fin 128) (n : Fin 1024) : out0_5 x g w (ix2 r n) = colOf x g w r (colIn 2 n) := by
  unfold out0_5
  rw [View.canon_unit_zero z2, View.ld_unit_zero (S := S128x1024) z2, View.ld_unit_zero (S := S1x1024) z2]
  refine Eq.trans ?_ (part_dot x g w 2 _ rfl inb_S1024x4096_S1024x1024_0_2048 r n)
  unfold k0_pay5 k0_pay1; simp only [shapeCast_self]; rfl

theorem out6_at (r : Fin 128) (n : Fin 1024) : out0_6 x g w (ix2 r n) = colOf x g w r (colIn 3 n) := by
  unfold out0_6
  rw [View.canon_unit_zero z2, View.ld_unit_zero (S := S128x1024) z2, View.ld_unit_zero (S := S1x1024) z2]
  refine Eq.trans ?_ (part_dot x g w 3 _ rfl inb_S1024x4096_S1024x1024_0_3072 r n)
  unfold k0_pay6; simp only [shapeCast_self]; rfl

end Outs

variable (m : (ℓ : Loc nD τ sig) → Buf (Elt Ideal) ℓ) (ρ : Dev nD → PrngReg)

/-! ## What the host prepares -/

/-- The arguments, as arrays of extended reals. -/
def aX (c : Dev nD) : S32x4x1024.Idx → EReal := m ((c : Thread nD τ).loc main_arg0)
def aG (c : Dev nD) : S1024.Idx → EReal := m ((c : Thread nD τ).loc main_arg1)
def aW (c : Dev nD) : S1024x4096.Idx → EReal := m ((c : Thread nD τ).loc main_arg2)

theorem V_x (c : Dev nD) : V m c main_v0 = shapeCast S128x1024 (aX m c) shapeCasts_S32x4x1024_S128x1024 := by
  unfold_abbrev_sides
  after_results
  rfl

theorem V_w (c : Dev nD) : V m c main_v1 = aW m c := by
  unfold_abbrev_sides
  after_results
  rfl

theorem V_g (c : Dev nD) : V m c main_v2 = shapeCast S1x1024 (aG m c) shapeCasts_S1024_S1x1024 := by
  unfold_abbrev_sides
  after_results
  rfl

/-! ## The windows' places: the grid has one point, and every window is a whole array -/

theorem place_row (i : grid0.Coords) : cc0_transform_0 i = ![0, 0] := by
  revert i; decide +kernel

theorem place_none (i : grid0.Coords) : cc0_transform_1 i = ![0, 0] := by
  revert i; decide +kernel

section Place

variable (t : Fin cfg0.N)

theorem emb_0 (r : Fin 128) (d : Fin 1024) : ((cfg0.win 0).blk t).view.emb (ix2 r d) = (ix2 r d : S128x1024.Idx) := by
  have e : win0_0.index t = ![0, 0] := place_row (grid0.coords t)
  have h : ∀ e : Fin 2, win0_0.index t e * win0_0.size e + ((ix2 r d : S128x1024.Idx) e).val = ((ix2 r d : S128x1024.Idx) e).val := by
    intro e'; rw [e]
    match e' with
    | 0 => show 0 * 128 + r.val = r.val; omega
    | 1 => show 0 * 1024 + d.val = d.val; omega
  funext e'
  refine Fin.ext ?_
  blk_simp
  exact h e'

theorem emb_1 (k : Fin 1) (n : Fin 1024) : ((cfg0.win 1).blk t).view.emb (ix2 k n) = (ix2 k n : S1x1024.Idx) := by
  have e : win0_1.index t = ![0, 0] := place_none (grid0.coords t)
  have h : ∀ e : Fin 2, win0_1.index t e * win0_1.size e + ((ix2 k n : S1x1024.Idx) e).val = ((ix2 k n : S1x1024.Idx) e).val := by
    intro e'; rw [e]
    match e' with
    | 0 => show 0 * 1 + k.val = k.val; omega
    | 1 => show 0 * 1024 + n.val = n.val; omega
  funext e'
  refine Fin.ext ?_
  blk_simp
  exact h e'

theorem emb_2 (k : Fin 1024) (n : Fin 4096) : ((cfg0.win 2).blk t).view.emb (ix2 k n) = (ix2 k n : S1024x4096.Idx) := by
  have e : win0_2.index t = ![0, 0] := place_none (grid0.coords t)
  have h : ∀ e : Fin 2, win0_2.index t e * win0_2.size e + ((ix2 k n : S1024x4096.Idx) e).val = ((ix2 k n : S1024x4096.Idx) e).val := by
    intro e'; rw [e]
    match e' with
    | 0 => show 0 * 1024 + k.val = k.val; omega
    | 1 => show 0 * 4096 + n.val = n.val; omega
  funext e'
  refine Fin.ext ?_
  blk_simp
  exact h e'

end Place

/-! ## The staged blocks, at one element -/

theorem x_block (c : Dev nD) (t : Fin cfg0.N) (r : Fin 128) (d : Fin 1024) : iblk m c 0 t (ix2 r d) = aX m c (atFlat r d) :=
  (congrArg (V m c main_v0) (emb_0 t r d)).trans ((congrFun (V_x m c) _).trans (cast_flat _ _ _ _))

theorem g_block (c : Dev nD) (t : Fin cfg0.N) (d : Fin 1024) : iblk m c 1 t (ix2 0 d) = aG m c (ix1 d) :=
  (congrArg (V m c main_v2) (emb_1 t 0 d)).trans ((congrFun (V_g m c) _).trans (cast_line _ _ d))

theorem w_block (c : Dev nD) (t : Fin cfg0.N) (k : Fin 1024) (n : Fin 4096) : iblk m c 2 t (ix2 k n) = aW m c (ix2 k n) :=
  (congrArg (V m c main_v1) (emb_2 t k n)).trans (congrFun (V_w m c) _)

/-! ## The whole arrays -/

/-- Column `n` of the projection of row `R`. -/
def projAt (x : S32x4x1024.Idx → EReal) (g : S1024.Idx → EReal) (w : S1024x4096.Idx → EReal) (R : Fin 128) (n : Fin 4096) : EReal :=
  ∑ k : Fin 1024, normed (fun d => x (atFlat R d)) (fun d => g (ix1 d)) k * w (ix2 k n)

/-- The `j`-th part of the projection, as an array. -/
def flatOf (x : S32x4x1024.Idx → EReal) (g : S1024.Idx → EReal) (w : S1024x4096.Idx → EReal) (j : Fin 4) : S128x1024.Idx → EReal :=
  fun i => projAt x g w (i 0) (colIn j (i 1))

theorem col_block (c : Dev nD) (t : Fin cfg0.N) (r : Fin 128) (n : Fin 4096) :
    colOf (iblk m c 0 t) (iblk m c 1 t) (iblk m c 2 t) r n = projAt (aX m c) (aG m c) (aW m c) r n := by
  unfold colOf projAt
  have hx : (fun d => iblk m c 0 t (ix2 r d)) = fun d => aX m c (atFlat r d) := funext fun d => x_block m c t r d
  have hg : (fun d => iblk m c 1 t (ix2 0 d)) = fun d => aG m c (ix1 d) := funext fun d => g_block m c t d
  refine Finset.sum_congr rfl fun k _ => congrArg₂ (· * ·) ?_ (w_block m c t k n)
  exact congrArg₂ (fun u v => normed u v k) hx hg

theorem covers3 : (cfg0.win 3).Covers :=
  (cfg0.win 3).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr3 (c : Dev nD) : (dats m 0 c).arrAt 3 cfg0.N = flatOf (aX m c) (aG m c) (aW m c) 0 := by
  refine (dats m 0 c).arrAt_eq_of_covers 3 (flatOf (aX m c) (aG m c) (aW m c) 0) covers3 fun t ht y => ?_
  obtain ⟨r, n, rfl⟩ : ∃ (r : Fin 128) (n : Fin 1024), y = ix2 r n := ⟨y 0, y 1, eq_ix2 y⟩
  refine (congrFun (Cert.Kernel9Ideal.Value.flushed3 m c t) (ix2 r n)).trans ?_
  refine Eq.trans ?_ (((out3_at _ _ _ r n).trans (col_block m c t r _)).trans (congrArg (flatOf (aX m c) (aG m c) (aW m c) 0) (emb_0 t r n).symm))
  rfl

theorem covers4 : (cfg0.win 4).Covers :=
  (cfg0.win 4).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr4 (c : Dev nD) : (dats m 0 c).arrAt 4 cfg0.N = flatOf (aX m c) (aG m c) (aW m c) 1 := by
  refine (dats m 0 c).arrAt_eq_of_covers 4 (flatOf (aX m c) (aG m c) (aW m c) 1) covers4 fun t ht y => ?_
  obtain ⟨r, n, rfl⟩ : ∃ (r : Fin 128) (n : Fin 1024), y = ix2 r n := ⟨y 0, y 1, eq_ix2 y⟩
  refine (congrFun (Cert.Kernel9Ideal.Value.flushed4 m c t) (ix2 r n)).trans ?_
  refine Eq.trans ?_ (((out4_at _ _ _ r n).trans (col_block m c t r _)).trans (congrArg (flatOf (aX m c) (aG m c) (aW m c) 1) (emb_0 t r n).symm))
  rfl

theorem covers5 : (cfg0.win 5).Covers :=
  (cfg0.win 5).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr5 (c : Dev nD) : (dats m 0 c).arrAt 5 cfg0.N = flatOf (aX m c) (aG m c) (aW m c) 2 := by
  refine (dats m 0 c).arrAt_eq_of_covers 5 (flatOf (aX m c) (aG m c) (aW m c) 2) covers5 fun t ht y => ?_
  obtain ⟨r, n, rfl⟩ : ∃ (r : Fin 128) (n : Fin 1024), y = ix2 r n := ⟨y 0, y 1, eq_ix2 y⟩
  refine (congrFun (Cert.Kernel9Ideal.Value.flushed5 m c t) (ix2 r n)).trans ?_
  refine Eq.trans ?_ (((out5_at _ _ _ r n).trans (col_block m c t r _)).trans (congrArg (flatOf (aX m c) (aG m c) (aW m c) 2) (emb_0 t r n).symm))
  rfl

theorem covers6 : (cfg0.win 6).Covers :=
  (cfg0.win 6).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr6 (c : Dev nD) : (dats m 0 c).arrAt 6 cfg0.N = flatOf (aX m c) (aG m c) (aW m c) 3 := by
  refine (dats m 0 c).arrAt_eq_of_covers 6 (flatOf (aX m c) (aG m c) (aW m c) 3) covers6 fun t ht y => ?_
  obtain ⟨r, n, rfl⟩ : ∃ (r : Fin 128) (n : Fin 1024), y = ix2 r n := ⟨y 0, y 1, eq_ix2 y⟩
  refine (congrFun (Cert.Kernel9Ideal.Value.flushed6 m c t) (ix2 r n)).trans ?_
  refine Eq.trans ?_ (((out6_at _ _ _ r n).trans (col_block m c t r _)).trans (congrArg (flatOf (aX m c) (aG m c) (aW m c) 3) (emb_0 t r n).symm))
  rfl

end Cert.Kernel9Ideal.Hand

namespace Cert.Agree9

open Idealize.ShloMosaic Idealize.ShloMosaic.TcCoe
open Idealize.SL Idealize.SL.Sem
open Cert.Dense (normed rootOf zero_bits_add)
open Cert.Sample Cert.Reference9Ideal Cert.Reference9Ideal.Read Cert.Kernel9Ideal.Hand

/-! ## The reference -/

section Ref

variable (x0 : S32x4x1024.Idx → EReal) (x1 : S1024.Idx → EReal) (x2 : S1024x4096.Idx → EReal)

theorem root_at (R : Fin 128) (n : Fin 1024) :
    val_main_v8 (F := Ideal) x0 (atFlat R n) = rootOf fun d => x0 (atFlat R d) := by
  have e : val_main_v1 (F := Ideal) x0 (ix2 (batchOf R) (stepOf R)) = ∑ d : Fin 1024, x0 (atFlat R d) * x0 (atFlat R d) := by
    rw [val_main_v1_apply, val_main_cst_apply]
    refine (zero_bits_add _).trans (Finset.sum_congr rfl fun d _ => ?_)
    have hi : idx_main_v1 (ix2 (batchOf R) (stepOf R)) d = atFlat R d := funext fun a => by match a with | 0 => rfl | 1 => rfl | 2 => rfl
    rw [hi, val_main_v0_apply]
    rfl
  have hi : idx_main_v2 (idx_main_v8 (atFlat R n)) = ix2 (batchOf R) (stepOf R) := funext fun a => by match a with | 0 => rfl | 1 => rfl
  rw [val_main_v8_apply, val_main_v7_apply, val_main_v6_apply, val_main_v4_apply, val_main_v2_apply, val_main_v5_apply, val_main_v3_apply,
    val_main_cst_0_apply, val_main_cst_1_apply, hi]
  exact congrArg (fun u => Ideal.rsqrt (Ideal.div u (Ideal.ofBits .f32 0x44800000#32) + Ideal.ofBits .f32 0x358637BD#32)) e

theorem norm_at (R : Fin 128) (n : Fin 1024) :
    val_main_v12 (F := Ideal) x0 x1 (atFlat R n) = normed (fun d => x0 (atFlat R d)) (fun d => x1 (ix1 d)) n := by
  have eg : idx_main_v10 (idx_main_v11 (atFlat R n)) = ix1 n := funext fun a => by match a with | 0 => rfl
  rw [val_main_v12_apply, val_main_v9_apply, val_main_v11_apply, val_main_v10_apply, eg, root_at]
  rfl

theorem proj_at (R : Fin 128) (n : Fin 4096) : val_main_v14 (F := Ideal) x0 x1 x2 (ix2 R n) = projAt x0 x1 x2 R n := by
  have ej : idx_main_v14 (ix2 R n) = ix3 (batchOf R) (stepOf R) n := by
    funext a; refine Fin.ext ?_
    match a with
    | 0 => show (R.val * 4096 + n.val) / 16384 = R.val / 4; omega
    | 1 => show (R.val * 4096 + n.val) / 4096 % 4 = R.val % 4; omega
    | 2 => show (R.val * 4096 + n.val) % 4096 = n.val; omega
  have hl : ∀ k : Fin 1024, lidx_main_v13 (ix3 (batchOf R) (stepOf R) n) k = atFlat R k := fun k => funext fun a => by match a with | 0 => rfl | 1 => rfl | 2 => rfl
  have hr : ∀ k : Fin 1024, ridx_main_v13 (ix3 (batchOf R) (stepOf R) n) k = ix2 k n := fun k => funext fun a => by match a with | 0 => rfl | 1 => rfl
  rw [val_main_v14_apply, ej, val_main_v13_apply]
  unfold projAt
  exact Finset.sum_congr rfl fun k _ => by rw [hl, hr, norm_at]

theorem v15_eq : val_main_v15 (F := Ideal) x0 x1 x2 = flatOf x0 x1 x2 0 := by
  funext i
  have e : idx_main_v15 i = ix2 (i 0) (colIn 0 (i 1)) := funext fun a => by match a with | 0 => rfl | 1 => exact Fin.ext (by show (i 1).val = 1024 * 0 + (i 1).val; omega)
  rw [val_main_v15_apply, e]; exact proj_at x0 x1 x2 (i 0) _

theorem v16_eq : val_main_v16 (F := Ideal) x0 x1 x2 = flatOf x0 x1 x2 1 := by
  funext i
  have e : idx_main_v16 i = ix2 (i 0) (colIn 1 (i 1)) := funext fun a => by match a with | 0 => rfl | 1 => rfl
  rw [val_main_v16_apply, e]; exact proj_at x0 x1 x2 (i 0) _

theorem v17_eq : val_main_v17 (F := Ideal) x0 x1 x2 = flatOf x0 x1 x2 2 := by
  funext i
  have e : idx_main_v17 i = ix2 (i 0) (colIn 2 (i 1)) := funext fun a => by match a with | 0 => rfl | 1 => rfl
  rw [val_main_v17_apply, e]; exact proj_at x0 x1 x2 (i 0) _

theorem v18_eq : val_main_v18 (F := Ideal) x0 x1 x2 = flatOf x0 x1 x2 3 := by
  funext i
  have e : idx_main_v18 i = ix2 (i 0) (colIn 3 (i 1)) := funext fun a => by match a with | 0 => rfl | 1 => rfl
  rw [val_main_v18_apply, e]; exact proj_at x0 x1 x2 (i 0) _

end Ref

theorem algebraic : Cert.algebraic_Kernel9Ideal_Reference9Ideal := by
  intro m g m' g' _ hm
  refine ⟨fun c => flatOf (aX m c) (aG m c) (aW m c) 0, fun c => flatOf (aX m c) (aG m c) (aW m c) 1, fun c => flatOf (aX m c) (aG m c) (aW m c) 2, fun c => flatOf (aX m c) (aG m c) (aW m c) 3,
    (θ_run Cert.Kernel9Ideal.defs _ _).mono (fun r h c => ?_) (Cert.Kernel9Ideal.Value.run_blocks (F := Ideal) m g),
    (θ_run Cert.Reference9Ideal.defs _ _).mono (fun r h c => ?_) (Cert.Reference9Ideal.Value.run (F := Ideal) m' g')⟩
  · obtain ⟨h0, h1, h2, h3, hk⟩ := h c
    exact ⟨h0.trans (arr3 m c), h1.trans (arr4 m c), h2.trans (arr5 m c), h3.trans (arr6 m c), hk⟩
  · obtain ⟨e0, e1, e2⟩ := hm c
    obtain ⟨h0, h1, h2, h3, hk⟩ := h c
    refine ⟨h0.trans ?_, h1.trans ?_, h2.trans ?_, h3.trans ?_, hk⟩
    · refine (val_main_v15_eq _ _ _).trans ?_; rw [e0, e1, e2]; exact v15_eq (aX m c) (aG m c) (aW m c)
    · refine (val_main_v16_eq _ _ _).trans ?_; rw [e0, e1, e2]; exact v16_eq (aX m c) (aG m c) (aW m c)
    · refine (val_main_v17_eq _ _ _).trans ?_; rw [e0, e1, e2]; exact v17_eq (aX m c) (aG m c) (aW m c)
    · refine (val_main_v18_eq _ _ _).trans ?_; rw [e0, e1, e2]; exact v18_eq (aX m c) (aG m c) (aW m c)

end Cert.Agree9

end
-- ==== Proof.ProjEvenSample.lean ====
/-
  The projections of the layers with a gated recurrence, on the sample batch: the kernel's arrays and the reference's, read
  at one element, and their equality. The reordered and padded weights and bias are those of the prompt batch.
-/
module

public import proofs.«01_k».proof.Proof.Sample
public import proofs.«01_k».proof.Proof.ProjEven
public import proofs.«01_k».proof.Proof.Gen.Kernel10Ideal.Value
public import proofs.«01_k».proof.Proof.Gen.Reference10Ideal.Run
public import proofs.«01_k».proof.Proof.Gen.Reference10Ideal.Read
public import proofs.«01_k».proof.Defs

@[expose] public section

set_option maxRecDepth 16384

noncomputable section

namespace Cert.Kernel10Ideal.Hand

open Idealize.ShloMosaic Idealize.ShloMosaic.TcCoe
open Idealize.SL Idealize.SL.Sem
open Cert.Kernel10Ideal Cert.Kernel10Ideal.Gen Cert.Sample
open Cert.Dense (normed rootOf cast_line)
open Cert.Kernel4Ideal.Hand (wCat bCat padOf wCat_apply bCat_apply padOf_low padOf_mid padOf_in padOf_out padOf_zero)

/-! ## The block -/

theorem norm_apply (x : Vec Ideal S128x1024 .f32) (g : Vec Ideal S1x1024 .f32) (r : Fin 128) (n : Fin 1024) :
    k0_pay2 x g (ix2 r n) = normed (fun n => x (ix2 r n)) (fun n => g (ix2 0 n)) n := by
  unfold normed rootOf
  pointwise [k0_pay2]

theorem dot_wide (x : Vec Ideal S128x1024 .f32) (g : Vec Ideal S1x1024 .f32) (w : Vec Ideal S1024x1536 .bf16) (b : Vec Ideal S1x1536 .f32) (r : Fin 128) (n : Fin 1536) :
    k0_pay3 x g w b (ix2 r n) = (∑ k : Fin 1024, k0_pay2 x g (ix2 r k) * w (ix2 k n)) + b (ix2 0 n) := by
  unfold k0_pay3
  generalize k0_pay2 x g = y
  pointwise

theorem dot_full (x : Vec Ideal S128x1024 .f32) (g : Vec Ideal S1x1024 .f32) (w : Vec Ideal S1024x1024 .bf16) (b : Vec Ideal S1x1024 .f32) (r : Fin 128) (n : Fin 1024) :
    k0_pay4 x g w b (ix2 r n) = (∑ k : Fin 1024, k0_pay2 x g (ix2 r k) * w (ix2 k n)) + b (ix2 0 n) := by
  unfold k0_pay4
  generalize k0_pay2 x g = y
  pointwise

theorem dot_half (y : FVec Ideal S128x1024 .bf16) (w : Vec Ideal S1024x512 .bf16) (b : Vec Ideal S1x512 .f32) (r : Fin 128) (n : Fin 512) :
    k0_pay5 y w b (ix2 r n) = (∑ k : Fin 1024, y (ix2 r k) * w (ix2 k n)) + b (ix2 0 n) := by
  pointwise [k0_pay5]

theorem dot_thin (y : FVec Ideal S128x1024 .bf16) (w : Vec Ideal S1024x128 .bf16) (b : Vec Ideal S1x128 .f32) (r : Fin 128) (n : Fin 128) :
    k0_pay1 y w b (ix2 r n) = (∑ k : Fin 1024, y (ix2 r k) * w (ix2 k n)) + b (ix2 0 n) := by
  pointwise [k0_pay1]

theorem z2 : (![0, 0] : Fin 2 → ℕ) = fun _ => 0 := by funext a; match a with | 0 => rfl | 1 => rfl

section Outs
variable (x : Vec Ideal S128x1024 .f32) (g : Vec Ideal S1x1024 .f32) (w : Vec Ideal S1024x4736 .bf16) (b : Vec Ideal S1x4736 .f32)

/-- A column of the product of the normed rows with the padded weights, and its bias. -/
def colOf (r : Fin 128) (n : Fin 4736) : EReal :=
  (∑ k : Fin 1024, normed (fun d => x (ix2 r d)) (fun d => g (ix2 0 d)) k * w (ix2 k n)) + b (ix2 0 n)

/-- What a part of the weights and of the bias, read out of the whole, gives for one column. -/
theorem part_col {W : ℕ} (off : ℕ) (hW : off + W ≤ 4736) (inb) (inb') (r : Fin 128) (n : Fin W) :
    (∑ k : Fin 1024, k0_pay2 x g (ix2 r k) * View.ld w (Rect.unit ![0, off] (⟨2, ![1024, W]⟩ : Shape).size inb) (ix2 k n))
      + View.ld b (Rect.unit ![0, off] (⟨2, ![1, W]⟩ : Shape).size inb') (ix2 0 n) = colOf x g w b r ⟨off + n.val, by omega⟩ := by
  refine congrArg₂ (· + ·) (Finset.sum_congr rfl fun k _ => congrArg₂ (· * ·) (norm_apply x g r k) ?_) ?_
  · refine View.ld_unit_apply_of w _ _ inb (ix2 k n) (ix2 k ⟨off + n.val, by omega⟩) fun a => ?_
    match a with
    | 0 => show k.val = 0 + k.val; omega
    | 1 => rfl
  · refine View.ld_unit_apply_of b _ _ inb' (ix2 0 n) (ix2 0 ⟨off + n.val, by omega⟩) fun a => ?_
    match a with
    | 0 => rfl
    | 1 => rfl

theorem out4_at (r : Fin 128) (n : Fin 1536) : out0_4 x g w b (ix2 r n) = colOf x g w b r ⟨0 + n.val, by omega⟩ := by
  unfold out0_4
  rw [View.canon_unit_zero z2, View.ld_unit_zero (S := S128x1024) z2, View.ld_unit_zero (S := S1x1024) z2]
  exact (dot_wide _ _ _ _ r n).trans (part_col x g w b 0 (by decide) _ _ r n)

theorem out5_at (r : Fin 128) (n : Fin 1024) : out0_5 x g w b (ix2 r n) = colOf x g w b r ⟨1536 + n.val, by omega⟩ := by
  unfold out0_5
  rw [View.canon_unit_zero z2, View.ld_unit_zero (S := S128x1024) z2, View.ld_unit_zero (S := S1x1024) z2]
  exact (dot_full _ _ _ _ r n).trans (part_col x g w b 1536 (by decide) _ _ r n)

theorem out6_at (r : Fin 128) (n : Fin 512) : out0_6 x g w b (ix2 r n) = colOf x g w b r ⟨2560 + n.val, by omega⟩ := by
  unfold out0_6 k0_pay9
  rw [View.canon_unit_zero z2, View.ld_unit_zero (S := S128x1024) z2, View.ld_unit_zero (S := S1x1024) z2]
  exact (dot_half _ _ _ r n).trans (part_col x g w b 2560 (by decide) _ _ r n)

theorem out7_at (r : Fin 128) (n : Fin 512) : out0_7 x g w b (ix2 r n) = colOf x g w b r ⟨3072 + n.val, by omega⟩ := by
  unfold out0_7 k0_pay9
  rw [View.canon_unit_zero z2, View.ld_unit_zero (S := S128x1024) z2, View.ld_unit_zero (S := S1x1024) z2]
  exact (dot_half _ _ _ r n).trans (part_col x g w b 3072 (by decide) _ _ r n)

theorem out8_at (r : Fin 128) (n : Fin 512) : out0_8 x g w b (ix2 r n) = colOf x g w b r ⟨3584 + n.val, by omega⟩ := by
  unfold out0_8 k0_pay9
  rw [View.canon_unit_zero z2, View.ld_unit_zero (S := S128x1024) z2, View.ld_unit_zero (S := S1x1024) z2]
  exact (dot_half _ _ _ r n).trans (part_col x g w b 3584 (by decide) _ _ r n)

theorem out9_at (r : Fin 128) (n : Fin 512) : out0_9 x g w b (ix2 r n) = colOf x g w b r ⟨4096 + n.val, by omega⟩ := by
  unfold out0_9 k0_pay9
  rw [View.canon_unit_zero z2, View.ld_unit_zero (S := S128x1024) z2, View.ld_unit_zero (S := S1x1024) z2]
  exact (dot_half _ _ _ r n).trans (part_col x g w b 4096 (by decide) _ _ r n)

theorem out10_at (r : Fin 128) (n : Fin 128) : out0_10 x g w b (ix2 r n) = colOf x g w b r ⟨4608 + n.val, by omega⟩ := by
  unfold out0_10 k0_pay9
  rw [View.canon_unit_zero z2, View.ld_unit_zero (S := S128x1024) z2, View.ld_unit_zero (S := S1x1024) z2]
  exact (dot_thin _ _ _ r n).trans (part_col x g w b 4608 (by decide) _ _ r n)

end Outs

variable (m : (ℓ : Loc nD τ sig) → Buf (Elt Ideal) ℓ) (ρ : Dev nD → PrngReg)

/-! ## What the host prepares -/

/-- The arguments, as arrays of extended reals. -/
def aX (c : Dev nD) : S32x4x1024.Idx → EReal := m ((c : Thread nD τ).loc main_arg0)
def aG (c : Dev nD) : S1024.Idx → EReal := m ((c : Thread nD τ).loc main_arg1)
def aW (c : Dev nD) : S1024x4624.Idx → EReal := m ((c : Thread nD τ).loc main_arg2)
def aB (c : Dev nD) : S4624.Idx → EReal := m ((c : Thread nD τ).loc main_arg3)

theorem V_x (c : Dev nD) : V m c main_v13 = shapeCast S128x1024 (aX m c) shapeCasts_S32x4x1024_S128x1024 := by
  unfold_abbrev_sides
  after_results
  rfl

theorem V_w (c : Dev nD) : V m c main_v12 = wCat (aW m c) := by
  unfold_abbrev_sides
  after_results
  rfl

theorem V_g (c : Dev nD) : V m c main_v14 = shapeCast S1x1024 (aG m c) shapeCasts_S1024_S1x1024 := by
  unfold_abbrev_sides
  after_results
  rfl

theorem V_b (c : Dev nD) : V m c main_v15 = shapeCast S1x4736 (bCat (aB m c)) shapeCasts_S4736_S1x4736 := by
  unfold_abbrev_sides
  after_results
  rfl

/-! ## The windows' places: the grid has one point, and every window is a whole array -/

theorem place_row (i : grid0.Coords) : cc0_transform_0 i = ![0, 0] := by
  revert i; decide +kernel

theorem place_none (i : grid0.Coords) : cc0_transform_1 i = ![0, 0] := by
  revert i; decide +kernel

section Place

variable (t : Fin cfg0.N)

theorem emb_0 (r : Fin 128) (d : Fin 1024) : ((cfg0.win 0).blk t).view.emb (ix2 r d) = (ix2 r d : S128x1024.Idx) := by
  have e : win0_0.index t = ![0, 0] := place_row (grid0.coords t)
  have h : ∀ e : Fin 2, win0_0.index t e * win0_0.size e + ((ix2 r d : S128x1024.Idx) e).val = ((ix2 r d : S128x1024.Idx) e).val := by
    intro e'; rw [e]
    match e' with
    | 0 => show 0 * 128 + r.val = r.val; omega
    | 1 => show 0 * 1024 + d.val = d.val; omega
  funext e'
  refine Fin.ext ?_
  blk_simp
  exact h e'

theorem emb_1 (k : Fin 1) (n : Fin 1024) : ((cfg0.win 1).blk t).view.emb (ix2 k n) = (ix2 k n : S1x1024.Idx) := by
  have e : win0_1.index t = ![0, 0] := place_none (grid0.coords t)
  have h : ∀ e : Fin 2, win0_1.index t e * win0_1.size e + ((ix2 k n : S1x1024.Idx) e).val = ((ix2 k n : S1x1024.Idx) e).val := by
    intro e'; rw [e]
    match e' with
    | 0 => show 0 * 1 + k.val = k.val; omega
    | 1 => show 0 * 1024 + n.val = n.val; omega
  funext e'
  refine Fin.ext ?_
  blk_simp
  exact h e'

theorem emb_2 (k : Fin 1024) (n : Fin 4736) : ((cfg0.win 2).blk t).view.emb (ix2 k n) = (ix2 k n : S1024x4736.Idx) := by
  have e : win0_2.index t = ![0, 0] := place_none (grid0.coords t)
  have h : ∀ e : Fin 2, win0_2.index t e * win0_2.size e + ((ix2 k n : S1024x4736.Idx) e).val = ((ix2 k n : S1024x4736.Idx) e).val := by
    intro e'; rw [e]
    match e' with
    | 0 => show 0 * 1024 + k.val = k.val; omega
    | 1 => show 0 * 4736 + n.val = n.val; omega
  funext e'
  refine Fin.ext ?_
  blk_simp
  exact h e'

theorem emb_3 (k : Fin 1) (n : Fin 4736) : ((cfg0.win 3).blk t).view.emb (ix2 k n) = (ix2 k n : S1x4736.Idx) := by
  have e : win0_3.index t = ![0, 0] := place_none (grid0.coords t)
  have h : ∀ e : Fin 2, win0_3.index t e * win0_3.size e + ((ix2 k n : S1x4736.Idx) e).val = ((ix2 k n : S1x4736.Idx) e).val := by
    intro e'; rw [e]
    match e' with
    | 0 => show 0 * 1 + k.val = k.val; omega
    | 1 => show 0 * 4736 + n.val = n.val; omega
  funext e'
  refine Fin.ext ?_
  blk_simp
  exact h e'

theorem emb_4 (r : Fin 128) (d : Fin 1536) : ((cfg0.win 4).blk t).view.emb (ix2 r d) = (ix2 r d : S128x1536.Idx) := by
  have e : win0_4.index t = ![0, 0] := place_row (grid0.coords t)
  have h : ∀ e : Fin 2, win0_4.index t e * win0_4.size e + ((ix2 r d : S128x1536.Idx) e).val = ((ix2 r d : S128x1536.Idx) e).val := by
    intro e'; rw [e]
    match e' with
    | 0 => show 0 * 128 + r.val = r.val; omega
    | 1 => show 0 * 1536 + d.val = d.val; omega
  funext e'
  refine Fin.ext ?_
  blk_simp
  exact h e'

theorem emb_6 (r : Fin 128) (d : Fin 512) : ((cfg0.win 6).blk t).view.emb (ix2 r d) = (ix2 r d : S128x512.Idx) := by
  have e : win0_6.index t = ![0, 0] := place_row (grid0.coords t)
  have h : ∀ e : Fin 2, win0_6.index t e * win0_6.size e + ((ix2 r d : S128x512.Idx) e).val = ((ix2 r d : S128x512.Idx) e).val := by
    intro e'; rw [e]
    match e' with
    | 0 => show 0 * 128 + r.val = r.val; omega
    | 1 => show 0 * 512 + d.val = d.val; omega
  funext e'
  refine Fin.ext ?_
  blk_simp
  exact h e'

theorem emb_10 (r : Fin 128) (d : Fin 128) : ((cfg0.win 10).blk t).view.emb (ix2 r d) = (ix2 r d : S128x128.Idx) := by
  have e : win0_10.index t = ![0, 0] := place_row (grid0.coords t)
  have h : ∀ e : Fin 2, win0_10.index t e * win0_10.size e + ((ix2 r d : S128x128.Idx) e).val = ((ix2 r d : S128x128.Idx) e).val := by
    intro e'; rw [e]
    match e' with
    | 0 => show 0 * 128 + r.val = r.val; omega
    | 1 => show 0 * 128 + d.val = d.val; omega
  funext e'
  refine Fin.ext ?_
  blk_simp
  exact h e'

end Place

/-! ## The staged blocks, at one element -/

theorem x_block (c : Dev nD) (t : Fin cfg0.N) (r : Fin 128) (d : Fin 1024) : iblk m c 0 t (ix2 r d) = aX m c (atFlat r d) :=
  (congrArg (V m c main_v13) (emb_0 t r d)).trans ((congrFun (V_x m c) _).trans (cast_flat _ _ _ _))

theorem g_block (c : Dev nD) (t : Fin cfg0.N) (d : Fin 1024) : iblk m c 1 t (ix2 0 d) = aG m c (ix1 d) :=
  (congrArg (V m c main_v14) (emb_1 t 0 d)).trans ((congrFun (V_g m c) _).trans (cast_line _ _ d))

theorem w_block (c : Dev nD) (t : Fin cfg0.N) (k : Fin 1024) (n : Fin 4736) : iblk m c 2 t (ix2 k n) = padOf (fun n => aW m c (ix2 k n)) n :=
  (congrArg (V m c main_v12) (emb_2 t k n)).trans ((congrFun (V_w m c) _).trans (wCat_apply _ k n))

theorem b_block (c : Dev nD) (t : Fin cfg0.N) (n : Fin 4736) : iblk m c 3 t (ix2 0 n) = padOf (fun n => aB m c (ix1 n)) n :=
  (congrArg (V m c main_v15) (emb_3 t 0 n)).trans ((congrFun (V_b m c) _).trans ((cast_line _ _ n).trans (bCat_apply _ n)))

/-! ## The whole arrays -/

section Spec

variable (x : S32x4x1024.Idx → EReal) (g : S1024.Idx → EReal) (w : S1024x4624.Idx → EReal) (b : S4624.Idx → EReal)

/-- Column `n` of the projection of row `R`, with its bias. -/
def evenAt (R : Fin 128) (n : Fin 4624) : EReal :=
  (∑ k : Fin 1024, normed (fun d => x (atFlat R d)) (fun d => g (ix1 d)) k * w (ix2 k n)) + b (ix1 n)

/-- The same over the reordered and padded columns. -/
def padAt (R : Fin 128) (n : Fin 4736) : EReal :=
  (∑ k : Fin 1024, normed (fun d => x (atFlat R d)) (fun d => g (ix1 d)) k * padOf (fun n => w (ix2 k n)) n) + padOf (fun n => b (ix1 n)) n

theorem padAt_of (R : Fin 128) (n : Fin 4736) (n' : Fin 4624) (h : ∀ f, padOf f n = f n') : padAt x g w b R n = evenAt x g w b R n' := by
  unfold padAt evenAt
  simp only [h]

theorem padAt_zero (R : Fin 128) (n : Fin 4736) (h : 4624 ≤ n.val) : padAt x g w b R n = 0 := by
  unfold padAt
  simp only [padOf_zero _ n h, mul_zero, Finset.sum_const_zero, add_zero]

/-- The columns from `off` on, as an array. -/
def flatOf (off W : ℕ) (h : off + W ≤ 4624) : (⟨2, ![128, W]⟩ : Shape).Idx → EReal :=
  fun i => evenAt x g w b (i 0) ⟨off + (i 1).val, by have h1 : (i 1).val < W := (i 1).isLt; omega⟩

/-- The gates: two groups of eight columns, then zeros. -/
def gateAt (R : Fin 128) (n : Fin 128) : EReal :=
  if h : n.val < 8 then evenAt x g w b R ⟨2560 + n.val, by omega⟩ else if h : n.val < 16 then evenAt x g w b R ⟨4608 + n.val, by omega⟩ else 0

def gatesOf : S128x128.Idx → EReal := fun i => gateAt x g w b (i 0) (i 1)

theorem gate_pad (R : Fin 128) (n : Fin 128) : padAt x g w b R ⟨4608 + n.val, by omega⟩ = gateAt x g w b R n := by
  unfold gateAt
  split
  · next h => exact padAt_of x g w b R _ _ fun f => padOf_in f _ _ (by show 4608 ≤ 4608 + n.val; omega) (by show 4608 + n.val < 4616; omega) (by show 4608 + n.val - 2048 = 2560 + n.val; omega)
  split
  · next h0 h => exact padAt_of x g w b R _ _ fun f => padOf_out f _ _ (by show 4616 ≤ 4608 + n.val; omega) (by show 4608 + n.val < 4624; omega) rfl
  · next h0 h => exact padAt_zero x g w b R _ (by show 4624 ≤ 4608 + n.val; omega)

end Spec

theorem col_block (c : Dev nD) (t : Fin cfg0.N) (r : Fin 128) (n : Fin 4736) :
    colOf (iblk m c 0 t) (iblk m c 1 t) (iblk m c 2 t) (iblk m c 3 t) r n = padAt (aX m c) (aG m c) (aW m c) (aB m c) r n := by
  unfold colOf padAt
  have hx : (fun d => iblk m c 0 t (ix2 r d)) = fun d => aX m c (atFlat r d) := funext fun d => x_block m c t r d
  have hg : (fun d => iblk m c 1 t (ix2 0 d)) = fun d => aG m c (ix1 d) := funext fun d => g_block m c t d
  refine congrArg₂ (· + ·) (Finset.sum_congr rfl fun k _ => congrArg₂ (· * ·) ?_ (w_block m c t k n)) (b_block m c t n)
  exact congrArg₂ (fun u v => normed u v k) hx hg

/-- A column of a block that lies before the gates. -/
theorem col_even (c : Dev nD) (t : Fin cfg0.N) (r : Fin 128) (n : Fin 4736) (n' : Fin 4624) (h : ∀ f, padOf f n = f n') :
    colOf (iblk m c 0 t) (iblk m c 1 t) (iblk m c 2 t) (iblk m c 3 t) r n = evenAt (aX m c) (aG m c) (aW m c) (aB m c) r n' :=
  (col_block m c t r n).trans (padAt_of _ _ _ _ _ _ _ h)

theorem point4 (c : Dev nD) (t : Fin cfg0.N) (r : Fin 128) (n : Fin 1536) :
    out0_4 (iblk m c 0 t) (iblk m c 1 t) (iblk m c 2 t) (iblk m c 3 t) (ix2 r n) = flatOf (aX m c) (aG m c) (aW m c) (aB m c) 0 1536 (by decide) (ix2 r n) := by
  refine (out4_at (iblk m c 0 t) (iblk m c 1 t) (iblk m c 2 t) (iblk m c 3 t) r n).trans ?_
  exact col_even m c t r ⟨0 + n.val, by omega⟩ ⟨0 + n.val, by omega⟩ fun f => padOf_low f _ _ (by show 0 + n.val < 2560; omega) rfl

theorem covers4 : (cfg0.win 4).Covers :=
  (cfg0.win 4).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr4 (c : Dev nD) : (dats m 0 c).arrAt 4 cfg0.N = flatOf (aX m c) (aG m c) (aW m c) (aB m c) 0 1536 (by decide) := by
  refine (dats m 0 c).arrAt_eq_of_covers 4 (flatOf (aX m c) (aG m c) (aW m c) (aB m c) 0 1536 (by decide)) covers4 fun t ht y => ?_
  obtain ⟨r, n, rfl⟩ : ∃ (r : Fin 128) (n : Fin 1536), y = ix2 r n := ⟨y 0, y 1, eq_ix2 y⟩
  refine (congrFun (Cert.Kernel10Ideal.Value.flushed4 m c t) (ix2 r n)).trans ?_
  refine Eq.trans ?_ ((point4 m c t r n).trans (congrArg (flatOf (aX m c) (aG m c) (aW m c) (aB m c) 0 1536 (by decide)) (emb_4 t r n).symm))
  rfl

theorem point5 (c : Dev nD) (t : Fin cfg0.N) (r : Fin 128) (n : Fin 1024) :
    out0_5 (iblk m c 0 t) (iblk m c 1 t) (iblk m c 2 t) (iblk m c 3 t) (ix2 r n) = flatOf (aX m c) (aG m c) (aW m c) (aB m c) 1536 1024 (by decide) (ix2 r n) := by
  refine (out5_at (iblk m c 0 t) (iblk m c 1 t) (iblk m c 2 t) (iblk m c 3 t) r n).trans ?_
  exact col_even m c t r ⟨1536 + n.val, by omega⟩ ⟨1536 + n.val, by omega⟩ fun f => padOf_low f _ _ (by show 1536 + n.val < 2560; omega) rfl

theorem covers5 : (cfg0.win 5).Covers :=
  (cfg0.win 5).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr5 (c : Dev nD) : (dats m 0 c).arrAt 5 cfg0.N = flatOf (aX m c) (aG m c) (aW m c) (aB m c) 1536 1024 (by decide) := by
  refine (dats m 0 c).arrAt_eq_of_covers 5 (flatOf (aX m c) (aG m c) (aW m c) (aB m c) 1536 1024 (by decide)) covers5 fun t ht y => ?_
  obtain ⟨r, n, rfl⟩ : ∃ (r : Fin 128) (n : Fin 1024), y = ix2 r n := ⟨y 0, y 1, eq_ix2 y⟩
  refine (congrFun (Cert.Kernel10Ideal.Value.flushed5 m c t) (ix2 r n)).trans ?_
  refine Eq.trans ?_ ((point5 m c t r n).trans (congrArg (flatOf (aX m c) (aG m c) (aW m c) (aB m c) 1536 1024 (by decide)) (emb_0 t r n).symm))
  rfl

theorem point6 (c : Dev nD) (t : Fin cfg0.N) (r : Fin 128) (n : Fin 512) :
    out0_6 (iblk m c 0 t) (iblk m c 1 t) (iblk m c 2 t) (iblk m c 3 t) (ix2 r n) = flatOf (aX m c) (aG m c) (aW m c) (aB m c) 2568 512 (by decide) (ix2 r n) := by
  refine (out6_at (iblk m c 0 t) (iblk m c 1 t) (iblk m c 2 t) (iblk m c 3 t) r n).trans ?_
  exact col_even m c t r ⟨2560 + n.val, by omega⟩ ⟨2568 + n.val, by omega⟩ fun f => padOf_mid f _ _ (by show 2560 ≤ 2560 + n.val; omega) (by show 2560 + n.val < 4608; omega) (by show 2560 + n.val + 8 = 2568 + n.val; omega)

theorem covers6 : (cfg0.win 6).Covers :=
  (cfg0.win 6).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr6 (c : Dev nD) : (dats m 0 c).arrAt 6 cfg0.N = flatOf (aX m c) (aG m c) (aW m c) (aB m c) 2568 512 (by decide) := by
  refine (dats m 0 c).arrAt_eq_of_covers 6 (flatOf (aX m c) (aG m c) (aW m c) (aB m c) 2568 512 (by decide)) covers6 fun t ht y => ?_
  obtain ⟨r, n, rfl⟩ : ∃ (r : Fin 128) (n : Fin 512), y = ix2 r n := ⟨y 0, y 1, eq_ix2 y⟩
  refine (congrFun (Cert.Kernel10Ideal.Value.flushed6 m c t) (ix2 r n)).trans ?_
  refine Eq.trans ?_ ((point6 m c t r n).trans (congrArg (flatOf (aX m c) (aG m c) (aW m c) (aB m c) 2568 512 (by decide)) (emb_6 t r n).symm))
  rfl

theorem point7 (c : Dev nD) (t : Fin cfg0.N) (r : Fin 128) (n : Fin 512) :
    out0_7 (iblk m c 0 t) (iblk m c 1 t) (iblk m c 2 t) (iblk m c 3 t) (ix2 r n) = flatOf (aX m c) (aG m c) (aW m c) (aB m c) 3080 512 (by decide) (ix2 r n) := by
  refine (out7_at (iblk m c 0 t) (iblk m c 1 t) (iblk m c 2 t) (iblk m c 3 t) r n).trans ?_
  exact col_even m c t r ⟨3072 + n.val, by omega⟩ ⟨3080 + n.val, by omega⟩ fun f => padOf_mid f _ _ (by show 2560 ≤ 3072 + n.val; omega) (by show 3072 + n.val < 4608; omega) (by show 3072 + n.val + 8 = 3080 + n.val; omega)

theorem covers7 : (cfg0.win 7).Covers :=
  (cfg0.win 7).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr7 (c : Dev nD) : (dats m 0 c).arrAt 7 cfg0.N = flatOf (aX m c) (aG m c) (aW m c) (aB m c) 3080 512 (by decide) := by
  refine (dats m 0 c).arrAt_eq_of_covers 7 (flatOf (aX m c) (aG m c) (aW m c) (aB m c) 3080 512 (by decide)) covers7 fun t ht y => ?_
  obtain ⟨r, n, rfl⟩ : ∃ (r : Fin 128) (n : Fin 512), y = ix2 r n := ⟨y 0, y 1, eq_ix2 y⟩
  refine (congrFun (Cert.Kernel10Ideal.Value.flushed7 m c t) (ix2 r n)).trans ?_
  refine Eq.trans ?_ ((point7 m c t r n).trans (congrArg (flatOf (aX m c) (aG m c) (aW m c) (aB m c) 3080 512 (by decide)) (emb_6 t r n).symm))
  rfl

theorem point8 (c : Dev nD) (t : Fin cfg0.N) (r : Fin 128) (n : Fin 512) :
    out0_8 (iblk m c 0 t) (iblk m c 1 t) (iblk m c 2 t) (iblk m c 3 t) (ix2 r n) = flatOf (aX m c) (aG m c) (aW m c) (aB m c) 3592 512 (by decide) (ix2 r n) := by
  refine (out8_at (iblk m c 0 t) (iblk m c 1 t) (iblk m c 2 t) (iblk m c 3 t) r n).trans ?_
  exact col_even m c t r ⟨3584 + n.val, by omega⟩ ⟨3592 + n.val, by omega⟩ fun f => padOf_mid f _ _ (by show 2560 ≤ 3584 + n.val; omega) (by show 3584 + n.val < 4608; omega) (by show 3584 + n.val + 8 = 3592 + n.val; omega)

theorem covers8 : (cfg0.win 8).Covers :=
  (cfg0.win 8).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr8 (c : Dev nD) : (dats m 0 c).arrAt 8 cfg0.N = flatOf (aX m c) (aG m c) (aW m c) (aB m c) 3592 512 (by decide) := by
  refine (dats m 0 c).arrAt_eq_of_covers 8 (flatOf (aX m c) (aG m c) (aW m c) (aB m c) 3592 512 (by decide)) covers8 fun t ht y => ?_
  obtain ⟨r, n, rfl⟩ : ∃ (r : Fin 128) (n : Fin 512), y = ix2 r n := ⟨y 0, y 1, eq_ix2 y⟩
  refine (congrFun (Cert.Kernel10Ideal.Value.flushed8 m c t) (ix2 r n)).trans ?_
  refine Eq.trans ?_ ((point8 m c t r n).trans (congrArg (flatOf (aX m c) (aG m c) (aW m c) (aB m c) 3592 512 (by decide)) (emb_6 t r n).symm))
  rfl

theorem point9 (c : Dev nD) (t : Fin cfg0.N) (r : Fin 128) (n : Fin 512) :
    out0_9 (iblk m c 0 t) (iblk m c 1 t) (iblk m c 2 t) (iblk m c 3 t) (ix2 r n) = flatOf (aX m c) (aG m c) (aW m c) (aB m c) 4104 512 (by decide) (ix2 r n) := by
  refine (out9_at (iblk m c 0 t) (iblk m c 1 t) (iblk m c 2 t) (iblk m c 3 t) r n).trans ?_
  exact col_even m c t r ⟨4096 + n.val, by omega⟩ ⟨4104 + n.val, by omega⟩ fun f => padOf_mid f _ _ (by show 2560 ≤ 4096 + n.val; omega) (by show 4096 + n.val < 4608; omega) (by show 4096 + n.val + 8 = 4104 + n.val; omega)

theorem covers9 : (cfg0.win 9).Covers :=
  (cfg0.win 9).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr9 (c : Dev nD) : (dats m 0 c).arrAt 9 cfg0.N = flatOf (aX m c) (aG m c) (aW m c) (aB m c) 4104 512 (by decide) := by
  refine (dats m 0 c).arrAt_eq_of_covers 9 (flatOf (aX m c) (aG m c) (aW m c) (aB m c) 4104 512 (by decide)) covers9 fun t ht y => ?_
  obtain ⟨r, n, rfl⟩ : ∃ (r : Fin 128) (n : Fin 512), y = ix2 r n := ⟨y 0, y 1, eq_ix2 y⟩
  refine (congrFun (Cert.Kernel10Ideal.Value.flushed9 m c t) (ix2 r n)).trans ?_
  refine Eq.trans ?_ ((point9 m c t r n).trans (congrArg (flatOf (aX m c) (aG m c) (aW m c) (aB m c) 4104 512 (by decide)) (emb_6 t r n).symm))
  rfl

theorem point10 (c : Dev nD) (t : Fin cfg0.N) (r : Fin 128) (n : Fin 128) :
    out0_10 (iblk m c 0 t) (iblk m c 1 t) (iblk m c 2 t) (iblk m c 3 t) (ix2 r n) = gatesOf (aX m c) (aG m c) (aW m c) (aB m c) (ix2 r n) := by
  refine (out10_at (iblk m c 0 t) (iblk m c 1 t) (iblk m c 2 t) (iblk m c 3 t) r n).trans ?_
  exact (col_block m c t r ⟨4608 + n.val, by omega⟩).trans (gate_pad _ _ _ _ r n)

theorem covers10 : (cfg0.win 10).Covers :=
  (cfg0.win 10).covers_of_indexMap_surj rfl (by decide) fun β => ⟨fun | 0 => β 0, fun a => (congrFun (place_row (fun | 0 => β 0 : grid0.Coords)) a).trans
    (by match a with | 0 => exact (Nat.lt_one_iff.mp (β 0).isLt).symm | 1 => exact (Nat.lt_one_iff.mp (β 1).isLt).symm)⟩

theorem arr10 (c : Dev nD) : (dats m 0 c).arrAt 10 cfg0.N = gatesOf (aX m c) (aG m c) (aW m c) (aB m c) := by
  refine (dats m 0 c).arrAt_eq_of_covers 10 (gatesOf (aX m c) (aG m c) (aW m c) (aB m c)) covers10 fun t ht y => ?_
  obtain ⟨r, n, rfl⟩ : ∃ (r : Fin 128) (n : Fin 128), y = ix2 r n := ⟨y 0, y 1, eq_ix2 y⟩
  refine (congrFun (Cert.Kernel10Ideal.Value.flushed10 m c t) (ix2 r n)).trans ?_
  refine Eq.trans ?_ ((point10 m c t r n).trans (congrArg (gatesOf (aX m c) (aG m c) (aW m c) (aB m c)) (emb_10 t r n).symm))
  rfl

end Cert.Kernel10Ideal.Hand

namespace Cert.Agree10

open Idealize.ShloMosaic Idealize.ShloMosaic.TcCoe
open Idealize.SL Idealize.SL.Sem
open Cert.Dense (normed rootOf zero_bits_add)
open Cert.Sample Cert.Reference10Ideal Cert.Reference10Ideal.Read Cert.Kernel10Ideal.Hand

/-! ## The reference -/

section Ref

variable (x0 : S32x4x1024.Idx → EReal) (x1 : S1024.Idx → EReal) (x2 : S1024x4624.Idx → EReal) (x3 : S4624.Idx → EReal)

theorem root_at (R : Fin 128) (n : Fin 1024) :
    val_main_v8 (F := Ideal) x0 (atFlat R n) = rootOf fun d => x0 (atFlat R d) := by
  have e : val_main_v1 (F := Ideal) x0 (ix2 (batchOf R) (stepOf R)) = ∑ d : Fin 1024, x0 (atFlat R d) * x0 (atFlat R d) := by
    rw [val_main_v1_apply, val_main_cst_apply]
    refine (zero_bits_add _).trans (Finset.sum_congr rfl fun d _ => ?_)
    have hi : idx_main_v1 (ix2 (batchOf R) (stepOf R)) d = atFlat R d := funext fun a => by match a with | 0 => rfl | 1 => rfl | 2 => rfl
    rw [hi, val_main_v0_apply]
    rfl
  have hi : idx_main_v2 (idx_main_v8 (atFlat R n)) = ix2 (batchOf R) (stepOf R) := funext fun a => by match a with | 0 => rfl | 1 => rfl
  rw [val_main_v8_apply, val_main_v7_apply, val_main_v6_apply, val_main_v4_apply, val_main_v2_apply, val_main_v5_apply, val_main_v3_apply,
    val_main_cst_0_apply, val_main_cst_1_apply, hi]
  exact congrArg (fun u => Ideal.rsqrt (Ideal.div u (Ideal.ofBits .f32 0x44800000#32) + Ideal.ofBits .f32 0x358637BD#32)) e

theorem norm_at (R : Fin 128) (n : Fin 1024) :
    val_main_v12 (F := Ideal) x0 x1 (atFlat R n) = normed (fun d => x0 (atFlat R d)) (fun d => x1 (ix1 d)) n := by
  have eg : idx_main_v10 (idx_main_v11 (atFlat R n)) = ix1 n := funext fun a => by match a with | 0 => rfl
  rw [val_main_v12_apply, val_main_v9_apply, val_main_v11_apply, val_main_v10_apply, eg, root_at]
  rfl

theorem proj_at (R : Fin 128) (n : Fin 4624) : val_main_v17 (F := Ideal) x0 x1 x2 x3 (ix2 R n) = evenAt x0 x1 x2 x3 R n := by
  have ej : idx_main_v17 (ix2 R n) = ix3 (batchOf R) (stepOf R) n := by
    funext a; refine Fin.ext ?_
    match a with
    | 0 => show (R.val * 4624 + n.val) / 18496 = R.val / 4; omega
    | 1 => show (R.val * 4624 + n.val) / 4624 % 4 = R.val % 4; omega
    | 2 => show (R.val * 4624 + n.val) % 4624 = n.val; omega
  have hl : ∀ k : Fin 1024, lidx_main_v13 (ix3 (batchOf R) (stepOf R) n) k = atFlat R k := fun k => funext fun a => by match a with | 0 => rfl | 1 => rfl | 2 => rfl
  have hr : ∀ k : Fin 1024, ridx_main_v13 (ix3 (batchOf R) (stepOf R) n) k = ix2 k n := fun k => funext fun a => by match a with | 0 => rfl | 1 => rfl
  have hb : idx_main_v14 (idx_main_v15 (ix3 (batchOf R) (stepOf R) n)) = ix1 n := funext fun a => by match a with | 0 => rfl
  rw [val_main_v17_apply, ej, val_main_v16_apply, val_main_v13_apply, val_main_v15_apply, val_main_v14_apply, hb]
  unfold evenAt
  exact congrArg (· + x3 (ix1 n)) (Finset.sum_congr rfl fun k _ => by rw [hl, hr, norm_at])

theorem v18_eq : val_main_v18 (F := Ideal) x0 x1 x2 x3 = flatOf x0 x1 x2 x3 0 1536 (by decide) := by
  funext i
  have e : idx_main_v18 i = ix2 (i 0) ⟨0 + (i 1).val, by have h1 : (i 1).val < 1536 := (i 1).isLt; omega⟩ := funext fun a => by match a with | 0 => rfl | 1 => exact Fin.ext (by show (i 1).val = 0 + (i 1).val; omega)
  rw [val_main_v18_apply, e]; exact proj_at x0 x1 x2 x3 (i 0) _

theorem v19_eq : val_main_v19 (F := Ideal) x0 x1 x2 x3 = flatOf x0 x1 x2 x3 1536 1024 (by decide) := by
  funext i
  have e : idx_main_v19 i = ix2 (i 0) ⟨1536 + (i 1).val, by have h1 : (i 1).val < 1024 := (i 1).isLt; omega⟩ := funext fun a => by match a with | 0 => rfl | 1 => rfl
  rw [val_main_v19_apply, e]; exact proj_at x0 x1 x2 x3 (i 0) _

theorem v20_eq : val_main_v20 (F := Ideal) x0 x1 x2 x3 = flatOf x0 x1 x2 x3 2560 8 (by decide) := by
  funext i
  have e : idx_main_v20 i = ix2 (i 0) ⟨2560 + (i 1).val, by have h1 : (i 1).val < 8 := (i 1).isLt; omega⟩ := funext fun a => by match a with | 0 => rfl | 1 => rfl
  rw [val_main_v20_apply, e]; exact proj_at x0 x1 x2 x3 (i 0) _

theorem v21_eq : val_main_v21 (F := Ideal) x0 x1 x2 x3 = flatOf x0 x1 x2 x3 2568 512 (by decide) := by
  funext i
  have e : idx_main_v21 i = ix2 (i 0) ⟨2568 + (i 1).val, by have h1 : (i 1).val < 512 := (i 1).isLt; omega⟩ := funext fun a => by match a with | 0 => rfl | 1 => rfl
  rw [val_main_v21_apply, e]; exact proj_at x0 x1 x2 x3 (i 0) _

theorem v22_eq : val_main_v22 (F := Ideal) x0 x1 x2 x3 = flatOf x0 x1 x2 x3 3080 512 (by decide) := by
  funext i
  have e : idx_main_v22 i = ix2 (i 0) ⟨3080 + (i 1).val, by have h1 : (i 1).val < 512 := (i 1).isLt; omega⟩ := funext fun a => by match a with | 0 => rfl | 1 => rfl
  rw [val_main_v22_apply, e]; exact proj_at x0 x1 x2 x3 (i 0) _

theorem v23_eq : val_main_v23 (F := Ideal) x0 x1 x2 x3 = flatOf x0 x1 x2 x3 3592 512 (by decide) := by
  funext i
  have e : idx_main_v23 i = ix2 (i 0) ⟨3592 + (i 1).val, by have h1 : (i 1).val < 512 := (i 1).isLt; omega⟩ := funext fun a => by match a with | 0 => rfl | 1 => rfl
  rw [val_main_v23_apply, e]; exact proj_at x0 x1 x2 x3 (i 0) _

theorem v24_eq : val_main_v24 (F := Ideal) x0 x1 x2 x3 = flatOf x0 x1 x2 x3 4104 512 (by decide) := by
  funext i
  have e : idx_main_v24 i = ix2 (i 0) ⟨4104 + (i 1).val, by have h1 : (i 1).val < 512 := (i 1).isLt; omega⟩ := funext fun a => by match a with | 0 => rfl | 1 => rfl
  rw [val_main_v24_apply, e]; exact proj_at x0 x1 x2 x3 (i 0) _

theorem v25_eq : val_main_v25 (F := Ideal) x0 x1 x2 x3 = flatOf x0 x1 x2 x3 4616 8 (by decide) := by
  funext i
  have e : idx_main_v25 i = ix2 (i 0) ⟨4616 + (i 1).val, by have h1 : (i 1).val < 8 := (i 1).isLt; omega⟩ := funext fun a => by match a with | 0 => rfl | 1 => rfl
  rw [val_main_v25_apply, e]; exact proj_at x0 x1 x2 x3 (i 0) _

theorem v27_eq : val_main_v27 (F := Ideal) x0 x1 x2 x3 = gatesOf x0 x1 x2 x3 := by
  funext i
  obtain ⟨R, n, rfl⟩ : ∃ (R : Fin 128) (n : Fin 128), i = ix2 R n := ⟨i 0, i 1, eq_ix2 i⟩
  refine Eq.trans ?_ (rfl : gateAt x0 x1 x2 x3 R n = gatesOf x0 x1 x2 x3 (ix2 R n))
  have off_axis : ∀ (W : ℕ) (q : Fin W) (e : Fin 2), e ≠ 1 → ((ix2 R q : (⟨2, ![128, W]⟩ : Shape).Idx) e).val = ((ix2 R n : S128x128.Idx) e).val := fun W q e he =>
    match e with | 0 => rfl | 1 => absurd rfl he
  unfold val_main_v27 gateAt
  split
  · next h =>
    refine (concatenate_apply_piece (t := S128x128) 1 _ _ (ix2 R n) 0 (by show 0 < 3; decide) S128x8 _ rfl rfl 0 rfl (ix2 R ⟨n.val, h⟩) (off_axis _ _) (Nat.zero_add _)).trans ?_
    exact congrFun (v20_eq x0 x1 x2 x3) _
  split
  · next h0 h =>
    refine (concatenate_apply_piece (t := S128x128) 1 _ _ (ix2 R n) 1 (by show 1 < 3; decide) S128x8 _ rfl rfl 8 rfl (ix2 R ⟨n.val - 8, by omega⟩) (off_axis _ _) (by show 8 + (n.val - 8) = n.val; omega)).trans ?_
    refine (congrFun (v25_eq x0 x1 x2 x3) _).trans (congrArg (evenAt x0 x1 x2 x3 R) (Fin.ext ?_))
    show 4616 + (n.val - 8) = 4608 + n.val
    omega
  · next h0 h =>
    refine (concatenate_apply_piece (t := S128x128) 1 _ _ (ix2 R n) 2 (by show 2 < 3; decide) S128x112 _ rfl rfl 16 rfl (ix2 R ⟨n.val - 16, by omega⟩) (off_axis _ _) (by show 16 + (n.val - 16) = n.val; omega)).trans ?_
    exact Ideal.ofBits_zero_f32

end Ref

theorem algebraic : Cert.algebraic_Kernel10Ideal_Reference10Ideal := by
  intro m g m' g' _ hm
  refine ⟨fun c => flatOf (aX m c) (aG m c) (aW m c) (aB m c) 0 1536 (by decide),
    fun c => flatOf (aX m c) (aG m c) (aW m c) (aB m c) 1536 1024 (by decide),
    fun c => flatOf (aX m c) (aG m c) (aW m c) (aB m c) 2568 512 (by decide),
    fun c => flatOf (aX m c) (aG m c) (aW m c) (aB m c) 3080 512 (by decide),
    fun c => flatOf (aX m c) (aG m c) (aW m c) (aB m c) 3592 512 (by decide),
    fun c => flatOf (aX m c) (aG m c) (aW m c) (aB m c) 4104 512 (by decide),
    fun c => gatesOf (aX m c) (aG m c) (aW m c) (aB m c),
    (θ_run Cert.Kernel10Ideal.defs _ _).mono (fun r h c => ?_) (Cert.Kernel10Ideal.Value.run_blocks (F := Ideal) m g),
    (θ_run Cert.Reference10Ideal.defs _ _).mono (fun r h c => ?_) (Cert.Reference10Ideal.Value.run (F := Ideal) m' g')⟩
  · obtain ⟨h0, h1, h2, h3, h4, h5, h6, hk⟩ := h c
    exact ⟨h0.trans (arr4 m c), h1.trans (arr5 m c), h2.trans (arr6 m c), h3.trans (arr7 m c), h4.trans (arr8 m c), h5.trans (arr9 m c), h6.trans (arr10 m c), hk⟩
  · obtain ⟨e0, e1, e2, e3⟩ := hm c
    obtain ⟨h0, h1, h2, h3, h4, h5, h6, hk⟩ := h c
    refine ⟨h0.trans ?_, h1.trans ?_, h2.trans ?_, h3.trans ?_, h4.trans ?_, h5.trans ?_, h6.trans ?_, hk⟩
    · refine (val_main_v18_eq _ _ _ _).trans ?_; rw [e0, e1, e2, e3]; exact v18_eq (aX m c) (aG m c) (aW m c) (aB m c)
    · refine (val_main_v19_eq _ _ _ _).trans ?_; rw [e0, e1, e2, e3]; exact v19_eq (aX m c) (aG m c) (aW m c) (aB m c)
    · refine (val_main_v21_eq _ _ _ _).trans ?_; rw [e0, e1, e2, e3]; exact v21_eq (aX m c) (aG m c) (aW m c) (aB m c)
    · refine (val_main_v22_eq _ _ _ _).trans ?_; rw [e0, e1, e2, e3]; exact v22_eq (aX m c) (aG m c) (aW m c) (aB m c)
    · refine (val_main_v23_eq _ _ _ _).trans ?_; rw [e0, e1, e2, e3]; exact v23_eq (aX m c) (aG m c) (aW m c) (aB m c)
    · refine (val_main_v24_eq _ _ _ _).trans ?_; rw [e0, e1, e2, e3]; exact v24_eq (aX m c) (aG m c) (aW m c) (aB m c)
    · refine (val_main_v27_eq _ _ _ _).trans ?_; rw [e0, e1, e2, e3]; exact v27_eq (aX m c) (aG m c) (aW m c) (aB m c)

end Cert.Agree10

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Body
public import proofs.«01_k».proof.Proof.Agree
public import proofs.«01_k».proof.Proof.OutProj
public import proofs.«01_k».proof.Proof.OutProjEven
public import proofs.«01_k».proof.Proof.OutProjMid
public import proofs.«01_k».proof.Proof.LogGates
public import proofs.«01_k».proof.Proof.ProjOdd
public import proofs.«01_k».proof.Proof.ProjEven
public import proofs.«01_k».proof.Proof.OutProjSample
public import proofs.«01_k».proof.Proof.ProjOddSample
public import proofs.«01_k».proof.Proof.ProjEvenSample
public import Idealize.ShloMosaic.Adequacy
public import Idealize.ShloMosaic.Init

@[expose] public section

noncomputable section

namespace Cert.Proof

open Idealize.ShloMosaic Idealize.SL.Sem Cert.Kernel

/-- The reference's arguments after its run are those before it; it has no semaphore. -/
theorem refRun (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  fun m g _ => cast (by sl_kernel_rfl) (Cert.KernelIdeal.Hand.run_args (F := Bits) m g),
  fun m g _ => Cert.KernelIdeal.Hand.run_args (F := Ideal) m g,
  fun m g _ => Cert.KernelIdeal.Hand.run_args (F := Ideal) m g,
  fun m g _ => refRun m g,
  fun m g _ => refRun m g,
  fun m g _ => Cert.Kernel2.Gen.frame m g,
  fun m g _ => Cert.Kernel2Ideal.Gen.frame m g,
  fun m g _ => (θ_run Cert.Reference2Ideal.defs _ _).mono (fun r h => ⟨fun c => (h c).2, Idealize.ShloMosaic.sem_eq_zero_of_no_sems (by decide) r.2⟩) (Cert.Reference2Ideal.Value.run (F := Ideal) m g),
  fun m g _ => Cert.Kernel3.Gen.frame m g,
  fun m g _ => Cert.Kernel3Ideal.Gen.frame m g,
  fun m g _ => (θ_run Cert.Reference3Ideal.defs _ _).mono (fun r h => ⟨fun c => (h c).2.2.2.2.2.2, Idealize.ShloMosaic.sem_eq_zero_of_no_sems (by decide) r.2⟩) (Cert.Reference3Ideal.Value.run (F := Ideal) m g),
  fun m g _ => Cert.Kernel4.Gen.frame m g,
  fun m g _ => Cert.Kernel4Ideal.Gen.frame m g,
  fun m g _ => (θ_run Cert.Reference4Ideal.defs _ _).mono (fun r h => ⟨fun c => (h c).2.2.2.2.2.2.2.2.2, Idealize.ShloMosaic.sem_eq_zero_of_no_sems (by decide) r.2⟩) (Cert.Reference4Ideal.Value.run (F := Ideal) m g),
  fun m g _ => Cert.Kernel5.Gen.frame m g,
  fun m g _ => Cert.Kernel5Ideal.Gen.frame m g,
  fun m g _ => (θ_run Cert.Reference5Ideal.defs _ _).mono (fun r h => ⟨fun c => (h c).2, Idealize.ShloMosaic.sem_eq_zero_of_no_sems (by decide) r.2⟩) (Cert.Reference5Ideal.Value.run (F := Ideal) m g),
  fun m g _ => Cert.Kernel6.Gen.frame m g,
  fun m g _ => Cert.Kernel6Ideal.Gen.frame m g,
  fun m g _ => (θ_run Cert.Reference6Ideal.defs _ _).mono (fun r h => ⟨fun c => (h c).2, Idealize.ShloMosaic.sem_eq_zero_of_no_sems (by decide) r.2⟩) (Cert.Reference6Ideal.Value.run (F := Ideal) m g),
  fun m g _ => Cert.Kernel7.Gen.frame m g,
  fun m g _ => Cert.Kernel7Ideal.Gen.frame m g,
  fun m g _ => (θ_run Cert.Reference7Ideal.defs _ _).mono (fun r h => ⟨fun c => (h c).2, Idealize.ShloMosaic.sem_eq_zero_of_no_sems (by decide) r.2⟩) (Cert.Reference7Ideal.Value.run (F := Ideal) m g),
  fun m g _ => Cert.Kernel8.Gen.frame m g,
  fun m g _ => Cert.Kernel8Ideal.Gen.frame m g,
  fun m g _ => (θ_run Cert.Reference8Ideal.defs _ _).mono (fun r h => ⟨fun c => (h c).2, Idealize.ShloMosaic.sem_eq_zero_of_no_sems (by decide) r.2⟩) (Cert.Reference8Ideal.Value.run (F := Ideal) m g),
  fun m g _ => Cert.Kernel9.Gen.frame m g,
  fun m g _ => Cert.Kernel9Ideal.Gen.frame m g,
  fun m g _ => (θ_run Cert.Reference9Ideal.defs _ _).mono (fun r h => ⟨fun c => (h c).2.2.2.2, Idealize.ShloMosaic.sem_eq_zero_of_no_sems (by decide) r.2⟩) (Cert.Reference9Ideal.Value.run (F := Ideal) m g),
  fun m g _ => Cert.Kernel10.Gen.frame m g,
  fun m g _ => Cert.Kernel10Ideal.Gen.frame m g,
  fun m g _ => (θ_run Cert.Reference10Ideal.defs _ _).mono (fun r h => ⟨fun c => (h c).2.2.2.2.2.2.2, Idealize.ShloMosaic.sem_eq_zero_of_no_sems (by decide) r.2⟩) (Cert.Reference10Ideal.Value.run (F := Ideal) m g),
  trivial, Cert.Agree.algebraic, trivial, Cert.Agree2.algebraic, trivial, Cert.Agree3.algebraic, trivial, Cert.Agree4.algebraic,
  trivial, Cert.Agree5.algebraic, trivial, Cert.Agree6.algebraic, trivial, Cert.Agree7.algebraic,
  trivial, Cert.Agree8.algebraic, trivial, Cert.Agree9.algebraic, trivial, Cert.Agree10.algebraic⟩

end Cert.Proof

end
